-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores_KernelIdeal [hPre_finite_scores_KernelIdeal : Cert.Pre_finite_scores_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores_ReferenceIdeal [hPre_finite_scores_ReferenceIdeal : Cert.Pre_finite_scores_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_scores_KernelIdeal [hKernelIdeal : Cert.KernelIdeal.Facts] [hPre_finite_scores_KernelIdeal : Cert.Pre_finite_scores_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_scores_ReferenceIdeal [hReferenceIdeal : Cert.ReferenceIdeal.Facts] [hPre_finite_scores_ReferenceIdeal : Cert.Pre_finite_scores_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  IdealRules.named_const.Statement Cert.KernelIdeal.κ "mask" .f32 0xCE6E6B28#32 ⊥

def algebraic_KernelIdeal_ReferenceIdeal_pre_finite_scores_KernelIdeal [hKernelIdeal : Cert.KernelIdeal.Facts] [hReferenceIdeal : Cert.ReferenceIdeal.Facts] [hPre_finite_scores_KernelIdeal : Cert.Pre_finite_scores_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = Layout.block ⟨4, ![2, 256, 4, 64]⟩ ⟨4, ![2, 2048, 4, 64]⟩ 1 8 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨4, ![2, 256, 4, 64]⟩ ⟨4, ![2, 2048, 4, 64]⟩ 1 8 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = m' (((0 : Dev Cert.ReferenceIdeal.nD).tc : Thread Cert.ReferenceIdeal.nD Cert.ReferenceIdeal.τ).loc Cert.ReferenceIdeal.main_arg4)) →
    ∃ (v0 : Buf (Elt Ideal) (((0 : Dev Cert.ReferenceIdeal.nD).tc : Thread Cert.ReferenceIdeal.nD Cert.ReferenceIdeal.τ).loc Cert.ReferenceIdeal.main_v33)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v33) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_scores_KernelIdeal : Cert.Pre_finite_scores_KernelIdeal.Facts) (hPre_finite_scores_ReferenceIdeal : Cert.Pre_finite_scores_ReferenceIdeal.Facts),
    quiescent_Kernel (hKernel := hKernel)
    ∧ quiescent_KernelIdeal (hKernelIdeal := hKernelIdeal)
    ∧ quiescent_KernelIdeal_pre_finite_scores_KernelIdeal (hKernelIdeal := hKernelIdeal) (hPre_finite_scores_KernelIdeal := hPre_finite_scores_KernelIdeal)
    ∧ quiescent_ReferenceIdeal (hReferenceIdeal := hReferenceIdeal)
    ∧ quiescent_ReferenceIdeal_pre_finite_scores_ReferenceIdeal (hReferenceIdeal := hReferenceIdeal) (hPre_finite_scores_ReferenceIdeal := hPre_finite_scores_ReferenceIdeal)
    ∧ preserves_Kernel_KernelIdeal
    ∧ algebraic_KernelIdeal_ReferenceIdeal_pre_finite_scores_KernelIdeal (hKernelIdeal := hKernelIdeal) (hReferenceIdeal := hReferenceIdeal) (hPre_finite_scores_KernelIdeal := hPre_finite_scores_KernelIdeal)
-- ==== Pre_finite_scores_KernelIdeal.lean ====
abbrev S2x256x512 : Shape := ⟨3, ![2, 256, 512]⟩
abbrev S512x256 : Shape := ⟨2, ![512, 256]⟩
abbrev S2x256x4x64 : Shape := ⟨4, ![2, 256, 4, 64]⟩
abbrev S256x512 : Shape := ⟨2, ![256, 512]⟩
abbrev S_ : Shape := ⟨0, ![]⟩

class Facts : Prop where
  bcast_S_S2x256x512 : S_.BroadcastsInDim S2x256x512 (![] : Fin 0 → Fin S2x256x512.rank)
  reducesTo_S2x256x512_S_d0_1_2 : S2x256x512.ReducesTo [0, 1, 2] S_
  h_S_ : 0 < S_.numel
  bcast_S_S512x256 : S_.BroadcastsInDim S512x256 (![] : Fin 0 → Fin S512x256.rank)
  reducesTo_S512x256_S_d0_1 : S512x256.ReducesTo [0, 1] S_
  bcast_S_S2x256x4x64 : S_.BroadcastsInDim S2x256x4x64 (![] : Fin 0 → Fin S2x256x4x64.rank)
  reducesTo_S2x256x4x64_S_d0_1_2_3 : S2x256x4x64.ReducesTo [0, 1, 2, 3] S_

variable [Facts]

def fn {F : FTy → Type} [FloatOps F] (main_arg0 : FVec F S2x256x512 .f32) (main_arg1 : FVec F S512x256 .f32) (main_arg2 : FVec F S2x256x4x64 .f32) (main_arg3 : FVec F S2x256x4x64 .f32) (main_arg4 : FVec F S256x512 .f32) : IVec S_ 1 :=
  let main_v0 : FVec F S2x256x512 .f32 := Host.absf main_arg0
  let main_cst : FVec F S_ .f32 := constant S_ .f32 0x7F800000#32
  let main_v1 : FVec F S2x256x512 .f32 := broadcastInDim S2x256x512 ![] bcast_S_S2x256x512 main_cst
  let main_v2 : IVec S2x256x512 1 := cmpf .olt main_v0 main_v1
  let main_c : IVec S_ 1 := constantI S_ 1 1#1
  let main_v3 : IVec S_ 1 := (fun x v => Host.reduce IntOp.andi x v reducesTo_S2x256x512_S_d0_1_2 h_S_) main_v2 main_c
  let main_v4 : FVec F S512x256 .f32 := Host.absf main_arg1
  let main_cst_0 : FVec F S_ .f32 := constant S_ .f32 0x7F800000#32
  let main_v5 : FVec F S512x256 .f32 := broadcastInDim S512x256 ![] bcast_S_S512x256 main_cst_0
  let main_v6 : IVec S512x256 1 := cmpf .olt main_v4 main_v5
  let main_c_1 : IVec S_ 1 := constantI S_ 1 1#1
  let main_v7 : IVec S_ 1 := (fun x v => Host.reduce IntOp.andi x v reducesTo_S512x256_S_d0_1 h_S_) main_v6 main_c_1
  let main_v8 : IVec S_ 1 := andi main_v3 main_v7
  let main_v9 : FVec F S2x256x4x64 .f32 := Host.absf main_arg2
  let main_cst_2 : FVec F S_ .f32 := constant S_ .f32 0x7F800000#32
  let main_v10 : FVec F S2x256x4x64 .f32 := broadcastInDim S2x256x4x64 ![] bcast_S_S2x256x4x64 main_cst_2
  let main_v11 : IVec S2x256x4x64 1 := cmpf .olt main_v9 main_v10
  let main_c_3 : IVec S_ 1 := constantI S_ 1 1#1
  let main_v12 : IVec S_ 1 := (fun x v => Host.reduce IntOp.andi x v reducesTo_S2x256x4x64_S_d0_1_2_3 h_S_) main_v11 main_c_3
  let main_v13 : IVec S_ 1 := andi main_v8 main_v12
  main_v13
-- ==== Pre_finite_scores_ReferenceIdeal.lean ====
abbrev S2x256x512 : Shape := ⟨3, ![2, 256, 512]⟩
abbrev S512x256 : Shape := ⟨2, ![512, 256]⟩
abbrev S2x2048x4x64 : Shape := ⟨4, ![2, 2048, 4, 64]⟩
abbrev S256x512 : Shape := ⟨2, ![256, 512]⟩
abbrev S_ : Shape := ⟨0, ![]⟩

class Facts : Prop where
  bcast_S_S2x256x512 : S_.BroadcastsInDim S2x256x512 (![] : Fin 0 → Fin S2x256x512.rank)
  reducesTo_S2x256x512_S_d0_1_2 : S2x256x512.ReducesTo [0, 1, 2] S_
  h_S_ : 0 < S_.numel
  bcast_S_S512x256 : S_.BroadcastsInDim S512x256 (![] : Fin 0 → Fin S512x256.rank)
  reducesTo_S512x256_S_d0_1 : S512x256.ReducesTo [0, 1] S_
  bcast_S_S2x2048x4x64 : S_.BroadcastsInDim S2x2048x4x64 (![] : Fin 0 → Fin S2x2048x4x64.rank)
  reducesTo_S2x2048x4x64_S_d0_1_2_3 : S2x2048x4x64.ReducesTo [0, 1, 2, 3] S_

variable [Facts]

def fn {F : FTy → Type} [FloatOps F] (main_arg0 : FVec F S2x256x512 .f32) (main_arg1 : FVec F S512x256 .f32) (main_arg2 : FVec F S2x2048x4x64 .f32) (main_arg3 : FVec F S2x2048x4x64 .f32) (main_arg4 : FVec F S256x512 .f32) : IVec S_ 1 :=
  let main_v0 : FVec F S2x256x512 .f32 := Host.absf main_arg0
  let main_cst : FVec F S_ .f32 := constant S_ .f32 0x7F800000#32
  let main_v1 : FVec F S2x256x512 .f32 := broadcastInDim S2x256x512 ![] bcast_S_S2x256x512 main_cst
  let main_v2 : IVec S2x256x512 1 := cmpf .olt main_v0 main_v1
  let main_c : IVec S_ 1 := constantI S_ 1 1#1
  let main_v3 : IVec S_ 1 := (fun x v => Host.reduce IntOp.andi x v reducesTo_S2x256x512_S_d0_1_2 h_S_) main_v2 main_c
  let main_v4 : FVec F S512x256 .f32 := Host.absf main_arg1
  let main_cst_0 : FVec F S_ .f32 := constant S_ .f32 0x7F800000#32
  let main_v5 : FVec F S512x256 .f32 := broadcastInDim S512x256 ![] bcast_S_S512x256 main_cst_0
  let main_v6 : IVec S512x256 1 := cmpf .olt main_v4 main_v5
  let main_c_1 : IVec S_ 1 := constantI S_ 1 1#1
  let main_v7 : IVec S_ 1 := (fun x v => Host.reduce IntOp.andi x v reducesTo_S512x256_S_d0_1 h_S_) main_v6 main_c_1
  let main_v8 : IVec S_ 1 := andi main_v3 main_v7
  let main_v9 : FVec F S2x2048x4x64 .f32 := Host.absf main_arg2
  let main_cst_2 : FVec F S_ .f32 := constant S_ .f32 0x7F800000#32
  let main_v10 : FVec F S2x2048x4x64 .f32 := broadcastInDim S2x2048x4x64 ![] bcast_S_S2x2048x4x64 main_cst_2
  let main_v11 : IVec S2x2048x4x64 1 := cmpf .olt main_v9 main_v10
  let main_c_3 : IVec S_ 1 := constantI S_ 1 1#1
  let main_v12 : IVec S_ 1 := (fun x v => Host.reduce IntOp.andi x v reducesTo_S2x2048x4x64_S_d0_1_2_3 h_S_) main_v11 main_c_3
  let main_v13 : IVec S_ 1 := andi main_v8 main_v12
  main_v13
-- ==== Kernel.lean ====
abbrev S2x256x512 : Shape := ⟨3, ![2, 256, 512]⟩
abbrev S512x256 : Shape := ⟨2, ![512, 256]⟩
abbrev S2x256x4x64 : Shape := ⟨4, ![2, 256, 4, 64]⟩
abbrev S256x512 : Shape := ⟨2, ![256, 512]⟩
abbrev S2x256x256 : Shape := ⟨3, ![2, 256, 256]⟩
abbrev S2x4x256x64 : Shape := ⟨4, ![2, 4, 256, 64]⟩
abbrev S4x8 : Shape := ⟨2, ![4, 8]⟩
abbrev S8 : Shape := ⟨1, ![8]⟩
abbrev S_ : Shape := ⟨0, ![]⟩
abbrev S1x256x512 : Shape := ⟨3, ![1, 256, 512]⟩
abbrev S256x256 : Shape := ⟨2, ![256, 256]⟩
abbrev S1x256x256 : Shape := ⟨3, ![1, 256, 256]⟩
abbrev S1x256x64 : Shape := ⟨3, ![1, 256, 64]⟩
abbrev S256x64 : Shape := ⟨2, ![256, 64]⟩
abbrev S256 : Shape := ⟨1, ![256]⟩
abbrev S256x1 : Shape := ⟨2, ![256, 1]⟩
abbrev S1x1x256x64 : Shape := ⟨4, ![1, 1, 256, 64]⟩
abbrev S1 : Shape := ⟨1, ![1]⟩
abbrev S1x1 : Shape := ⟨2, ![1, 1]⟩
abbrev S64x512 : Shape := ⟨2, ![64, 512]⟩

abbrev nBuf : Space → Nat
  | .hbm => 8
  | .vmem => 8
  | .smem => 0
  | _ => 0

abbrev bufTy : (tb : Table) → Fin (tcTables nBuf tb) → BufTy
  | .hbm, ⟨0, _⟩ => ⟨S2x256x512, .f32⟩
  | .hbm, ⟨1, _⟩ => ⟨S512x256, .f32⟩
  | .hbm, ⟨2, _⟩ => ⟨S2x256x4x64, .f32⟩
  | .hbm, ⟨3, _⟩ => ⟨S2x256x4x64, .f32⟩
  | .hbm, ⟨4, _⟩ => ⟨S256x512, .f32⟩
  | .hbm, ⟨5, _⟩ => ⟨S2x256x256, .f32⟩
  | .hbm, ⟨6, _⟩ => ⟨S2x256x256, .f32⟩
  | .hbm, ⟨7, _⟩ => ⟨S2x256x512, .f32⟩
  | .local _ .vmem, ⟨0, _⟩ => ⟨S2x256x512, .f32⟩
  | .local _ .vmem, ⟨1, _⟩ => ⟨S512x256, .f32⟩
  | .local _ .vmem, ⟨2, _⟩ => ⟨S2x256x256, .f32⟩
  | .local _ .vmem, ⟨3, _⟩ => ⟨S2x256x256, .f32⟩
  | .local _ .vmem, ⟨4, _⟩ => ⟨S256x512, .f32⟩
  | .local _ .vmem, ⟨5, _⟩ => ⟨S2x256x512, .f32⟩
  | .local _ .vmem, ⟨6, _⟩ => ⟨S2x4x256x64, .bf16⟩
  | .local _ .vmem, ⟨7, _⟩ => ⟨S2x256x256, .f32⟩
  | _, _ => ⟨S2x256x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 1 → Bool
  | ⟨0, _⟩ => false
  | _ => false

abbrev dmaSemScoped : Fin 46 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | _ => false

abbrev sig : RefSig :=
  (ofTc nBuf bufTy 1 46 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_scratch1 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev barrier0 : Sem sig := 0

abbrev nD : Nat := 8
abbrev τ : Topo := Topo.v7x

variable {F : FTy → Type} [FloatOps F]

abbrev grid0 : Pipeline.Grid := .none

def k0_cond1 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_0 : BitVec 32 := 0#32
  let v6 : BitVec 1 := Scalar.cmpi .eq v2 c0_i32_0
  let c4_i32_3 : BitVec 32 := 4#32
  let c4_i32_1 : BitVec 32 := 4#32
  let v7 : BitVec 1 := Scalar.cmpi .eq v2 c4_i32_1
  let c5_i32 : BitVec 32 := 5#32
  let c8_i32_2 : BitVec 32 := 8#32
  let v8 : BitVec 32 := Scalar.select v7 c5_i32 c8_i32_2
  let v9 : BitVec 32 := Scalar.select v6 c4_i32_3 v8
  let c8_i32_18 : BitVec 32 := 8#32
  let v25 : BitVec 1 := Scalar.cmpi .slt v9 c8_i32_18
  let v26 : BitVec 32 := Scalar.extui v25
  let c0_i32_19 : BitVec 32 := 0#32
  let v27 : BitVec 1 := Scalar.cmpi .ne v26 c0_i32_19
  v27

def k0_dev1 (d0 : Dev nD) : Nat :=
  let c0_i32_286 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_0 : BitVec 32 := 0#32
  let v6 : BitVec 1 := Scalar.cmpi .eq v2 c0_i32_0
  let c4_i32_3 : BitVec 32 := 4#32
  let c4_i32_1 : BitVec 32 := 4#32
  let v7 : BitVec 1 := Scalar.cmpi .eq v2 c4_i32_1
  let c5_i32 : BitVec 32 := 5#32
  let c8_i32_2 : BitVec 32 := 8#32
  let v8 : BitVec 32 := Scalar.select v7 c5_i32 c8_i32_2
  let v9 : BitVec 32 := Scalar.select v6 c4_i32_3 v8
  let c1_i32_285 : BitVec 32 := 1#32
  let v416 : BitVec 32 := Scalar.muli v9 c1_i32_285
  let v417 : BitVec 32 := Scalar.addi c0_i32_286 v416
  v417.toNat
def k0_cond2 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_4 : BitVec 32 := 0#32
  let v10 : BitVec 1 := Scalar.cmpi .eq v2 c0_i32_4
  let c1_i32_7 : BitVec 32 := 1#32
  let c4_i32_5 : BitVec 32 := 4#32
  let v11 : BitVec 1 := Scalar.cmpi .eq v2 c4_i32_5
  let c6_i32 : BitVec 32 := 6#32
  let c8_i32_6 : BitVec 32 := 8#32
  let v12 : BitVec 32 := Scalar.select v11 c6_i32 c8_i32_6
  let v13 : BitVec 32 := Scalar.select v10 c1_i32_7 v12
  let c8_i32_20 : BitVec 32 := 8#32
  let v28 : BitVec 1 := Scalar.cmpi .slt v13 c8_i32_20
  let v29 : BitVec 32 := Scalar.extui v28
  let c0_i32_21 : BitVec 32 := 0#32
  let v30 : BitVec 1 := Scalar.cmpi .ne v29 c0_i32_21
  v30

def k0_dev2 (d0 : Dev nD) : Nat :=
  let c0_i32_286 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_4 : BitVec 32 := 0#32
  let v10 : BitVec 1 := Scalar.cmpi .eq v2 c0_i32_4
  let c1_i32_7 : BitVec 32 := 1#32
  let c4_i32_5 : BitVec 32 := 4#32
  let v11 : BitVec 1 := Scalar.cmpi .eq v2 c4_i32_5
  let c6_i32 : BitVec 32 := 6#32
  let c8_i32_6 : BitVec 32 := 8#32
  let v12 : BitVec 32 := Scalar.select v11 c6_i32 c8_i32_6
  let v13 : BitVec 32 := Scalar.select v10 c1_i32_7 v12
  let c1_i32_285 : BitVec 32 := 1#32
  let v416 : BitVec 32 := Scalar.muli v13 c1_i32_285
  let v417 : BitVec 32 := Scalar.addi c0_i32_286 v416
  v417.toNat
def k0_cond3 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_8 : BitVec 32 := 0#32
  let v14 : BitVec 1 := Scalar.cmpi .eq v2 c0_i32_8
  let c2_i32 : BitVec 32 := 2#32
  let c4_i32_9 : BitVec 32 := 4#32
  let v15 : BitVec 1 := Scalar.cmpi .eq v2 c4_i32_9
  let c7_i32 : BitVec 32 := 7#32
  let c8_i32_10 : BitVec 32 := 8#32
  let v16 : BitVec 32 := Scalar.select v15 c7_i32 c8_i32_10
  let v17 : BitVec 32 := Scalar.select v14 c2_i32 v16
  let c8_i32_22 : BitVec 32 := 8#32
  let v31 : BitVec 1 := Scalar.cmpi .slt v17 c8_i32_22
  let v32 : BitVec 32 := Scalar.extui v31
  let c0_i32_23 : BitVec 32 := 0#32
  let v33 : BitVec 1 := Scalar.cmpi .ne v32 c0_i32_23
  v33

def k0_dev3 (d0 : Dev nD) : Nat :=
  let c0_i32_286 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_8 : BitVec 32 := 0#32
  let v14 : BitVec 1 := Scalar.cmpi .eq v2 c0_i32_8
  let c2_i32 : BitVec 32 := 2#32
  let c4_i32_9 : BitVec 32 := 4#32
  let v15 : BitVec 1 := Scalar.cmpi .eq v2 c4_i32_9
  let c7_i32 : BitVec 32 := 7#32
  let c8_i32_10 : BitVec 32 := 8#32
  let v16 : BitVec 32 := Scalar.select v15 c7_i32 c8_i32_10
  let v17 : BitVec 32 := Scalar.select v14 c2_i32 v16
  let c1_i32_285 : BitVec 32 := 1#32
  let v416 : BitVec 32 := Scalar.muli v17 c1_i32_285
  let v417 : BitVec 32 := Scalar.addi c0_i32_286 v416
  v417.toNat
def k0_cond4 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_11 : BitVec 32 := 0#32
  let v18 : BitVec 1 := Scalar.cmpi .eq v2 c0_i32_11
  let c3_i32 : BitVec 32 := 3#32
  let c8_i32_12 : BitVec 32 := 8#32
  let v19 : BitVec 32 := Scalar.select v18 c3_i32 c8_i32_12
  let c8_i32_24 : BitVec 32 := 8#32
  let v34 : BitVec 1 := Scalar.cmpi .slt v19 c8_i32_24
  let v35 : BitVec 32 := Scalar.extui v34
  let c0_i32_25 : BitVec 32 := 0#32
  let v36 : BitVec 1 := Scalar.cmpi .ne v35 c0_i32_25
  v36

def k0_dev4 (d0 : Dev nD) : Nat :=
  let c0_i32_286 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_11 : BitVec 32 := 0#32
  let v18 : BitVec 1 := Scalar.cmpi .eq v2 c0_i32_11
  let c3_i32 : BitVec 32 := 3#32
  let c8_i32_12 : BitVec 32 := 8#32
  let v19 : BitVec 32 := Scalar.select v18 c3_i32 c8_i32_12
  let c1_i32_285 : BitVec 32 := 1#32
  let v416 : BitVec 32 := Scalar.muli v19 c1_i32_285
  let v417 : BitVec 32 := Scalar.addi c0_i32_286 v416
  v417.toNat
def k0_cond5 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_13 : BitVec 32 := 0#32
  let v20 : BitVec 1 := Scalar.cmpi .eq v2 c0_i32_13
  let c8_i32_17 : BitVec 32 := 8#32
  let c4_i32_14 : BitVec 32 := 4#32
  let v21 : BitVec 1 := Scalar.cmpi .sle v2 c4_i32_14
  let c0_i32_15 : BitVec 32 := 0#32
  let c4_i32_16 : BitVec 32 := 4#32
  let v22 : BitVec 32 := Scalar.select v21 c0_i32_15 c4_i32_16
  let v23 : BitVec 32 := Scalar.select v20 c8_i32_17 v22
  let c8_i32_26 : BitVec 32 := 8#32
  let v37 : BitVec 1 := Scalar.cmpi .slt v23 c8_i32_26
  let v38 : BitVec 32 := Scalar.extui v37
  let c0_i32_27 : BitVec 32 := 0#32
  let v39 : BitVec 1 := Scalar.cmpi .ne v38 c0_i32_27
  v39

def k0_dev5 (d0 : Dev nD) : Nat :=
  let c0_i32_286 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_13 : BitVec 32 := 0#32
  let v20 : BitVec 1 := Scalar.cmpi .eq v2 c0_i32_13
  let c8_i32_17 : BitVec 32 := 8#32
  let c4_i32_14 : BitVec 32 := 4#32
  let v21 : BitVec 1 := Scalar.cmpi .sle v2 c4_i32_14
  let c0_i32_15 : BitVec 32 := 0#32
  let c4_i32_16 : BitVec 32 := 4#32
  let v22 : BitVec 32 := Scalar.select v21 c0_i32_15 c4_i32_16
  let v23 : BitVec 32 := Scalar.select v20 c8_i32_17 v22
  let c1_i32_285 : BitVec 32 := 1#32
  let v416 : BitVec 32 := Scalar.muli v23 c1_i32_285
  let v417 : BitVec 32 := Scalar.addi c0_i32_286 v416
  v417.toNat
def k0_cond11 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_0 : BitVec 32 := 0#32
  let v6 : BitVec 1 := Scalar.cmpi .eq v2 c0_i32_0
  let c4_i32_3 : BitVec 32 := 4#32
  let c4_i32_1 : BitVec 32 := 4#32
  let v7 : BitVec 1 := Scalar.cmpi .eq v2 c4_i32_1
  let c5_i32 : BitVec 32 := 5#32
  let c8_i32_2 : BitVec 32 := 8#32
  let v8 : BitVec 32 := Scalar.select v7 c5_i32 c8_i32_2
  let v9 : BitVec 32 := Scalar.select v6 c4_i32_3 v8
  let c8_i32_50 : BitVec 32 := 8#32
  let v108 : BitVec 1 := Scalar.cmpi .slt v9 c8_i32_50
  let v109 : BitVec 32 := Scalar.extui v108
  let c0_i32_51 : BitVec 32 := 0#32
  let v110 : BitVec 1 := Scalar.cmpi .ne v109 c0_i32_51
  v110

def k0_dev6 (d0 : Dev nD) : Nat :=
  let c0_i32_292 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_0 : BitVec 32 := 0#32
  let v6 : BitVec 1 := Scalar.cmpi .eq v2 c0_i32_0
  let c4_i32_3 : BitVec 32 := 4#32
  let c4_i32_1 : BitVec 32 := 4#32
  let v7 : BitVec 1 := Scalar.cmpi .eq v2 c4_i32_1
  let c5_i32 : BitVec 32 := 5#32
  let c8_i32_2 : BitVec 32 := 8#32
  let v8 : BitVec 32 := Scalar.select v7 c5_i32 c8_i32_2
  let v9 : BitVec 32 := Scalar.select v6 c4_i32_3 v8
  let c1_i32_291 : BitVec 32 := 1#32
  let v416 : BitVec 32 := Scalar.muli v9 c1_i32_291
  let v417 : BitVec 32 := Scalar.addi c0_i32_292 v416
  v417.toNat
def k0_cond12 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_4 : BitVec 32 := 0#32
  let v10 : BitVec 1 := Scalar.cmpi .eq v2 c0_i32_4
  let c1_i32_7 : BitVec 32 := 1#32
  let c4_i32_5 : BitVec 32 := 4#32
  let v11 : BitVec 1 := Scalar.cmpi .eq v2 c4_i32_5
  let c6_i32 : BitVec 32 := 6#32
  let c8_i32_6 : BitVec 32 := 8#32
  let v12 : BitVec 32 := Scalar.select v11 c6_i32 c8_i32_6
  let v13 : BitVec 32 := Scalar.select v10 c1_i32_7 v12
  let c8_i32_52 : BitVec 32 := 8#32
  let v111 : BitVec 1 := Scalar.cmpi .slt v13 c8_i32_52
  let v112 : BitVec 32 := Scalar.extui v111
  let c0_i32_53 : BitVec 32 := 0#32
  let v113 : BitVec 1 := Scalar.cmpi .ne v112 c0_i32_53
  v113

def k0_dev7 (d0 : Dev nD) : Nat :=
  let c0_i32_292 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_4 : BitVec 32 := 0#32
  let v10 : BitVec 1 := Scalar.cmpi .eq v2 c0_i32_4
  let c1_i32_7 : BitVec 32 := 1#32
  let c4_i32_5 : BitVec 32 := 4#32
  let v11 : BitVec 1 := Scalar.cmpi .eq v2 c4_i32_5
  let c6_i32 : BitVec 32 := 6#32
  let c8_i32_6 : BitVec 32 := 8#32
  let v12 : BitVec 32 := Scalar.select v11 c6_i32 c8_i32_6
  let v13 : BitVec 32 := Scalar.select v10 c1_i32_7 v12
  let c1_i32_291 : BitVec 32 := 1#32
  let v416 : BitVec 32 := Scalar.muli v13 c1_i32_291
  let v417 : BitVec 32 := Scalar.addi c0_i32_292 v416
  v417.toNat
def k0_cond13 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_8 : BitVec 32 := 0#32
  let v14 : BitVec 1 := Scalar.cmpi .eq v2 c0_i32_8
  let c2_i32 : BitVec 32 := 2#32
  let c4_i32_9 : BitVec 32 := 4#32
  let v15 : BitVec 1 := Scalar.cmpi .eq v2 c4_i32_9
  let c7_i32 : BitVec 32 := 7#32
  let c8_i32_10 : BitVec 32 := 8#32
  let v16 : BitVec 32 := Scalar.select v15 c7_i32 c8_i32_10
  let v17 : BitVec 32 := Scalar.select v14 c2_i32 v16
  let c8_i32_54 : BitVec 32 := 8#32
  let v114 : BitVec 1 := Scalar.cmpi .slt v17 c8_i32_54
  let v115 : BitVec 32 := Scalar.extui v114
  let c0_i32_55 : BitVec 32 := 0#32
  let v116 : BitVec 1 := Scalar.cmpi .ne v115 c0_i32_55
  v116

def k0_dev8 (d0 : Dev nD) : Nat :=
  let c0_i32_292 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_8 : BitVec 32 := 0#32
  let v14 : BitVec 1 := Scalar.cmpi .eq v2 c0_i32_8
  let c2_i32 : BitVec 32 := 2#32
  let c4_i32_9 : BitVec 32 := 4#32
  let v15 : BitVec 1 := Scalar.cmpi .eq v2 c4_i32_9
  let c7_i32 : BitVec 32 := 7#32
  let c8_i32_10 : BitVec 32 := 8#32
  let v16 : BitVec 32 := Scalar.select v15 c7_i32 c8_i32_10
  let v17 : BitVec 32 := Scalar.select v14 c2_i32 v16
  let c1_i32_291 : BitVec 32 := 1#32
  let v416 : BitVec 32 := Scalar.muli v17 c1_i32_291
  let v417 : BitVec 32 := Scalar.addi c0_i32_292 v416
  v417.toNat
def k0_cond14 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_11 : BitVec 32 := 0#32
  let v18 : BitVec 1 := Scalar.cmpi .eq v2 c0_i32_11
  let c3_i32 : BitVec 32 := 3#32
  let c8_i32_12 : BitVec 32 := 8#32
  let v19 : BitVec 32 := Scalar.select v18 c3_i32 c8_i32_12
  let c8_i32_56 : BitVec 32 := 8#32
  let v117 : BitVec 1 := Scalar.cmpi .slt v19 c8_i32_56
  let v118 : BitVec 32 := Scalar.extui v117
  let c0_i32_57 : BitVec 32 := 0#32
  let v119 : BitVec 1 := Scalar.cmpi .ne v118 c0_i32_57
  v119

def k0_dev9 (d0 : Dev nD) : Nat :=
  let c0_i32_292 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_11 : BitVec 32 := 0#32
  let v18 : BitVec 1 := Scalar.cmpi .eq v2 c0_i32_11
  let c3_i32 : BitVec 32 := 3#32
  let c8_i32_12 : BitVec 32 := 8#32
  let v19 : BitVec 32 := Scalar.select v18 c3_i32 c8_i32_12
  let c1_i32_291 : BitVec 32 := 1#32
  let v416 : BitVec 32 := Scalar.muli v19 c1_i32_291
  let v417 : BitVec 32 := Scalar.addi c0_i32_292 v416
  v417.toNat
def k0_cond17 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_0 : BitVec 32 := 0#32
  let v6 : BitVec 1 := Scalar.cmpi .eq v2 c0_i32_0
  let c4_i32_3 : BitVec 32 := 4#32
  let c4_i32_1 : BitVec 32 := 4#32
  let v7 : BitVec 1 := Scalar.cmpi .eq v2 c4_i32_1
  let c5_i32 : BitVec 32 := 5#32
  let c8_i32_2 : BitVec 32 := 8#32
  let v8 : BitVec 32 := Scalar.select v7 c5_i32 c8_i32_2
  let v9 : BitVec 32 := Scalar.select v6 c4_i32_3 v8
  let c8_i32_69 : BitVec 32 := 8#32
  let v133 : BitVec 1 := Scalar.cmpi .slt v9 c8_i32_69
  let v134 : BitVec 32 := Scalar.extui v133
  let c0_i32_70 : BitVec 32 := 0#32
  let v135 : BitVec 1 := Scalar.cmpi .ne v134 c0_i32_70
  v135

def k0_dev10 (d0 : Dev nD) : Nat :=
  let c0_i32_292 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_0 : BitVec 32 := 0#32
  let v6 : BitVec 1 := Scalar.cmpi .eq v2 c0_i32_0
  let c4_i32_3 : BitVec 32 := 4#32
  let c4_i32_1 : BitVec 32 := 4#32
  let v7 : BitVec 1 := Scalar.cmpi .eq v2 c4_i32_1
  let c5_i32 : BitVec 32 := 5#32
  let c8_i32_2 : BitVec 32 := 8#32
  let v8 : BitVec 32 := Scalar.select v7 c5_i32 c8_i32_2
  let v9 : BitVec 32 := Scalar.select v6 c4_i32_3 v8
  let c1_i32_291 : BitVec 32 := 1#32
  let v416 : BitVec 32 := Scalar.muli v9 c1_i32_291
  let v417 : BitVec 32 := Scalar.addi c0_i32_292 v416
  v417.toNat
def k0_cond18 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_4 : BitVec 32 := 0#32
  let v10 : BitVec 1 := Scalar.cmpi .eq v2 c0_i32_4
  let c1_i32_7 : BitVec 32 := 1#32
  let c4_i32_5 : BitVec 32 := 4#32
  let v11 : BitVec 1 := Scalar.cmpi .eq v2 c4_i32_5
  let c6_i32 : BitVec 32 := 6#32
  let c8_i32_6 : BitVec 32 := 8#32
  let v12 : BitVec 32 := Scalar.select v11 c6_i32 c8_i32_6
  let v13 : BitVec 32 := Scalar.select v10 c1_i32_7 v12
  let c8_i32_71 : BitVec 32 := 8#32
  let v136 : BitVec 1 := Scalar.cmpi .slt v13 c8_i32_71
  let v137 : BitVec 32 := Scalar.extui v136
  let c0_i32_72 : BitVec 32 := 0#32
  let v138 : BitVec 1 := Scalar.cmpi .ne v137 c0_i32_72
  v138

def k0_dev11 (d0 : Dev nD) : Nat :=
  let c0_i32_292 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_4 : BitVec 32 := 0#32
  let v10 : BitVec 1 := Scalar.cmpi .eq v2 c0_i32_4
  let c1_i32_7 : BitVec 32 := 1#32
  let c4_i32_5 : BitVec 32 := 4#32
  let v11 : BitVec 1 := Scalar.cmpi .eq v2 c4_i32_5
  let c6_i32 : BitVec 32 := 6#32
  let c8_i32_6 : BitVec 32 := 8#32
  let v12 : BitVec 32 := Scalar.select v11 c6_i32 c8_i32_6
  let v13 : BitVec 32 := Scalar.select v10 c1_i32_7 v12
  let c1_i32_291 : BitVec 32 := 1#32
  let v416 : BitVec 32 := Scalar.muli v13 c1_i32_291
  let v417 : BitVec 32 := Scalar.addi c0_i32_292 v416
  v417.toNat
def k0_cond19 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_8 : BitVec 32 := 0#32
  let v14 : BitVec 1 := Scalar.cmpi .eq v2 c0_i32_8
  let c2_i32 : BitVec 32 := 2#32
  let c4_i32_9 : BitVec 32 := 4#32
  let v15 : BitVec 1 := Scalar.cmpi .eq v2 c4_i32_9
  let c7_i32 : BitVec 32 := 7#32
  let c8_i32_10 : BitVec 32 := 8#32
  let v16 : BitVec 32 := Scalar.select v15 c7_i32 c8_i32_10
  let v17 : BitVec 32 := Scalar.select v14 c2_i32 v16
  let c8_i32_73 : BitVec 32 := 8#32
  let v139 : BitVec 1 := Scalar.cmpi .slt v17 c8_i32_73
  let v140 : BitVec 32 := Scalar.extui v139
  let c0_i32_74 : BitVec 32 := 0#32
  let v141 : BitVec 1 := Scalar.cmpi .ne v140 c0_i32_74
  v141

def k0_dev12 (d0 : Dev nD) : Nat :=
  let c0_i32_292 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_8 : BitVec 32 := 0#32
  let v14 : BitVec 1 := Scalar.cmpi .eq v2 c0_i32_8
  let c2_i32 : BitVec 32 := 2#32
  let c4_i32_9 : BitVec 32 := 4#32
  let v15 : BitVec 1 := Scalar.cmpi .eq v2 c4_i32_9
  let c7_i32 : BitVec 32 := 7#32
  let c8_i32_10 : BitVec 32 := 8#32
  let v16 : BitVec 32 := Scalar.select v15 c7_i32 c8_i32_10
  let v17 : BitVec 32 := Scalar.select v14 c2_i32 v16
  let c1_i32_291 : BitVec 32 := 1#32
  let v416 : BitVec 32 := Scalar.muli v17 c1_i32_291
  let v417 : BitVec 32 := Scalar.addi c0_i32_292 v416
  v417.toNat
def k0_cond20 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_11 : BitVec 32 := 0#32
  let v18 : BitVec 1 := Scalar.cmpi .eq v2 c0_i32_11
  let c3_i32 : BitVec 32 := 3#32
  let c8_i32_12 : BitVec 32 := 8#32
  let v19 : BitVec 32 := Scalar.select v18 c3_i32 c8_i32_12
  let c8_i32_75 : BitVec 32 := 8#32
  let v142 : BitVec 1 := Scalar.cmpi .slt v19 c8_i32_75
  let v143 : BitVec 32 := Scalar.extui v142
  let c0_i32_76 : BitVec 32 := 0#32
  let v144 : BitVec 1 := Scalar.cmpi .ne v143 c0_i32_76
  v144

def k0_dev13 (d0 : Dev nD) : Nat :=
  let c0_i32_292 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_11 : BitVec 32 := 0#32
  let v18 : BitVec 1 := Scalar.cmpi .eq v2 c0_i32_11
  let c3_i32 : BitVec 32 := 3#32
  let c8_i32_12 : BitVec 32 := 8#32
  let v19 : BitVec 32 := Scalar.select v18 c3_i32 c8_i32_12
  let c1_i32_291 : BitVec 32 := 1#32
  let v416 : BitVec 32 := Scalar.muli v19 c1_i32_291
  let v417 : BitVec 32 := Scalar.addi c0_i32_292 v416
  v417.toNat
def k0_cond23 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_0 : BitVec 32 := 0#32
  let v6 : BitVec 1 := Scalar.cmpi .eq v2 c0_i32_0
  let c4_i32_3 : BitVec 32 := 4#32
  let c4_i32_1 : BitVec 32 := 4#32
  let v7 : BitVec 1 := Scalar.cmpi .eq v2 c4_i32_1
  let c5_i32 : BitVec 32 := 5#32
  let c8_i32_2 : BitVec 32 := 8#32
  let v8 : BitVec 32 := Scalar.select v7 c5_i32 c8_i32_2
  let v9 : BitVec 32 := Scalar.select v6 c4_i32_3 v8
  let c8_i32_91 : BitVec 32 := 8#32
  let v161 : BitVec 1 := Scalar.cmpi .slt v9 c8_i32_91
  let v162 : BitVec 32 := Scalar.extui v161
  let c0_i32_92 : BitVec 32 := 0#32
  let v163 : BitVec 1 := Scalar.cmpi .ne v162 c0_i32_92
  v163

def k0_dev14 (d0 : Dev nD) : Nat :=
  let c0_i32_292 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_0 : BitVec 32 := 0#32
  let v6 : BitVec 1 := Scalar.cmpi .eq v2 c0_i32_0
  let c4_i32_3 : BitVec 32 := 4#32
  let c4_i32_1 : BitVec 32 := 4#32
  let v7 : BitVec 1 := Scalar.cmpi .eq v2 c4_i32_1
  let c5_i32 : BitVec 32 := 5#32
  let c8_i32_2 : BitVec 32 := 8#32
  let v8 : BitVec 32 := Scalar.select v7 c5_i32 c8_i32_2
  let v9 : BitVec 32 := Scalar.select v6 c4_i32_3 v8
  let c1_i32_291 : BitVec 32 := 1#32
  let v416 : BitVec 32 := Scalar.muli v9 c1_i32_291
  let v417 : BitVec 32 := Scalar.addi c0_i32_292 v416
  v417.toNat
def k0_cond24 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_4 : BitVec 32 := 0#32
  let v10 : BitVec 1 := Scalar.cmpi .eq v2 c0_i32_4
  let c1_i32_7 : BitVec 32 := 1#32
  let c4_i32_5 : BitVec 32 := 4#32
  let v11 : BitVec 1 := Scalar.cmpi .eq v2 c4_i32_5
  let c6_i32 : BitVec 32 := 6#32
  let c8_i32_6 : BitVec 32 := 8#32
  let v12 : BitVec 32 := Scalar.select v11 c6_i32 c8_i32_6
  let v13 : BitVec 32 := Scalar.select v10 c1_i32_7 v12
  let c8_i32_93 : BitVec 32 := 8#32
  let v164 : BitVec 1 := Scalar.cmpi .slt v13 c8_i32_93
  let v165 : BitVec 32 := Scalar.extui v164
  let c0_i32_94 : BitVec 32 := 0#32
  let v166 : BitVec 1 := Scalar.cmpi .ne v165 c0_i32_94
  v166

def k0_dev15 (d0 : Dev nD) : Nat :=
  let c0_i32_292 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_4 : BitVec 32 := 0#32
  let v10 : BitVec 1 := Scalar.cmpi .eq v2 c0_i32_4
  let c1_i32_7 : BitVec 32 := 1#32
  let c4_i32_5 : BitVec 32 := 4#32
  let v11 : BitVec 1 := Scalar.cmpi .eq v2 c4_i32_5
  let c6_i32 : BitVec 32 := 6#32
  let c8_i32_6 : BitVec 32 := 8#32
  let v12 : BitVec 32 := Scalar.select v11 c6_i32 c8_i32_6
  let v13 : BitVec 32 := Scalar.select v10 c1_i32_7 v12
  let c1_i32_291 : BitVec 32 := 1#32
  let v416 : BitVec 32 := Scalar.muli v13 c1_i32_291
  let v417 : BitVec 32 := Scalar.addi c0_i32_292 v416
  v417.toNat
def k0_cond25 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_8 : BitVec 32 := 0#32
  let v14 : BitVec 1 := Scalar.cmpi .eq v2 c0_i32_8
  let c2_i32 : BitVec 32 := 2#32
  let c4_i32_9 : BitVec 32 := 4#32
  let v15 : BitVec 1 := Scalar.cmpi .eq v2 c4_i32_9
  let c7_i32 : BitVec 32 := 7#32
  let c8_i32_10 : BitVec 32 := 8#32
  let v16 : BitVec 32 := Scalar.select v15 c7_i32 c8_i32_10
  let v17 : BitVec 32 := Scalar.select v14 c2_i32 v16
  let c8_i32_95 : BitVec 32 := 8#32
  let v167 : BitVec 1 := Scalar.cmpi .slt v17 c8_i32_95
  let v168 : BitVec 32 := Scalar.extui v167
  let c0_i32_96 : BitVec 32 := 0#32
  let v169 : BitVec 1 := Scalar.cmpi .ne v168 c0_i32_96
  v169

def k0_dev16 (d0 : Dev nD) : Nat :=
  let c0_i32_292 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_8 : BitVec 32 := 0#32
  let v14 : BitVec 1 := Scalar.cmpi .eq v2 c0_i32_8
  let c2_i32 : BitVec 32 := 2#32
  let c4_i32_9 : BitVec 32 := 4#32
  let v15 : BitVec 1 := Scalar.cmpi .eq v2 c4_i32_9
  let c7_i32 : BitVec 32 := 7#32
  let c8_i32_10 : BitVec 32 := 8#32
  let v16 : BitVec 32 := Scalar.select v15 c7_i32 c8_i32_10
  let v17 : BitVec 32 := Scalar.select v14 c2_i32 v16
  let c1_i32_291 : BitVec 32 := 1#32
  let v416 : BitVec 32 := Scalar.muli v17 c1_i32_291
  let v417 : BitVec 32 := Scalar.addi c0_i32_292 v416
  v417.toNat
def k0_cond26 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_11 : BitVec 32 := 0#32
  let v18 : BitVec 1 := Scalar.cmpi .eq v2 c0_i32_11
  let c3_i32 : BitVec 32 := 3#32
  let c8_i32_12 : BitVec 32 := 8#32
  let v19 : BitVec 32 := Scalar.select v18 c3_i32 c8_i32_12
  let c8_i32_97 : BitVec 32 := 8#32
  let v170 : BitVec 1 := Scalar.cmpi .slt v19 c8_i32_97
  let v171 : BitVec 32 := Scalar.extui v170
  let c0_i32_98 : BitVec 32 := 0#32
  let v172 : BitVec 1 := Scalar.cmpi .ne v171 c0_i32_98
  v172

def k0_dev17 (d0 : Dev nD) : Nat :=
  let c0_i32_292 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_11 : BitVec 32 := 0#32
  let v18 : BitVec 1 := Scalar.cmpi .eq v2 c0_i32_11
  let c3_i32 : BitVec 32 := 3#32
  let c8_i32_12 : BitVec 32 := 8#32
  let v19 : BitVec 32 := Scalar.select v18 c3_i32 c8_i32_12
  let c1_i32_291 : BitVec 32 := 1#32
  let v416 : BitVec 32 := Scalar.muli v19 c1_i32_291
  let v417 : BitVec 32 := Scalar.addi c0_i32_292 v416
  v417.toNat
def k0_cond29 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_0 : BitVec 32 := 0#32
  let v6 : BitVec 1 := Scalar.cmpi .eq v2 c0_i32_0
  let c4_i32_3 : BitVec 32 := 4#32
  let c4_i32_1 : BitVec 32 := 4#32
  let v7 : BitVec 1 := Scalar.cmpi .eq v2 c4_i32_1
  let c5_i32 : BitVec 32 := 5#32
  let c8_i32_2 : BitVec 32 := 8#32
  let v8 : BitVec 32 := Scalar.select v7 c5_i32 c8_i32_2
  let v9 : BitVec 32 := Scalar.select v6 c4_i32_3 v8
  let c8_i32_113 : BitVec 32 := 8#32
  let v189 : BitVec 1 := Scalar.cmpi .slt v9 c8_i32_113
  let v190 : BitVec 32 := Scalar.extui v189
  let c0_i32_114 : BitVec 32 := 0#32
  let v191 : BitVec 1 := Scalar.cmpi .ne v190 c0_i32_114
  v191

def k0_dev18 (d0 : Dev nD) : Nat :=
  let c0_i32_292 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_0 : BitVec 32 := 0#32
  let v6 : BitVec 1 := Scalar.cmpi .eq v2 c0_i32_0
  let c4_i32_3 : BitVec 32 := 4#32
  let c4_i32_1 : BitVec 32 := 4#32
  let v7 : BitVec 1 := Scalar.cmpi .eq v2 c4_i32_1
  let c5_i32 : BitVec 32 := 5#32
  let c8_i32_2 : BitVec 32 := 8#32
  let v8 : BitVec 32 := Scalar.select v7 c5_i32 c8_i32_2
  let v9 : BitVec 32 := Scalar.select v6 c4_i32_3 v8
  let c1_i32_291 : BitVec 32 := 1#32
  let v416 : BitVec 32 := Scalar.muli v9 c1_i32_291
  let v417 : BitVec 32 := Scalar.addi c0_i32_292 v416
  v417.toNat
def k0_cond30 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_4 : BitVec 32 := 0#32
  let v10 : BitVec 1 := Scalar.cmpi .eq v2 c0_i32_4
  let c1_i32_7 : BitVec 32 := 1#32
  let c4_i32_5 : BitVec 32 := 4#32
  let v11 : BitVec 1 := Scalar.cmpi .eq v2 c4_i32_5
  let c6_i32 : BitVec 32 := 6#32
  let c8_i32_6 : BitVec 32 := 8#32
  let v12 : BitVec 32 := Scalar.select v11 c6_i32 c8_i32_6
  let v13 : BitVec 32 := Scalar.select v10 c1_i32_7 v12
  let c8_i32_115 : BitVec 32 := 8#32
  let v192 : BitVec 1 := Scalar.cmpi .slt v13 c8_i32_115
  let v193 : BitVec 32 := Scalar.extui v192
  let c0_i32_116 : BitVec 32 := 0#32
  let v194 : BitVec 1 := Scalar.cmpi .ne v193 c0_i32_116
  v194

def k0_dev19 (d0 : Dev nD) : Nat :=
  let c0_i32_292 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_4 : BitVec 32 := 0#32
  let v10 : BitVec 1 := Scalar.cmpi .eq v2 c0_i32_4
  let c1_i32_7 : BitVec 32 := 1#32
  let c4_i32_5 : BitVec 32 := 4#32
  let v11 : BitVec 1 := Scalar.cmpi .eq v2 c4_i32_5
  let c6_i32 : BitVec 32 := 6#32
  let c8_i32_6 : BitVec 32 := 8#32
  let v12 : BitVec 32 := Scalar.select v11 c6_i32 c8_i32_6
  let v13 : BitVec 32 := Scalar.select v10 c1_i32_7 v12
  let c1_i32_291 : BitVec 32 := 1#32
  let v416 : BitVec 32 := Scalar.muli v13 c1_i32_291
  let v417 : BitVec 32 := Scalar.addi c0_i32_292 v416
  v417.toNat
def k0_cond31 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_8 : BitVec 32 := 0#32
  let v14 : BitVec 1 := Scalar.cmpi .eq v2 c0_i32_8
  let c2_i32 : BitVec 32 := 2#32
  let c4_i32_9 : BitVec 32 := 4#32
  let v15 : BitVec 1 := Scalar.cmpi .eq v2 c4_i32_9
  let c7_i32 : BitVec 32 := 7#32
  let c8_i32_10 : BitVec 32 := 8#32
  let v16 : BitVec 32 := Scalar.select v15 c7_i32 c8_i32_10
  let v17 : BitVec 32 := Scalar.select v14 c2_i32 v16
  let c8_i32_117 : BitVec 32 := 8#32
  let v195 : BitVec 1 := Scalar.cmpi .slt v17 c8_i32_117
  let v196 : BitVec 32 := Scalar.extui v195
  let c0_i32_118 : BitVec 32 := 0#32
  let v197 : BitVec 1 := Scalar.cmpi .ne v196 c0_i32_118
  v197

def k0_dev20 (d0 : Dev nD) : Nat :=
  let c0_i32_292 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_8 : BitVec 32 := 0#32
  let v14 : BitVec 1 := Scalar.cmpi .eq v2 c0_i32_8
  let c2_i32 : BitVec 32 := 2#32
  let c4_i32_9 : BitVec 32 := 4#32
  let v15 : BitVec 1 := Scalar.cmpi .eq v2 c4_i32_9
  let c7_i32 : BitVec 32 := 7#32
  let c8_i32_10 : BitVec 32 := 8#32
  let v16 : BitVec 32 := Scalar.select v15 c7_i32 c8_i32_10
  let v17 : BitVec 32 := Scalar.select v14 c2_i32 v16
  let c1_i32_291 : BitVec 32 := 1#32
  let v416 : BitVec 32 := Scalar.muli v17 c1_i32_291
  let v417 : BitVec 32 := Scalar.addi c0_i32_292 v416
  v417.toNat
def k0_cond32 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_11 : BitVec 32 := 0#32
  let v18 : BitVec 1 := Scalar.cmpi .eq v2 c0_i32_11
  let c3_i32 : BitVec 32 := 3#32
  let c8_i32_12 : BitVec 32 := 8#32
  let v19 : BitVec 32 := Scalar.select v18 c3_i32 c8_i32_12
  let c8_i32_119 : BitVec 32 := 8#32
  let v198 : BitVec 1 := Scalar.cmpi .slt v19 c8_i32_119
  let v199 : BitVec 32 := Scalar.extui v198
  let c0_i32_120 : BitVec 32 := 0#32
  let v200 : BitVec 1 := Scalar.cmpi .ne v199 c0_i32_120
  v200

def k0_dev21 (d0 : Dev nD) : Nat :=
  let c0_i32_292 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_11 : BitVec 32 := 0#32
  let v18 : BitVec 1 := Scalar.cmpi .eq v2 c0_i32_11
  let c3_i32 : BitVec 32 := 3#32
  let c8_i32_12 : BitVec 32 := 8#32
  let v19 : BitVec 32 := Scalar.select v18 c3_i32 c8_i32_12
  let c1_i32_291 : BitVec 32 := 1#32
  let v416 : BitVec 32 := Scalar.muli v19 c1_i32_291
  let v417 : BitVec 32 := Scalar.addi c0_i32_292 v416
  v417.toNat
def k0_cond35 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_0 : BitVec 32 := 0#32
  let v6 : BitVec 1 := Scalar.cmpi .eq v2 c0_i32_0
  let c4_i32_3 : BitVec 32 := 4#32
  let c4_i32_1 : BitVec 32 := 4#32
  let v7 : BitVec 1 := Scalar.cmpi .eq v2 c4_i32_1
  let c5_i32 : BitVec 32 := 5#32
  let c8_i32_2 : BitVec 32 := 8#32
  let v8 : BitVec 32 := Scalar.select v7 c5_i32 c8_i32_2
  let v9 : BitVec 32 := Scalar.select v6 c4_i32_3 v8
  let c8_i32_135 : BitVec 32 := 8#32
  let v217 : BitVec 1 := Scalar.cmpi .slt v9 c8_i32_135
  let v218 : BitVec 32 := Scalar.extui v217
  let c0_i32_136 : BitVec 32 := 0#32
  let v219 : BitVec 1 := Scalar.cmpi .ne v218 c0_i32_136
  v219

def k0_dev22 (d0 : Dev nD) : Nat :=
  let c0_i32_292 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_0 : BitVec 32 := 0#32
  let v6 : BitVec 1 := Scalar.cmpi .eq v2 c0_i32_0
  let c4_i32_3 : BitVec 32 := 4#32
  let c4_i32_1 : BitVec 32 := 4#32
  let v7 : BitVec 1 := Scalar.cmpi .eq v2 c4_i32_1
  let c5_i32 : BitVec 32 := 5#32
  let c8_i32_2 : BitVec 32 := 8#32
  let v8 : BitVec 32 := Scalar.select v7 c5_i32 c8_i32_2
  let v9 : BitVec 32 := Scalar.select v6 c4_i32_3 v8
  let c1_i32_291 : BitVec 32 := 1#32
  let v416 : BitVec 32 := Scalar.muli v9 c1_i32_291
  let v417 : BitVec 32 := Scalar.addi c0_i32_292 v416
  v417.toNat
def k0_cond36 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_4 : BitVec 32 := 0#32
  let v10 : BitVec 1 := Scalar.cmpi .eq v2 c0_i32_4
  let c1_i32_7 : BitVec 32 := 1#32
  let c4_i32_5 : BitVec 32 := 4#32
  let v11 : BitVec 1 := Scalar.cmpi .eq v2 c4_i32_5
  let c6_i32 : BitVec 32 := 6#32
  let c8_i32_6 : BitVec 32 := 8#32
  let v12 : BitVec 32 := Scalar.select v11 c6_i32 c8_i32_6
  let v13 : BitVec 32 := Scalar.select v10 c1_i32_7 v12
  let c8_i32_137 : BitVec 32 := 8#32
  let v220 : BitVec 1 := Scalar.cmpi .slt v13 c8_i32_137
  let v221 : BitVec 32 := Scalar.extui v220
  let c0_i32_138 : BitVec 32 := 0#32
  let v222 : BitVec 1 := Scalar.cmpi .ne v221 c0_i32_138
  v222

def k0_dev23 (d0 : Dev nD) : Nat :=
  let c0_i32_292 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_4 : BitVec 32 := 0#32
  let v10 : BitVec 1 := Scalar.cmpi .eq v2 c0_i32_4
  let c1_i32_7 : BitVec 32 := 1#32
  let c4_i32_5 : BitVec 32 := 4#32
  let v11 : BitVec 1 := Scalar.cmpi .eq v2 c4_i32_5
  let c6_i32 : BitVec 32 := 6#32
  let c8_i32_6 : BitVec 32 := 8#32
  let v12 : BitVec 32 := Scalar.select v11 c6_i32 c8_i32_6
  let v13 : BitVec 32 := Scalar.select v10 c1_i32_7 v12
  let c1_i32_291 : BitVec 32 := 1#32
  let v416 : BitVec 32 := Scalar.muli v13 c1_i32_291
  let v417 : BitVec 32 := Scalar.addi c0_i32_292 v416
  v417.toNat
def k0_cond37 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_8 : BitVec 32 := 0#32
  let v14 : BitVec 1 := Scalar.cmpi .eq v2 c0_i32_8
  let c2_i32 : BitVec 32 := 2#32
  let c4_i32_9 : BitVec 32 := 4#32
  let v15 : BitVec 1 := Scalar.cmpi .eq v2 c4_i32_9
  let c7_i32 : BitVec 32 := 7#32
  let c8_i32_10 : BitVec 32 := 8#32
  let v16 : BitVec 32 := Scalar.select v15 c7_i32 c8_i32_10
  let v17 : BitVec 32 := Scalar.select v14 c2_i32 v16
  let c8_i32_139 : BitVec 32 := 8#32
  let v223 : BitVec 1 := Scalar.cmpi .slt v17 c8_i32_139
  let v224 : BitVec 32 := Scalar.extui v223
  let c0_i32_140 : BitVec 32 := 0#32
  let v225 : BitVec 1 := Scalar.cmpi .ne v224 c0_i32_140
  v225

def k0_dev24 (d0 : Dev nD) : Nat :=
  let c0_i32_292 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_8 : BitVec 32 := 0#32
  let v14 : BitVec 1 := Scalar.cmpi .eq v2 c0_i32_8
  let c2_i32 : BitVec 32 := 2#32
  let c4_i32_9 : BitVec 32 := 4#32
  let v15 : BitVec 1 := Scalar.cmpi .eq v2 c4_i32_9
  let c7_i32 : BitVec 32 := 7#32
  let c8_i32_10 : BitVec 32 := 8#32
  let v16 : BitVec 32 := Scalar.select v15 c7_i32 c8_i32_10
  let v17 : BitVec 32 := Scalar.select v14 c2_i32 v16
  let c1_i32_291 : BitVec 32 := 1#32
  let v416 : BitVec 32 := Scalar.muli v17 c1_i32_291
  let v417 : BitVec 32 := Scalar.addi c0_i32_292 v416
  v417.toNat
def k0_cond38 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_11 : BitVec 32 := 0#32
  let v18 : BitVec 1 := Scalar.cmpi .eq v2 c0_i32_11
  let c3_i32 : BitVec 32 := 3#32
  let c8_i32_12 : BitVec 32 := 8#32
  let v19 : BitVec 32 := Scalar.select v18 c3_i32 c8_i32_12
  let c8_i32_141 : BitVec 32 := 8#32
  let v226 : BitVec 1 := Scalar.cmpi .slt v19 c8_i32_141
  let v227 : BitVec 32 := Scalar.extui v226
  let c0_i32_142 : BitVec 32 := 0#32
  let v228 : BitVec 1 := Scalar.cmpi .ne v227 c0_i32_142
  v228

def k0_dev25 (d0 : Dev nD) : Nat :=
  let c0_i32_292 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_11 : BitVec 32 := 0#32
  let v18 : BitVec 1 := Scalar.cmpi .eq v2 c0_i32_11
  let c3_i32 : BitVec 32 := 3#32
  let c8_i32_12 : BitVec 32 := 8#32
  let v19 : BitVec 32 := Scalar.select v18 c3_i32 c8_i32_12
  let c1_i32_291 : BitVec 32 := 1#32
  let v416 : BitVec 32 := Scalar.muli v19 c1_i32_291
  let v417 : BitVec 32 := Scalar.addi c0_i32_292 v416
  v417.toNat
def k0_cond41 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_0 : BitVec 32 := 0#32
  let v6 : BitVec 1 := Scalar.cmpi .eq v2 c0_i32_0
  let c4_i32_3 : BitVec 32 := 4#32
  let c4_i32_1 : BitVec 32 := 4#32
  let v7 : BitVec 1 := Scalar.cmpi .eq v2 c4_i32_1
  let c5_i32 : BitVec 32 := 5#32
  let c8_i32_2 : BitVec 32 := 8#32
  let v8 : BitVec 32 := Scalar.select v7 c5_i32 c8_i32_2
  let v9 : BitVec 32 := Scalar.select v6 c4_i32_3 v8
  let c8_i32_155 : BitVec 32 := 8#32
  let v242 : BitVec 1 := Scalar.cmpi .slt v9 c8_i32_155
  let v243 : BitVec 32 := Scalar.extui v242
  let c0_i32_156 : BitVec 32 := 0#32
  let v244 : BitVec 1 := Scalar.cmpi .ne v243 c0_i32_156
  v244

def k0_dev26 (d0 : Dev nD) : Nat :=
  let c0_i32_292 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_0 : BitVec 32 := 0#32
  let v6 : BitVec 1 := Scalar.cmpi .eq v2 c0_i32_0
  let c4_i32_3 : BitVec 32 := 4#32
  let c4_i32_1 : BitVec 32 := 4#32
  let v7 : BitVec 1 := Scalar.cmpi .eq v2 c4_i32_1
  let c5_i32 : BitVec 32 := 5#32
  let c8_i32_2 : BitVec 32 := 8#32
  let v8 : BitVec 32 := Scalar.select v7 c5_i32 c8_i32_2
  let v9 : BitVec 32 := Scalar.select v6 c4_i32_3 v8
  let c1_i32_291 : BitVec 32 := 1#32
  let v416 : BitVec 32 := Scalar.muli v9 c1_i32_291
  let v417 : BitVec 32 := Scalar.addi c0_i32_292 v416
  v417.toNat
def k0_cond42 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_4 : BitVec 32 := 0#32
  let v10 : BitVec 1 := Scalar.cmpi .eq v2 c0_i32_4
  let c1_i32_7 : BitVec 32 := 1#32
  let c4_i32_5 : BitVec 32 := 4#32
  let v11 : BitVec 1 := Scalar.cmpi .eq v2 c4_i32_5
  let c6_i32 : BitVec 32 := 6#32
  let c8_i32_6 : BitVec 32 := 8#32
  let v12 : BitVec 32 := Scalar.select v11 c6_i32 c8_i32_6
  let v13 : BitVec 32 := Scalar.select v10 c1_i32_7 v12
  let c8_i32_157 : BitVec 32 := 8#32
  let v245 : BitVec 1 := Scalar.cmpi .slt v13 c8_i32_157
  let v246 : BitVec 32 := Scalar.extui v245
  let c0_i32_158 : BitVec 32 := 0#32
  let v247 : BitVec 1 := Scalar.cmpi .ne v246 c0_i32_158
  v247

def k0_dev27 (d0 : Dev nD) : Nat :=
  let c0_i32_292 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_4 : BitVec 32 := 0#32
  let v10 : BitVec 1 := Scalar.cmpi .eq v2 c0_i32_4
  let c1_i32_7 : BitVec 32 := 1#32
  let c4_i32_5 : BitVec 32 := 4#32
  let v11 : BitVec 1 := Scalar.cmpi .eq v2 c4_i32_5
  let c6_i32 : BitVec 32 := 6#32
  let c8_i32_6 : BitVec 32 := 8#32
  let v12 : BitVec 32 := Scalar.select v11 c6_i32 c8_i32_6
  let v13 : BitVec 32 := Scalar.select v10 c1_i32_7 v12
  let c1_i32_291 : BitVec 32 := 1#32
  let v416 : BitVec 32 := Scalar.muli v13 c1_i32_291
  let v417 : BitVec 32 := Scalar.addi c0_i32_292 v416
  v417.toNat
def k0_cond43 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_8 : BitVec 32 := 0#32
  let v14 : BitVec 1 := Scalar.cmpi .eq v2 c0_i32_8
  let c2_i32 : BitVec 32 := 2#32
  let c4_i32_9 : BitVec 32 := 4#32
  let v15 : BitVec 1 := Scalar.cmpi .eq v2 c4_i32_9
  let c7_i32 : BitVec 32 := 7#32
  let c8_i32_10 : BitVec 32 := 8#32
  let v16 : BitVec 32 := Scalar.select v15 c7_i32 c8_i32_10
  let v17 : BitVec 32 := Scalar.select v14 c2_i32 v16
  let c8_i32_159 : BitVec 32 := 8#32
  let v248 : BitVec 1 := Scalar.cmpi .slt v17 c8_i32_159
  let v249 : BitVec 32 := Scalar.extui v248
  let c0_i32_160 : BitVec 32 := 0#32
  let v250 : BitVec 1 := Scalar.cmpi .ne v249 c0_i32_160
  v250

def k0_dev28 (d0 : Dev nD) : Nat :=
  let c0_i32_292 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_8 : BitVec 32 := 0#32
  let v14 : BitVec 1 := Scalar.cmpi .eq v2 c0_i32_8
  let c2_i32 : BitVec 32 := 2#32
  let c4_i32_9 : BitVec 32 := 4#32
  let v15 : BitVec 1 := Scalar.cmpi .eq v2 c4_i32_9
  let c7_i32 : BitVec 32 := 7#32
  let c8_i32_10 : BitVec 32 := 8#32
  let v16 : BitVec 32 := Scalar.select v15 c7_i32 c8_i32_10
  let v17 : BitVec 32 := Scalar.select v14 c2_i32 v16
  let c1_i32_291 : BitVec 32 := 1#32
  let v416 : BitVec 32 := Scalar.muli v17 c1_i32_291
  let v417 : BitVec 32 := Scalar.addi c0_i32_292 v416
  v417.toNat
def k0_cond44 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_11 : BitVec 32 := 0#32
  let v18 : BitVec 1 := Scalar.cmpi .eq v2 c0_i32_11
  let c3_i32 : BitVec 32 := 3#32
  let c8_i32_12 : BitVec 32 := 8#32
  let v19 : BitVec 32 := Scalar.select v18 c3_i32 c8_i32_12
  let c8_i32_161 : BitVec 32 := 8#32
  let v251 : BitVec 1 := Scalar.cmpi .slt v19 c8_i32_161
  let v252 : BitVec 32 := Scalar.extui v251
  let c0_i32_162 : BitVec 32 := 0#32
  let v253 : BitVec 1 := Scalar.cmpi .ne v252 c0_i32_162
  v253

def k0_dev29 (d0 : Dev nD) : Nat :=
  let c0_i32_292 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_11 : BitVec 32 := 0#32
  let v18 : BitVec 1 := Scalar.cmpi .eq v2 c0_i32_11
  let c3_i32 : BitVec 32 := 3#32
  let c8_i32_12 : BitVec 32 := 8#32
  let v19 : BitVec 32 := Scalar.select v18 c3_i32 c8_i32_12
  let c1_i32_291 : BitVec 32 := 1#32
  let v416 : BitVec 32 := Scalar.muli v19 c1_i32_291
  let v417 : BitVec 32 := Scalar.addi c0_i32_292 v416
  v417.toNat
def k0_cond47 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_0 : BitVec 32 := 0#32
  let v6 : BitVec 1 := Scalar.cmpi .eq v2 c0_i32_0
  let c4_i32_3 : BitVec 32 := 4#32
  let c4_i32_1 : BitVec 32 := 4#32
  let v7 : BitVec 1 := Scalar.cmpi .eq v2 c4_i32_1
  let c5_i32 : BitVec 32 := 5#32
  let c8_i32_2 : BitVec 32 := 8#32
  let v8 : BitVec 32 := Scalar.select v7 c5_i32 c8_i32_2
  let v9 : BitVec 32 := Scalar.select v6 c4_i32_3 v8
  let c8_i32_178 : BitVec 32 := 8#32
  let v270 : BitVec 1 := Scalar.cmpi .slt v9 c8_i32_178
  let v271 : BitVec 32 := Scalar.extui v270
  let c0_i32_179 : BitVec 32 := 0#32
  let v272 : BitVec 1 := Scalar.cmpi .ne v271 c0_i32_179
  v272

def k0_dev30 (d0 : Dev nD) : Nat :=
  let c0_i32_292 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_0 : BitVec 32 := 0#32
  let v6 : BitVec 1 := Scalar.cmpi .eq v2 c0_i32_0
  let c4_i32_3 : BitVec 32 := 4#32
  let c4_i32_1 : BitVec 32 := 4#32
  let v7 : BitVec 1 := Scalar.cmpi .eq v2 c4_i32_1
  let c5_i32 : BitVec 32 := 5#32
  let c8_i32_2 : BitVec 32 := 8#32
  let v8 : BitVec 32 := Scalar.select v7 c5_i32 c8_i32_2
  let v9 : BitVec 32 := Scalar.select v6 c4_i32_3 v8
  let c1_i32_291 : BitVec 32 := 1#32
  let v416 : BitVec 32 := Scalar.muli v9 c1_i32_291
  let v417 : BitVec 32 := Scalar.addi c0_i32_292 v416
  v417.toNat
def k0_cond48 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_4 : BitVec 32 := 0#32
  let v10 : BitVec 1 := Scalar.cmpi .eq v2 c0_i32_4
  let c1_i32_7 : BitVec 32 := 1#32
  let c4_i32_5 : BitVec 32 := 4#32
  let v11 : BitVec 1 := Scalar.cmpi .eq v2 c4_i32_5
  let c6_i32 : BitVec 32 := 6#32
  let c8_i32_6 : BitVec 32 := 8#32
  let v12 : BitVec 32 := Scalar.select v11 c6_i32 c8_i32_6
  let v13 : BitVec 32 := Scalar.select v10 c1_i32_7 v12
  let c8_i32_180 : BitVec 32 := 8#32
  let v273 : BitVec 1 := Scalar.cmpi .slt v13 c8_i32_180
  let v274 : BitVec 32 := Scalar.extui v273
  let c0_i32_181 : BitVec 32 := 0#32
  let v275 : BitVec 1 := Scalar.cmpi .ne v274 c0_i32_181
  v275

def k0_dev31 (d0 : Dev nD) : Nat :=
  let c0_i32_292 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_4 : BitVec 32 := 0#32
  let v10 : BitVec 1 := Scalar.cmpi .eq v2 c0_i32_4
  let c1_i32_7 : BitVec 32 := 1#32
  let c4_i32_5 : BitVec 32 := 4#32
  let v11 : BitVec 1 := Scalar.cmpi .eq v2 c4_i32_5
  let c6_i32 : BitVec 32 := 6#32
  let c8_i32_6 : BitVec 32 := 8#32
  let v12 : BitVec 32 := Scalar.select v11 c6_i32 c8_i32_6
  let v13 : BitVec 32 := Scalar.select v10 c1_i32_7 v12
  let c1_i32_291 : BitVec 32 := 1#32
  let v416 : BitVec 32 := Scalar.muli v13 c1_i32_291
  let v417 : BitVec 32 := Scalar.addi c0_i32_292 v416
  v417.toNat
def k0_cond49 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_8 : BitVec 32 := 0#32
  let v14 : BitVec 1 := Scalar.cmpi .eq v2 c0_i32_8
  let c2_i32 : BitVec 32 := 2#32
  let c4_i32_9 : BitVec 32 := 4#32
  let v15 : BitVec 1 := Scalar.cmpi .eq v2 c4_i32_9
  let c7_i32 : BitVec 32 := 7#32
  let c8_i32_10 : BitVec 32 := 8#32
  let v16 : BitVec 32 := Scalar.select v15 c7_i32 c8_i32_10
  let v17 : BitVec 32 := Scalar.select v14 c2_i32 v16
  let c8_i32_182 : BitVec 32 := 8#32
  let v276 : BitVec 1 := Scalar.cmpi .slt v17 c8_i32_182
  let v277 : BitVec 32 := Scalar.extui v276
  let c0_i32_183 : BitVec 32 := 0#32
  let v278 : BitVec 1 := Scalar.cmpi .ne v277 c0_i32_183
  v278

def k0_dev32 (d0 : Dev nD) : Nat :=
  let c0_i32_292 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_8 : BitVec 32 := 0#32
  let v14 : BitVec 1 := Scalar.cmpi .eq v2 c0_i32_8
  let c2_i32 : BitVec 32 := 2#32
  let c4_i32_9 : BitVec 32 := 4#32
  let v15 : BitVec 1 := Scalar.cmpi .eq v2 c4_i32_9
  let c7_i32 : BitVec 32 := 7#32
  let c8_i32_10 : BitVec 32 := 8#32
  let v16 : BitVec 32 := Scalar.select v15 c7_i32 c8_i32_10
  let v17 : BitVec 32 := Scalar.select v14 c2_i32 v16
  let c1_i32_291 : BitVec 32 := 1#32
  let v416 : BitVec 32 := Scalar.muli v17 c1_i32_291
  let v417 : BitVec 32 := Scalar.addi c0_i32_292 v416
  v417.toNat
def k0_cond50 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_11 : BitVec 32 := 0#32
  let v18 : BitVec 1 := Scalar.cmpi .eq v2 c0_i32_11
  let c3_i32 : BitVec 32 := 3#32
  let c8_i32_12 : BitVec 32 := 8#32
  let v19 : BitVec 32 := Scalar.select v18 c3_i32 c8_i32_12
  let c8_i32_184 : BitVec 32 := 8#32
  let v279 : BitVec 1 := Scalar.cmpi .slt v19 c8_i32_184
  let v280 : BitVec 32 := Scalar.extui v279
  let c0_i32_185 : BitVec 32 := 0#32
  let v281 : BitVec 1 := Scalar.cmpi .ne v280 c0_i32_185
  v281

def k0_dev33 (d0 : Dev nD) : Nat :=
  let c0_i32_292 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_11 : BitVec 32 := 0#32
  let v18 : BitVec 1 := Scalar.cmpi .eq v2 c0_i32_11
  let c3_i32 : BitVec 32 := 3#32
  let c8_i32_12 : BitVec 32 := 8#32
  let v19 : BitVec 32 := Scalar.select v18 c3_i32 c8_i32_12
  let c1_i32_291 : BitVec 32 := 1#32
  let v416 : BitVec 32 := Scalar.muli v19 c1_i32_291
  let v417 : BitVec 32 := Scalar.addi c0_i32_292 v416
  v417.toNat
def k0_cond53 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_0 : BitVec 32 := 0#32
  let v6 : BitVec 1 := Scalar.cmpi .eq v2 c0_i32_0
  let c4_i32_3 : BitVec 32 := 4#32
  let c4_i32_1 : BitVec 32 := 4#32
  let v7 : BitVec 1 := Scalar.cmpi .eq v2 c4_i32_1
  let c5_i32 : BitVec 32 := 5#32
  let c8_i32_2 : BitVec 32 := 8#32
  let v8 : BitVec 32 := Scalar.select v7 c5_i32 c8_i32_2
  let v9 : BitVec 32 := Scalar.select v6 c4_i32_3 v8
  let c8_i32_201 : BitVec 32 := 8#32
  let v298 : BitVec 1 := Scalar.cmpi .slt v9 c8_i32_201
  let v299 : BitVec 32 := Scalar.extui v298
  let c0_i32_202 : BitVec 32 := 0#32
  let v300 : BitVec 1 := Scalar.cmpi .ne v299 c0_i32_202
  v300

def k0_dev34 (d0 : Dev nD) : Nat :=
  let c0_i32_292 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_0 : BitVec 32 := 0#32
  let v6 : BitVec 1 := Scalar.cmpi .eq v2 c0_i32_0
  let c4_i32_3 : BitVec 32 := 4#32
  let c4_i32_1 : BitVec 32 := 4#32
  let v7 : BitVec 1 := Scalar.cmpi .eq v2 c4_i32_1
  let c5_i32 : BitVec 32 := 5#32
  let c8_i32_2 : BitVec 32 := 8#32
  let v8 : BitVec 32 := Scalar.select v7 c5_i32 c8_i32_2
  let v9 : BitVec 32 := Scalar.select v6 c4_i32_3 v8
  let c1_i32_291 : BitVec 32 := 1#32
  let v416 : BitVec 32 := Scalar.muli v9 c1_i32_291
  let v417 : BitVec 32 := Scalar.addi c0_i32_292 v416
  v417.toNat
def k0_cond54 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_4 : BitVec 32 := 0#32
  let v10 : BitVec 1 := Scalar.cmpi .eq v2 c0_i32_4
  let c1_i32_7 : BitVec 32 := 1#32
  let c4_i32_5 : BitVec 32 := 4#32
  let v11 : BitVec 1 := Scalar.cmpi .eq v2 c4_i32_5
  let c6_i32 : BitVec 32 := 6#32
  let c8_i32_6 : BitVec 32 := 8#32
  let v12 : BitVec 32 := Scalar.select v11 c6_i32 c8_i32_6
  let v13 : BitVec 32 := Scalar.select v10 c1_i32_7 v12
  let c8_i32_203 : BitVec 32 := 8#32
  let v301 : BitVec 1 := Scalar.cmpi .slt v13 c8_i32_203
  let v302 : BitVec 32 := Scalar.extui v301
  let c0_i32_204 : BitVec 32 := 0#32
  let v303 : BitVec 1 := Scalar.cmpi .ne v302 c0_i32_204
  v303

def k0_dev35 (d0 : Dev nD) : Nat :=
  let c0_i32_292 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_4 : BitVec 32 := 0#32
  let v10 : BitVec 1 := Scalar.cmpi .eq v2 c0_i32_4
  let c1_i32_7 : BitVec 32 := 1#32
  let c4_i32_5 : BitVec 32 := 4#32
  let v11 : BitVec 1 := Scalar.cmpi .eq v2 c4_i32_5
  let c6_i32 : BitVec 32 := 6#32
  let c8_i32_6 : BitVec 32 := 8#32
  let v12 : BitVec 32 := Scalar.select v11 c6_i32 c8_i32_6
  let v13 : BitVec 32 := Scalar.select v10 c1_i32_7 v12
  let c1_i32_291 : BitVec 32 := 1#32
  let v416 : BitVec 32 := Scalar.muli v13 c1_i32_291
  let v417 : BitVec 32 := Scalar.addi c0_i32_292 v416
  v417.toNat
def k0_cond55 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_8 : BitVec 32 := 0#32
  let v14 : BitVec 1 := Scalar.cmpi .eq v2 c0_i32_8
  let c2_i32 : BitVec 32 := 2#32
  let c4_i32_9 : BitVec 32 := 4#32
  let v15 : BitVec 1 := Scalar.cmpi .eq v2 c4_i32_9
  let c7_i32 : BitVec 32 := 7#32
  let c8_i32_10 : BitVec 32 := 8#32
  let v16 : BitVec 32 := Scalar.select v15 c7_i32 c8_i32_10
  let v17 : BitVec 32 := Scalar.select v14 c2_i32 v16
  let c8_i32_205 : BitVec 32 := 8#32
  let v304 : BitVec 1 := Scalar.cmpi .slt v17 c8_i32_205
  let v305 : BitVec 32 := Scalar.extui v304
  let c0_i32_206 : BitVec 32 := 0#32
  let v306 : BitVec 1 := Scalar.cmpi .ne v305 c0_i32_206
  v306

def k0_dev36 (d0 : Dev nD) : Nat :=
  let c0_i32_292 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_8 : BitVec 32 := 0#32
  let v14 : BitVec 1 := Scalar.cmpi .eq v2 c0_i32_8
  let c2_i32 : BitVec 32 := 2#32
  let c4_i32_9 : BitVec 32 := 4#32
  let v15 : BitVec 1 := Scalar.cmpi .eq v2 c4_i32_9
  let c7_i32 : BitVec 32 := 7#32
  let c8_i32_10 : BitVec 32 := 8#32
  let v16 : BitVec 32 := Scalar.select v15 c7_i32 c8_i32_10
  let v17 : BitVec 32 := Scalar.select v14 c2_i32 v16
  let c1_i32_291 : BitVec 32 := 1#32
  let v416 : BitVec 32 := Scalar.muli v17 c1_i32_291
  let v417 : BitVec 32 := Scalar.addi c0_i32_292 v416
  v417.toNat
def k0_cond56 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_11 : BitVec 32 := 0#32
  let v18 : BitVec 1 := Scalar.cmpi .eq v2 c0_i32_11
  let c3_i32 : BitVec 32 := 3#32
  let c8_i32_12 : BitVec 32 := 8#32
  let v19 : BitVec 32 := Scalar.select v18 c3_i32 c8_i32_12
  let c8_i32_207 : BitVec 32 := 8#32
  let v307 : BitVec 1 := Scalar.cmpi .slt v19 c8_i32_207
  let v308 : BitVec 32 := Scalar.extui v307
  let c0_i32_208 : BitVec 32 := 0#32
  let v309 : BitVec 1 := Scalar.cmpi .ne v308 c0_i32_208
  v309

def k0_dev37 (d0 : Dev nD) : Nat :=
  let c0_i32_292 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_11 : BitVec 32 := 0#32
  let v18 : BitVec 1 := Scalar.cmpi .eq v2 c0_i32_11
  let c3_i32 : BitVec 32 := 3#32
  let c8_i32_12 : BitVec 32 := 8#32
  let v19 : BitVec 32 := Scalar.select v18 c3_i32 c8_i32_12
  let c1_i32_291 : BitVec 32 := 1#32
  let v416 : BitVec 32 := Scalar.muli v19 c1_i32_291
  let v417 : BitVec 32 := Scalar.addi c0_i32_292 v416
  v417.toNat
abbrev stage0_0 : Fin 1 → Memref sig .tc .vmem S2x256x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x256x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x256x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S256x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2x256x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== KernelIdeal.lean ====
variable {F : FTy → Type} [FloatOps F] [Named F]
def κ : String → Option EReal := fun
  | "mask" => some ⊥
  | _ => none
-- ==== ReferenceIdeal.lean ====
abbrev S2x256x512 : Shape := ⟨3, ![2, 256, 512]⟩
abbrev S512x256 : Shape := ⟨2, ![512, 256]⟩
abbrev S2x2048x4x64 : Shape := ⟨4, ![2, 2048, 4, 64]⟩
abbrev S256x512 : Shape := ⟨2, ![256, 512]⟩
abbrev S2x256x256 : Shape := ⟨3, ![2, 256, 256]⟩
abbrev S2x256x4x64 : Shape := ⟨4, ![2, 256, 4, 64]⟩
abbrev S256 : Shape := ⟨1, ![256]⟩
abbrev S_ : Shape := ⟨0, ![]⟩
abbrev S256x1 : Shape := ⟨2, ![256, 1]⟩
abbrev S2048 : Shape := ⟨1, ![2048]⟩
abbrev S1x2048 : Shape := ⟨2, ![1, 2048]⟩
abbrev S256x2048 : Shape := ⟨2, ![256, 2048]⟩
abbrev S2x4x256x2048 : Shape := ⟨4, ![2, 4, 256, 2048]⟩
abbrev S1x1x256x2048 : Shape := ⟨4, ![1, 1, 256, 2048]⟩
abbrev S2x4x256 : Shape := ⟨3, ![2, 4, 256]⟩
abbrev S2x4x256x1 : Shape := ⟨4, ![2, 4, 256, 1]⟩
abbrev S1x1x256x1 : Shape := ⟨4, ![1, 1, 256, 1]⟩
abbrev S2x4x64x256 : Shape := ⟨4, ![2, 4, 64, 256]⟩

abbrev nBuf : Space → Nat
  | .hbm => 89
  | .vmem => 0
  | .smem => 0
  | _ => 0

abbrev bufTy : (tb : Table) → Fin (tcTables nBuf tb) → BufTy
  | .hbm, ⟨0, _⟩ => ⟨S2x256x512, .f32⟩
  | .hbm, ⟨1, _⟩ => ⟨S512x256, .f32⟩
  | .hbm, ⟨2, _⟩ => ⟨S2x2048x4x64, .f32⟩
  | .hbm, ⟨3, _⟩ => ⟨S2x2048x4x64, .f32⟩
  | .hbm, ⟨4, _⟩ => ⟨S256x512, .f32⟩
  | .hbm, ⟨5, _⟩ => ⟨S2x256x256, .f32⟩
  | .hbm, ⟨6, _⟩ => ⟨S2x256x4x64, .f32⟩
  | .hbm, ⟨7, _⟩ => ⟨S256, .i32⟩
  | .hbm, ⟨8, _⟩ => ⟨S_, .i32⟩
  | .hbm, ⟨9, _⟩ => ⟨S_, .i32⟩
  | .hbm, ⟨10, _⟩ => ⟨S256, .i32⟩
  | .hbm, ⟨11, _⟩ => ⟨S256, .i32⟩
  | .hbm, ⟨12, _⟩ => ⟨S256, .i32⟩
  | .hbm, ⟨13, _⟩ => ⟨S_, .i32⟩
  | .hbm, ⟨14, _⟩ => ⟨S256, .i32⟩
  | .hbm, ⟨15, _⟩ => ⟨S256, .i1⟩
  | .hbm, ⟨16, _⟩ => ⟨S256, .i32⟩
  | .hbm, ⟨17, _⟩ => ⟨S256, .i32⟩
  | .hbm, ⟨18, _⟩ => ⟨S_, .i32⟩
  | .hbm, ⟨19, _⟩ => ⟨S256, .i32⟩
  | .hbm, ⟨20, _⟩ => ⟨S256, .i1⟩
  | .hbm, ⟨21, _⟩ => ⟨S256, .i1⟩
  | .hbm, ⟨22, _⟩ => ⟨S_, .i32⟩
  | .hbm, ⟨23, _⟩ => ⟨S256, .i32⟩
  | .hbm, ⟨24, _⟩ => ⟨S256, .i32⟩
  | .hbm, ⟨25, _⟩ => ⟨S256, .i32⟩
  | .hbm, ⟨26, _⟩ => ⟨S256x1, .i32⟩
  | .hbm, ⟨27, _⟩ => ⟨S2048, .i32⟩
  | .hbm, ⟨28, _⟩ => ⟨S_, .i32⟩
  | .hbm, ⟨29, _⟩ => ⟨S_, .i32⟩
  | .hbm, ⟨30, _⟩ => ⟨S2048, .i32⟩
  | .hbm, ⟨31, _⟩ => ⟨S2048, .i32⟩
  | .hbm, ⟨32, _⟩ => ⟨S2048, .i32⟩
  | .hbm, ⟨33, _⟩ => ⟨S_, .i32⟩
  | .hbm, ⟨34, _⟩ => ⟨S2048, .i32⟩
  | .hbm, ⟨35, _⟩ => ⟨S2048, .i1⟩
  | .hbm, ⟨36, _⟩ => ⟨S2048, .i32⟩
  | .hbm, ⟨37, _⟩ => ⟨S2048, .i32⟩
  | .hbm, ⟨38, _⟩ => ⟨S_, .i32⟩
  | .hbm, ⟨39, _⟩ => ⟨S2048, .i32⟩
  | .hbm, ⟨40, _⟩ => ⟨S2048, .i1⟩
  | .hbm, ⟨41, _⟩ => ⟨S2048, .i1⟩
  | .hbm, ⟨42, _⟩ => ⟨S_, .i32⟩
  | .hbm, ⟨43, _⟩ => ⟨S2048, .i32⟩
  | .hbm, ⟨44, _⟩ => ⟨S2048, .i32⟩
  | .hbm, ⟨45, _⟩ => ⟨S2048, .i32⟩
  | .hbm, ⟨46, _⟩ => ⟨S1x2048, .i32⟩
  | .hbm, ⟨47, _⟩ => ⟨S256x2048, .i32⟩
  | .hbm, ⟨48, _⟩ => ⟨S256x2048, .i32⟩
  | .hbm, ⟨49, _⟩ => ⟨S256x2048, .i1⟩
  | .hbm, ⟨50, _⟩ => ⟨S2x4x256x2048, .f32⟩
  | .hbm, ⟨51, _⟩ => ⟨S_, .f32⟩
  | .hbm, ⟨52, _⟩ => ⟨S2x4x256x2048, .f32⟩
  | .hbm, ⟨53, _⟩ => ⟨S2x4x256x2048, .f32⟩
  | .hbm, ⟨54, _⟩ => ⟨S1x1x256x2048, .i1⟩
  | .hbm, ⟨55, _⟩ => ⟨S_, .f32⟩
  | .hbm, ⟨56, _⟩ => ⟨S_, .f32⟩
  | .hbm, ⟨57, _⟩ => ⟨S2x4x256x2048, .i1⟩
  | .hbm, ⟨58, _⟩ => ⟨S2x4x256x2048, .f32⟩
  | .hbm, ⟨59, _⟩ => ⟨S2x4x256x2048, .f32⟩
  | .hbm, ⟨60, _⟩ => ⟨S_, .f32⟩
  | .hbm, ⟨61, _⟩ => ⟨S2x4x256, .f32⟩
  | .hbm, ⟨62, _⟩ => ⟨S2x4x256x1, .f32⟩
  | .hbm, ⟨63, _⟩ => ⟨S2x4x256x2048, .f32⟩
  | .hbm, ⟨64, _⟩ => ⟨S2x4x256x2048, .f32⟩
  | .hbm, ⟨65, _⟩ => ⟨S2x4x256x2048, .f32⟩
  | .hbm, ⟨66, _⟩ => ⟨S_, .i1⟩
  | .hbm, ⟨67, _⟩ => ⟨S256, .i1⟩
  | .hbm, ⟨68, _⟩ => ⟨S1x1x256x1, .i1⟩
  | .hbm, ⟨69, _⟩ => ⟨S_, .f32⟩
  | .hbm, ⟨70, _⟩ => ⟨S2x4x256, .f32⟩
  | .hbm, ⟨71, _⟩ => ⟨S2x4x256x1, .f32⟩
  | .hbm, ⟨72, _⟩ => ⟨S_, .f32⟩
  | .hbm, ⟨73, _⟩ => ⟨S_, .f32⟩
  | .hbm, ⟨74, _⟩ => ⟨S2x4x256x1, .i1⟩
  | .hbm, ⟨75, _⟩ => ⟨S2x4x256x1, .f32⟩
  | .hbm, ⟨76, _⟩ => ⟨S2x4x256x1, .f32⟩
  | .hbm, ⟨77, _⟩ => ⟨S2x4x256x2048, .f32⟩
  | .hbm, ⟨78, _⟩ => ⟨S2x4x256x2048, .f32⟩
  | .hbm, ⟨79, _⟩ => ⟨S1x1x256x1, .i1⟩
  | .hbm, ⟨80, _⟩ => ⟨S_, .f32⟩
  | .hbm, ⟨81, _⟩ => ⟨S_, .f32⟩
  | .hbm, ⟨82, _⟩ => ⟨S2x4x256x2048, .i1⟩
  | .hbm, ⟨83, _⟩ => ⟨S2x4x256x2048, .f32⟩
  | .hbm, ⟨84, _⟩ => ⟨S2x4x256x2048, .f32⟩
  | .hbm, ⟨85, _⟩ => ⟨S2x4x64x256, .f32⟩
  | .hbm, ⟨86, _⟩ => ⟨S2x256x4x64, .f32⟩
  | .hbm, ⟨87, _⟩ => ⟨S2x256x256, .f32⟩
  | .hbm, ⟨88, _⟩ => ⟨S2x256x512, .f32⟩
  | _, _ => ⟨S2x256x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_c : Ref sig .tc := ⟨.hbm, 8, rfl⟩
abbrev main_call0_v0 : Ref sig .tc := ⟨.hbm, 9, rfl⟩
abbrev main_call0_v1 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_v5 : Ref sig .tc := ⟨.hbm, 14, rfl⟩
abbrev main_call0_v6 : Ref sig .tc := ⟨.hbm, 15, rfl⟩
abbrev main_call0_v7 : Ref sig .tc := ⟨.hbm, 16, rfl⟩
abbrev main_call0_v8 : Ref sig .tc := ⟨.hbm, 17, rfl⟩
abbrev main_call0_c : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_c_0 : Ref sig .tc := ⟨.hbm, 22, rfl⟩
abbrev main_call0_v12 : Ref sig .tc := ⟨.hbm, 23, rfl⟩
abbrev main_call0_v13 : Ref sig .tc := ⟨.hbm, 24, rfl⟩
abbrev main_v3 : Ref sig .tc := ⟨.hbm, 25, rfl⟩
abbrev main_v4 : Ref sig .tc := ⟨.hbm, 26, rfl⟩
abbrev main_v5 : Ref sig .tc := ⟨.hbm, 27, rfl⟩
abbrev main_c_0 : Ref sig .tc := ⟨.hbm, 28, rfl⟩
abbrev main_call1_v0 : Ref sig .tc := ⟨.hbm, 29, rfl⟩
abbrev main_call1_v1 : Ref sig .tc := ⟨.hbm, 30, rfl⟩
abbrev main_call1_v2 : Ref sig .tc := ⟨.hbm, 31, rfl⟩
abbrev main_call1_v3 : Ref sig .tc := ⟨.hbm, 32, rfl⟩
abbrev main_call1_v4 : Ref sig .tc := ⟨.hbm, 33, rfl⟩
abbrev main_call1_v5 : Ref sig .tc := ⟨.hbm, 34, rfl⟩
abbrev main_call1_v6 : Ref sig .tc := ⟨.hbm, 35, rfl⟩
abbrev main_call1_v7 : Ref sig .tc := ⟨.hbm, 36, rfl⟩
abbrev main_call1_v8 : Ref sig .tc := ⟨.hbm, 37, rfl⟩
abbrev main_call1_c : Ref sig .tc := ⟨.hbm, 38, rfl⟩
abbrev main_call1_v9 : Ref sig .tc := ⟨.hbm, 39, rfl⟩
abbrev main_call1_v10 : Ref sig .tc := ⟨.hbm, 40, rfl⟩
abbrev main_call1_v11 : Ref sig .tc := ⟨.hbm, 41, rfl⟩
abbrev main_call1_c_0 : Ref sig .tc := ⟨.hbm, 42, rfl⟩
abbrev main_call1_v12 : Ref sig .tc := ⟨.hbm, 43, rfl⟩
abbrev main_call1_v13 : Ref sig .tc := ⟨.hbm, 44, rfl⟩
abbrev main_v6 : Ref sig .tc := ⟨.hbm, 45, rfl⟩
abbrev main_v7 : Ref sig .tc := ⟨.hbm, 46, rfl⟩
abbrev main_v8 : Ref sig .tc := ⟨.hbm, 47, rfl⟩
abbrev main_v9 : Ref sig .tc := ⟨.hbm, 48, rfl⟩
abbrev main_v10 : Ref sig .tc := ⟨.hbm, 49, rfl⟩
abbrev main_v11 : Ref sig .tc := ⟨.hbm, 50, rfl⟩
abbrev main_cst : Ref sig .tc := ⟨.hbm, 51, rfl⟩
abbrev main_v12 : Ref sig .tc := ⟨.hbm, 52, rfl⟩
abbrev main_v13 : Ref sig .tc := ⟨.hbm, 53, rfl⟩
abbrev main_v14 : Ref sig .tc := ⟨.hbm, 54, rfl⟩
abbrev main_cst_1 : Ref sig .tc := ⟨.hbm, 55, rfl⟩
abbrev main_call2_v0 : Ref sig .tc := ⟨.hbm, 56, rfl⟩
abbrev main_call2_v1 : Ref sig .tc := ⟨.hbm, 57, rfl⟩
abbrev main_call2_v2 : Ref sig .tc := ⟨.hbm, 58, rfl⟩
abbrev main_v15 : Ref sig .tc := ⟨.hbm, 59, rfl⟩
abbrev main_cst_2 : Ref sig .tc := ⟨.hbm, 60, rfl⟩
abbrev main_v16 : Ref sig .tc := ⟨.hbm, 61, rfl⟩
abbrev main_v17 : Ref sig .tc := ⟨.hbm, 62, rfl⟩
abbrev main_v18 : Ref sig .tc := ⟨.hbm, 63, rfl⟩
abbrev main_v19 : Ref sig .tc := ⟨.hbm, 64, rfl⟩
abbrev main_v20 : Ref sig .tc := ⟨.hbm, 65, rfl⟩
abbrev main_c_3 : Ref sig .tc := ⟨.hbm, 66, rfl⟩
abbrev main_v21 : Ref sig .tc := ⟨.hbm, 67, rfl⟩
abbrev main_v22 : Ref sig .tc := ⟨.hbm, 68, rfl⟩
abbrev main_cst_4 : Ref sig .tc := ⟨.hbm, 69, rfl⟩
abbrev main_v23 : Ref sig .tc := ⟨.hbm, 70, rfl⟩
abbrev main_v24 : Ref sig .tc := ⟨.hbm, 71, rfl⟩
abbrev main_cst_5 : Ref sig .tc := ⟨.hbm, 72, rfl⟩
abbrev main_call3_v0 : Ref sig .tc := ⟨.hbm, 73, rfl⟩
abbrev main_call3_v1 : Ref sig .tc := ⟨.hbm, 74, rfl⟩
abbrev main_call3_v2 : Ref sig .tc := ⟨.hbm, 75, rfl⟩
abbrev main_v25 : Ref sig .tc := ⟨.hbm, 76, rfl⟩
abbrev main_v26 : Ref sig .tc := ⟨.hbm, 77, rfl⟩
abbrev main_v27 : Ref sig .tc := ⟨.hbm, 78, rfl⟩
abbrev main_v28 : Ref sig .tc := ⟨.hbm, 79, rfl⟩
abbrev main_cst_6 : Ref sig .tc := ⟨.hbm, 80, rfl⟩
abbrev main_call4_v0 : Ref sig .tc := ⟨.hbm, 81, rfl⟩
abbrev main_call4_v1 : Ref sig .tc := ⟨.hbm, 82, rfl⟩
abbrev main_call4_v2 : Ref sig .tc := ⟨.hbm, 83, rfl⟩
abbrev main_v29 : Ref sig .tc := ⟨.hbm, 84, rfl⟩
abbrev main_v30 : Ref sig .tc := ⟨.hbm, 85, rfl⟩
abbrev main_v31 : Ref sig .tc := ⟨.hbm, 86, rfl⟩
abbrev main_v32 : Ref sig .tc := ⟨.hbm, 87, rfl⟩
abbrev main_v33 : Ref sig .tc := ⟨.hbm, 88, rfl⟩

abbrev nD : Nat := 1
abbrev τ : Topo := Topo.v7x

variable {F : FTy → Type} [FloatOps F]
-- ==== Proof.Ideal.Protocol.lean ====
/-
  The protocol of the broadcast kernel: the tree that the devices form, the cells, the duties of each cell and what
  they hand over, what each device owes, and the credit each device starts with.

  The tree: device 0 sends to 4, 1, 2, 3; device 4 sends on to 5, 6, 7. Every device signals each of its neighbours
  once at the start. A chunk is one (batch, head) pair; chunk number k is batch k/4, head k%4.
-/
module

public import proofs.«01_k».proof.Proof.Gen.KernelIdeal.Frame
public import proofs.«01_k».proof.Proof.Gen.KernelIdeal.Skeleton
public import Idealize.ShloMosaic.Lib.Pipeline.Regions
public import Idealize.ShloMosaic.Lib.Pipeline.RegionTalk
public import Idealize.ShloMosaic.Lib.Pipeline.TalkSites
public import Idealize.ShloMosaic.Lib.Pipeline.BigSepL
public import Idealize.ShloMosaic.Lib.Rounds
public import Idealize.ShloMosaic.Lib.Transfers

@[expose] public section

noncomputable section

namespace Cert.KernelIdeal.Talk

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.SiteBlocks (L lv Above mayWait_of)
open Idealize.ShloMosaic.TalkSites (Pay tallyL tallyL_append tallyL_pos credOf allPays launchCred_tallyL cred_tallyL)

variable {F : FTy → Type} [FloatOps F] [Named F]

/-! ## The tree -/

/-- Does device d have a child on edge e? -/
def isEdge (d : Dev nD) (e : Fin 4) : Bool := d.val = 0 || (d.val = 4 && e.val ≤ 2)
/-- The child on edge e (read only where there is one). -/
def tgt (d : Dev nD) (e : Fin 4) : Dev nD := if d.val = 0 then ![4, 1, 2, 3] e else ![5, 6, 7, 7] e
/-- The parent (read only off the root). -/
def par (d : Dev nD) : Dev nD := if d.val ≤ 4 then 0 else 4

theorem par_tgt : ∀ (d : Dev nD) (e : Fin 4), isEdge d e = true → par (tgt d e) = d ∧ tgt d e ≠ 0 := by decide

/-- The neighbours: the children, then the parent. -/
def nbL (d : Dev nD) : List (Dev nD) :=
  ((List.finRange 4).filter fun e => isEdge d e).map (tgt d) ++ (if d = 0 then [] else [par d])
def nbrs (d : Dev nD) : Finset (Dev nD) := (nbL d).toFinset
theorem nbL_nodup : ∀ d, (nbL d).Nodup := by decide
/-- How many neighbours. -/
def deg (d : Dev nD) : ℕ := if d = 0 ∨ d = 4 then 4 else 1
theorem deg_eq : ∀ d, (nbrs d).card = deg d := by decide
theorem tgt_mem : ∀ (d : Dev nD) (e : Fin 4), isEdge d e = true → d ∈ nbrs (tgt d e) := by decide
theorem par_mem : ∀ d : Dev nD, d ≠ 0 → d ∈ nbrs (par d) := by decide

/-! ## Semaphores and cells -/

/-- The barrier semaphore. -/
abbrev barS : Sem sig := sig.barrier 0 rfl
/-- The semaphore device d's copy of chunk k along edge e completes on at the source. -/
def sendS (e : Fin 4) (k : Fin 8) : DmaSem sig := ⟨6 + 8 * e.val + k.val, by show _ < 46; omega⟩
/-- The semaphore a copy of chunk k completes on at the target. -/
def recvS (k : Fin 8) : DmaSem sig := ⟨38 + k.val, by show _ < 46; omega⟩

abbrev barC (d : Dev nD) : GSem nD τ sig := ((d : Thread nD τ), .reg barS)
abbrev sendC (d : Dev nD) (e : Fin 4) (k : Fin 8) : GSem nD τ sig := ((d : Thread nD τ), .dma (sendS e k))
abbrev recvC (d : Dev nD) (k : Fin 8) : GSem nD τ sig := ((d : Thread nD τ), .dma (recvS k))

inductive Kind where
  | bar | send (e : Fin 4) (k : Fin 8) | recv (k : Fin 8) | other
deriving DecidableEq

/-- Which of the protocol's semaphores one is. -/
def kind : SemLoc sig → Kind
  | .reg s => if s = barS then .bar else .other
  | .dma s => if h : 6 ≤ s.val ∧ s.val < 38 then .send ⟨(s.val - 6) / 8, by omega⟩ ⟨(s.val - 6) % 8, by omega⟩
      else if h : 38 ≤ s.val ∧ s.val < 46 then .recv ⟨s.val - 38, by omega⟩ else .other

theorem kind_bar : kind (.reg barS) = .bar := by decide
theorem kind_send : ∀ e k, kind (.dma (sendS e k)) = .send e k := by decide
theorem kind_recv : ∀ k, kind (.dma (recvS k)) = .recv k := by decide

/-! ## Chunks of the context buffer -/

/-- Where chunk k lies in the context buffer. -/
def offK (k : Fin 8) : Fin 4 → ℕ := ![k.val / 4, k.val % 4, 0, 0]
theorem offK_inb (k : Fin 8) : ∀ a, offK k a + S1x1x256x64.size a ≤ S2x4x256x64.size a := by
  revert k; decide

/-- The context buffer's slice at an offset, and the slice as the copies name it. -/
abbrev slotR {off : Fin 4 → ℕ} (h : ∀ a, off a + S1x1x256x64.size a ≤ S2x4x256x64.size a) : Rect S2x4x256x64 :=
  Rect.unit (s := S2x4x256x64) off S1x1x256x64.size h
abbrev slotM {off : Fin 4 → ℕ} (h : ∀ a, off a + S1x1x256x64.size a ≤ S2x4x256x64.size a) : Memref sig .tc .vmem S256x64 .bf16 :=
  ((Memref.whole cc0_scratch0 : Memref sig .tc .vmem S2x4x256x64 .bf16).slice (slotR h) (fun _ => rfl)).squeeze S256x64 Gen.squeezes_S1x1x256x64_S256x64

/-- Units a chunk's copy credits. -/
abbrev NC : ℕ := (slotM (offK_inb 0)).view.dmaCredit
theorem NC_pos : 0 < NC := View.dmaCredit_pos _ (by decide)

/-- The elements of chunk k. -/
def chunkSet (k : Fin 8) : Finset S2x4x256x64.Idx := (slotR (offK_inb k)).set

theorem slotM_set (k : Fin 8) : (slotM (offK_inb k)).view.set = chunkSet k :=
  (View.set_reshape _ _).trans (View.set_slice_whole _ _)

/-- The context buffer's contents. -/
abbrev Ctx (F : FTy → Type) : Type := S2x4x256x64.Idx → Elt F .bf16

end Cert.KernelIdeal.Talk

end
-- ==== Proof.Ideal.Values.lean ====
/-
  The values that the broadcast kernel computes: the queries, each chunk of the context (all from what device 0 has
  staged), and on each device the output's running sums over the heads.
-/
module

public import proofs.«01_k».proof.Proof.Ideal.Protocol
public import Idealize.ShloMosaic.Lib.ValueIdxCore

@[expose] public section

noncomputable section

namespace Cert.KernelIdeal.Talk

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.SiteBlocks (L lv Above mayWait_of)
open Idealize.ShloMosaic.TalkSites (Pay tallyL tallyL_append tallyL_pos credOf allPays launchCred_tallyL cred_tallyL)

variable {F : FTy → Type} [FloatOps F] [Named F]

open Idealize.ShloMosaic.ValueIdx (ix2 ix3 ix4 eq_ix3 eq_ix4)

/-- The program's arrays at launch. -/
abbrev Mem (F : FTy → Type) : Type := (ℓ : Loc nD τ sig) → Buf (Elt F) ℓ

variable (m : Mem F)

/-! ## What is staged -/

abbrev Xb (d : Dev nD) : S2x256x512.Idx → Elt F .f32 := Gen.iblk m d 0 Gen.t0_0
abbrev Wqb (d : Dev nD) : S512x256.Idx → Elt F .f32 := Gen.iblk m d 1 Gen.t0_0
abbrev Kb (d : Dev nD) : S2x256x256.Idx → Elt F .f32 := Gen.iblk m d 2 Gen.t0_0
abbrev Vb (d : Dev nD) : S2x256x256.Idx → Elt F .f32 := Gen.iblk m d 3 Gen.t0_0
abbrev Wob (d : Dev nD) : S256x512.Idx → Elt F .f32 := Gen.iblk m d 4 Gen.t0_0

/-- What a load through a rectangle reads of an array's contents. -/
abbrev rd {s : Shape} {α : Type} (r : Rect s) (f : s.Idx → α) : r.shape.Idx → α := fun i => f (r.emb i)

/-! ## Rectangles -/

theorem xR_inb (b : Fin 2) : ∀ a, (![b.val, 0, 0] : Fin 3 → ℕ) a + S1x256x512.size a ≤ S2x256x512.size a := by revert b; decide
/-- Batch b of an input-shaped array. -/
abbrev xR (b : Fin 2) : Rect S2x256x512 := Rect.unit (s := S2x256x512) ![b.val, 0, 0] S1x256x512.size (xR_inb b)
theorem qR_inb (b : Fin 2) : ∀ a, (![b.val, 0, 0] : Fin 3 → ℕ) a + S1x256x256.size a ≤ S2x256x256.size a := by revert b; decide
/-- Batch b of a query-shaped array. -/
abbrev qR (b : Fin 2) : Rect S2x256x256 := Rect.unit (s := S2x256x256) ![b.val, 0, 0] S1x256x256.size (qR_inb b)
theorem hR_inb (k : Fin 8) : ∀ a, (![k.val / 4, 0, 64 * (k.val % 4)] : Fin 3 → ℕ) a + S1x256x64.size a ≤ S2x256x256.size a := by
  revert k; decide
/-- The (batch, head) columns of chunk k in a query-shaped array. -/
abbrev hR (k : Fin 8) : Rect S2x256x256 := Rect.unit (s := S2x256x256) ![k.val / 4, 0, 64 * (k.val % 4)] S1x256x64.size (hR_inb k)
/-- The whole query weight; the whole output weight. -/
abbrev wqR : Rect S512x256 := Rect.unit (s := S512x256) ![0, 0] S512x256.size Gen.inb_S512x256_S512x256_0_0
abbrev woR : Rect S256x512 := Rect.unit (s := S256x512) ![0, 0] S256x512.size Gen.inb_S256x512_S256x512_0_0

/-! ## The root's values -/

/-- Batch b of the queries. -/
def qv (b : Fin 2) : S1x256x256.Idx → Elt F .f32 := Gen.k0_pay1 (rd (xR b) (Xb m 0)) (rd wqR (Wqb m 0))
/-- The queries, both batches. -/
def Qc : S2x256x256.Idx → Elt F .f32 := fun j => qv m (j 0) (ix3 0 (j 1) (j 2))
/-- Which keys each query may see. -/
def maskV : IVec S256x256 1 := Gen.k0_pay6 (iota .tc S256x256 32 [0] Gen.iota_S256x256_d0_w32) 64#32 Gen.k0_pay3 Gen.k0_pay4 Gen.k0_pay5
/-- Chunk k of the context. -/
def cv (k : Fin 8) : S1x1x256x64.Idx → Elt F .bf16 :=
  Gen.k0_pay10 maskV (rd (hR k) (Qc m)) (rd (hR k) (Kb m 0)) (rd (hR k) (Vb m 0))
/-- Which chunk an element of the context lies in. -/
def kOf (j : S2x4x256x64.Idx) : Fin 8 := ⟨4 * (j 0).val + (j 1).val, by
  have h0 : (j 0).val < 2 := (j 0).isLt
  have h1 : (j 1).val < 4 := (j 1).isLt
  omega⟩
/-- The context. -/
def ctx : Ctx F := fun j => cv m (kOf j) (ix4 0 0 (j 2) (j 3))

/-! ## A device's sums -/

/-- What a device loads of chunk k. -/
abbrev cr (k : Fin 8) : S1x1x256x64.Idx → Elt F .bf16 := rd (slotR (offK_inb k)) (ctx m)
/-- The output weight rounded. -/
abbrev wo (d : Dev nD) : FVec F S256x512 .bf16 := Gen.k0_pay7 (rd woR (Wob m d))

def o0 (d : Dev nD) : S1x256x512.Idx → Elt F .f32 := Gen.k0_pay9 (wo m d) (cr m 0)
def o1 (d : Dev nD) : S1x256x512.Idx → Elt F .f32 := Gen.k0_pay11 (wo m d) (cr m 1) (o0 m d)
def o2 (d : Dev nD) : S1x256x512.Idx → Elt F .f32 := Gen.k0_pay13 (wo m d) (cr m 2) (o1 m d)
def o3 (d : Dev nD) : S1x256x512.Idx → Elt F .f32 := Gen.k0_pay15 (wo m d) (cr m 3) (o2 m d)
def o4 (d : Dev nD) : S1x256x512.Idx → Elt F .f32 := Gen.k0_pay17 (wo m d) (cr m 4)
def o5 (d : Dev nD) : S1x256x512.Idx → Elt F .f32 := Gen.k0_pay19 (wo m d) (cr m 5) (o4 m d)
def o6 (d : Dev nD) : S1x256x512.Idx → Elt F .f32 := Gen.k0_pay21 (wo m d) (cr m 6) (o5 m d)
def o7 (d : Dev nD) : S1x256x512.Idx → Elt F .f32 := Gen.k0_pay23 (wo m d) (cr m 7) (o6 m d)
/-- The result on a device. -/
def outV (d : Dev nD) : S2x256x512.Idx → Elt F .f32 := fun j =>
  if (j 0).val = 0 then o3 m d (ix3 0 (j 1) (j 2)) else o7 m d (ix3 0 (j 1) (j 2))

/-! ## Contents from what is read of them -/

/-- Contents whose two batches read as the last sums are the result. -/
theorem eq_outV (d : Dev nD) (f : S2x256x512.Idx → Elt F .f32) (h0 : rd (xR 0) f = o3 m d) (h1 : rd (xR 1) f = o7 m d) : f = outV m d := by
  funext j
  rw [eq_ix3 j]
  unfold outV
  have hj : (j 0).val < 2 := (j 0).isLt
  by_cases h : (j 0).val = 0
  · rw [if_pos h]
    show _ = o3 m d (ix3 0 (j 1) (j 2))
    rw [← h0]
    show f _ = f _
    congr 1; funext a
    match a with
    | ⟨0, _⟩ => exact Fin.ext h
    | ⟨1, _⟩ => exact Fin.ext (by show (j 1).val = 0 + 1 * (j 1).val; omega)
    | ⟨2, _⟩ => exact Fin.ext (by show (j 2).val = 0 + 1 * (j 2).val; omega)
  · rw [if_neg h]
    show _ = o7 m d (ix3 0 (j 1) (j 2))
    rw [← h1]
    show f _ = f _
    congr 1; funext a
    match a with
    | ⟨0, _⟩ => exact Fin.ext (by show (j 0).val = 1 + 1 * 0; omega)
    | ⟨1, _⟩ => exact Fin.ext (by show (j 1).val = 0 + 1 * (j 1).val; omega)
    | ⟨2, _⟩ => exact Fin.ext (by show (j 2).val = 0 + 1 * (j 2).val; omega)

/-- Contents whose two batches read as the queries are the queries. -/
theorem eq_Qc (f : S2x256x256.Idx → Elt F .f32) (h : ∀ b, rd (qR b) f = qv m b) : f = Qc m := by
  funext j
  refine Eq.trans ?_ (congrFun (h (j 0)) (ix3 0 (j 1) (j 2)))
  show f _ = f _
  congr 1; funext a
  match a with
  | ⟨0, _⟩ => exact Fin.ext (by show (j 0).val = (j 0).val + 1 * 0; omega)
  | ⟨1, _⟩ => exact Fin.ext (by show (j 1).val = 0 + 1 * (j 1).val; omega)
  | ⟨2, _⟩ => exact Fin.ext (by show (j 2).val = 0 + 1 * (j 2).val; omega)

/-- An element of chunk k is chunk k's value there. -/
theorem ctx_emb (k : Fin 8) (i : (slotR (offK_inb k)).shape.Idx) : ctx m ((slotR (offK_inb k)).emb i) = cv m k i := by
  have hi0 : (i 0).val < 1 := (i 0).isLt
  have hi1 : (i 1).val < 1 := (i 1).isLt
  have hk : kOf ((slotR (offK_inb k)).emb i) = k := by
    refine Fin.ext ?_
    show 4 * (k.val / 4 + 1 * (i 0).val) + (k.val % 4 + 1 * (i 1).val) = k.val
    omega
  unfold ctx
  rw [hk]
  congr 1; funext a
  match a with
  | ⟨0, _⟩ => exact Fin.ext (by show 0 = (i 0).val; omega)
  | ⟨1, _⟩ => exact Fin.ext (by show 0 = (i 1).val; omega)
  | ⟨2, _⟩ => exact Fin.ext (by show 0 + 1 * (i 2).val = (i 2).val; omega)
  | ⟨3, _⟩ => exact Fin.ext (by show 0 + 1 * (i 3).val = (i 3).val; omega)

theorem cr_eq (k : Fin 8) : cr m k = cv m k := funext fun i => ctx_emb m k i

end Cert.KernelIdeal.Talk

end
-- ==== Proof.Ideal.Sched.lean ====
/-
  The protocol of the broadcast kernel, second part: the duties of each cell and what they hand over; what each device
  owes at each point of its body and what it may wait for meanwhile; its launch credit; the duties it pays.
-/
module

public import proofs.«01_k».proof.Proof.Ideal.Values

@[expose] public section

noncomputable section

namespace Cert.KernelIdeal.Talk

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.SiteBlocks (L lv Above mayWait_of)
open Idealize.ShloMosaic.TalkSites (Pay tallyL tallyL_append tallyL_pos credOf allPays launchCred_tallyL cred_tallyL)

variable {F : FTy → Type} [FloatOps F] [Named F]

open Idealize.ShloMosaic.ValueIdx (ix2 ix3 ix4 eq_ix3 eq_ix4)

abbrev UU : Type := UR sig nD τ × URounds (GSem nD τ sig) (Dev nD)

local notation "𝕄" => MT nD τ sig ℕ (Elt F) ℕ UU ℕ

abbrev EP : Emb (UR sig nD τ) (MT nD τ sig ℕ (Elt F) ℕ UU ℕ) := embL
abbrev ER : Emb (URounds (GSem nD τ sig) (Dev nD)) (MT nD τ sig ℕ (Elt F) ℕ UU ℕ) := embR

variable (m : Mem F)

/-! ## Points-tos -/

/-- Chunk k of device d's context buffer. -/
abbrev pts (d : Dev nD) (k : Fin 8) (q : PosShare TreeShare) (f : Ctx F) : sProp 𝕄 :=
  ((d : Thread nD τ).loc cc0_scratch0) ↦[chunkSet k]{q} f

/-- The share of a chunk lent to the copy along edge e; the share kept. -/
abbrev qS (e : Fin 4) : PosShare TreeShare := Transfers.shareTokN fullShare e.val
abbrev qK : PosShare TreeShare := Transfers.shareDrop fullShare 4

/-! ## The schedule -/

/-- What a signal hands a device's barrier cell: from the root nothing; from a child of the device all of its context
    buffer, and that its receive cells stand at round 0. -/
def handOver (p : Dev nD) : sProp 𝕄 :=
  bigSep Finset.univ fun k : Fin 8 => iprop((∃ f, pts p k fullShare f) ∗ reached ER (recvC p k) 0)
def barPay (d p : Dev nD) : sProp 𝕄 := if par p = d ∧ p ≠ 0 then handOver p else iprop(emp)

/-- The devices that pay a cell of device d. -/
def dutiesK (d : Dev nD) : Kind → Finset (Dev nD)
  | .bar => nbrs d
  | .send e _ => if isEdge d e = true then {d} else ∅
  | .recv _ => if d = 0 then ∅ else {par d}
  | .other => ∅
def amountK : Kind → ℕ
  | .bar => 1
  | _ => NC
/-- What payer p hands over with its payment. -/
def payK (d : Dev nD) (p : Dev nD) : Kind → sProp 𝕄
  | .bar => barPay d p
  | .send e k => pts d k (qS e) (ctx m)
  | .recv k => pts d k fullShare (ctx m)
  | .other => iprop(emp)

/-- One round on every cell. -/
def Rd : Rounds.Schedule (GSem nD τ sig) (Dev nD) 𝕄 where
  duties g r := if r = 0 ∧ g.1.2 = .tc then dutiesK g.1.1 (kind g.2) else ∅
  unitless _ := False
  amount g _ _ := amountK (kind g.2)
  payload g _ p := payK m g.1.1 p (kind g.2)
  amount_pos g _ _ _ := by
    cases kind g.2
    · exact Nat.one_pos
    all_goals exact NC_pos

instance Rd_storable (g : GSem nD τ sig) (r : ℕ) (p : Dev nD) :
    BI.Storable (upEmb : UEmb _ 𝕄) ((Rd (F := F) m).payload g r p) := by
  show BI.Storable upEmb (payK m g.1.1 p (kind g.2))
  cases kind g.2
  · unfold payK barPay handOver
    split <;> infer_instance
  all_goals unfold payK; infer_instance

section Sched

variable (d : Dev nD) (e : Fin 4) (k : Fin 8)

theorem duties_of (d : Dev nD) (sm : SemLoc sig) : (Rd (F := F) m).duties ((d : Thread nD τ), sm) 0 = dutiesK d (kind sm) := by
  dsimp only [Rd]; exact if_pos ⟨rfl, rfl⟩
theorem duties_bar : (Rd (F := F) m).duties (barC d) 0 = nbrs d := by
  rw [duties_of, kind_bar]; rfl
theorem duties_send (h : isEdge d e = true) : (Rd (F := F) m).duties (sendC d e k) 0 = {d} := by
  rw [duties_of, kind_send]; exact if_pos h
theorem duties_send_none (h : ¬ isEdge d e = true) : (Rd (F := F) m).duties (sendC d e k) 0 = ∅ := by
  rw [duties_of, kind_send]; exact if_neg h
theorem duties_recv (h : d ≠ 0) : (Rd (F := F) m).duties (recvC d k) 0 = {par d} := by
  rw [duties_of, kind_recv]; exact if_neg h
theorem duties_recv_root : (Rd (F := F) m).duties (recvC 0 k) 0 = ∅ := by
  rw [duties_of, kind_recv]; rfl
theorem duties_later (g : GSem nD τ sig) : ∀ r, 1 ≤ r → (Rd (F := F) m).duties g r = ∅ :=
  fun r hr => if_neg (fun h => by have := h.1; omega)

theorem amount_bar (p : Dev nD) : (Rd (F := F) m).amount (barC d) 0 p = 1 := by
  show amountK (kind (.reg barS)) = 1; rw [kind_bar]; rfl
theorem amount_send (p : Dev nD) : (Rd (F := F) m).amount (sendC d e k) 0 p = NC := by
  show amountK (kind (.dma (sendS e k))) = NC; rw [kind_send]; rfl
theorem amount_recv (p : Dev nD) : (Rd (F := F) m).amount (recvC d k) 0 p = NC := by
  show amountK (kind (.dma (recvS k))) = NC; rw [kind_recv]; rfl

theorem expect_bar : (Rd (F := F) m).expect (barC d) 0 = deg d := by
  unfold Schedule.expect Schedule.amountOf
  rw [duties_bar, Finset.sum_congr rfl fun p _ => amount_bar m d p, Finset.sum_const, smul_eq_mul, mul_one, deg_eq]
theorem expect_send (h : isEdge d e = true) : (Rd (F := F) m).expect (sendC d e k) 0 = NC := by
  unfold Schedule.expect Schedule.amountOf
  rw [duties_send m d e k h, Finset.sum_singleton, amount_send]
theorem expect_recv (h : d ≠ 0) : (Rd (F := F) m).expect (recvC d k) 0 = NC := by
  unfold Schedule.expect Schedule.amountOf
  rw [duties_recv m d k h, Finset.sum_singleton, amount_recv]

theorem payload_bar (p : Dev nD) : (Rd (F := F) m).payload (barC d) 0 p = barPay d p := by
  show payK m d p (kind (.reg barS)) = _; rw [kind_bar]; rfl
theorem payload_send (p : Dev nD) : (Rd (F := F) m).payload (sendC d e k) 0 p = pts d k (qS e) (ctx m) := by
  show payK m d p (kind (.dma (sendS e k))) = _; rw [kind_send]; rfl
theorem payload_recv (p : Dev nD) : (Rd (F := F) m).payload (recvC d k) 0 p = pts d k fullShare (ctx m) := by
  show payK m d p (kind (.dma (recvS k))) = _; rw [kind_recv]; rfl

theorem rest_send (h : isEdge d e = true) :
    bigSep ((Rd (F := F) m).duties (sendC d e k) 0 \ ∅) (fun p => (Rd (F := F) m).payload (sendC d e k) 0 p) = pts d k (qS e) (ctx m) := by
  rw [Finset.sdiff_empty, duties_send m d e k h, bigSep_singleton, payload_send]
theorem rest_recv (h : d ≠ 0) :
    bigSep ((Rd (F := F) m).duties (recvC d k) 0 \ ∅) (fun p => (Rd (F := F) m).payload (recvC d k) 0 p) = pts d k fullShare (ctx m) := by
  rw [Finset.sdiff_empty, duties_recv m d k h, bigSep_singleton, payload_recv]

/-- What a device's barrier wait brings: its children's context buffers. -/
theorem rest_bar :
    bigSep ((Rd (F := F) m).duties (barC d) 0 \ ∅) (fun p => (Rd (F := F) m).payload (barC d) 0 p)
      ⊢ (bigSepL (List.finRange 4) fun e => if isEdge d e = true then handOver (tgt d e) else iprop(emp) : sProp 𝕄) := by
  rw [Finset.sdiff_empty, duties_bar, bigSep_eq_bigSepL_of_eq (S := nbrs d) (nbL d) rfl (nbL_nodup d),
    show (fun p => (Rd (F := F) m).payload (barC d) 0 p) = (fun p => barPay d p) from funext fun p => payload_bar m d p]
  unfold nbL
  rw [bigSepL_append, bigSepL_map]
  refine sep_elim_left.trans ?_
  have key : ∀ l : List (Fin 4), bigSepL (l.filter fun e => isEdge d e) (fun e => (barPay d (tgt d e) : sProp 𝕄))
      ⊢ bigSepL l fun e => if isEdge d e = true then handOver (tgt d e) else iprop(emp) := by
    intro l
    induction l with
    | nil => exact .rfl
    | cons e l ih =>
      rw [List.filter_cons, bigSepL_cons']
      by_cases h : isEdge d e = true
      · rw [if_pos h, if_pos h, bigSepL_cons']
        refine BIClass.sep_mono ?_ ih
        unfold barPay
        rw [if_pos (par_tgt d e h)]
      · rw [if_neg h, if_neg h]
        exact ih.trans BI.emp_sep_intro
  exact key _

end Sched

/-! ## What a device owes -/

/-- The level of a device's receive cells. -/
def lvl (d : Dev nD) : ℕ := if d.val ≤ 4 then 2 else 3

theorem edge4 (n : ℕ) : n % 4 < 4 := Nat.mod_lt _ (by decide)

/-- The n-th payment of device d's body to another device, if it makes it: the signals to the children and to the parent,
    then each chunk's copies along the edges. -/
def pay? (d : Dev nD) (n : ℕ) : Option (Pay nD τ sig) :=
  if h : n < 4 then if isEdge d ⟨n, h⟩ = true then some (barC (tgt d ⟨n, h⟩), 1, 1) else none
  else if n = 4 then if d = 0 then none else some (barC (par d), 1, 1)
  else if isEdge d ⟨(n - 5) % 4, edge4 _⟩ = true then
    some (recvC (tgt d ⟨(n - 5) % 4, edge4 _⟩) ⟨(n - 5) / 4 % 8, Nat.mod_lt _ (by decide)⟩, lvl (tgt d ⟨(n - 5) % 4, edge4 _⟩), NC)
  else none

/-- What it still has to pay from the n-th payment on. -/
def rows (d : Dev nD) (n : ℕ) : List (Pay nD τ sig) := (List.range' n (37 - n)).filterMap (pay? d)
def Ow (d : Dev nD) (n : ℕ) : CellTallies nD τ sig ℕ := tallyL (rows d n)

theorem rows_step (d : Dev nD) {n : ℕ} (hn : n < 37) : rows d n = (match pay? d n with | some x => [x] | none => []) ++ rows d (n + 1) := by
  unfold rows
  rw [show 37 - n = (37 - (n + 1)) + 1 by omega, List.range'_succ, List.filterMap_cons]
  cases pay? d n <;> rfl
theorem Ow_idle (d : Dev nD) {n : ℕ} (hn : n < 37) (h : pay? d n = none) : Ow d n = Ow d (n + 1) := by
  unfold Ow; rw [rows_step d hn, h]; rfl
theorem Ow_active (d : Dev nD) {n : ℕ} (hn : n < 37) {x : Pay nD τ sig} (h : pay? d n = some x) : Ow d n = Ow d (n + 1) + x.tally := by
  unfold Ow; rw [rows_step d hn, h, tallyL_append, add_comm]; congr 1; exact add_zero _
theorem Ow_end (d : Dev nD) : Ow d 37 = 0 := rfl

theorem pay_signal (d : Dev nD) (e : Fin 4) : pay? d e.val = if isEdge d e = true then some (barC (tgt d e), 1, 1) else none := by
  unfold pay?; rw [dif_pos e.isLt]
theorem pay_parent (d : Dev nD) : pay? d 4 = if d = 0 then none else some (barC (par d), 1, 1) := by
  unfold pay?; rw [dif_neg (by decide), if_pos rfl]
theorem pay_send (d : Dev nD) (k : Fin 8) (e : Fin 4) :
    pay? d (5 + 4 * k.val + e.val) = if isEdge d e = true then some (recvC (tgt d e) k, lvl (tgt d e), NC) else none := by
  have he : (⟨(5 + 4 * k.val + e.val - 5) % 4, edge4 _⟩ : Fin 4) = e := Fin.ext (by show (5 + 4 * k.val + e.val - 5) % 4 = e.val; omega)
  have hk : (⟨(5 + 4 * k.val + e.val - 5) / 4 % 8, Nat.mod_lt _ (by decide)⟩ : Fin 8) = k :=
    Fin.ext (by show (5 + 4 * k.val + e.val - 5) / 4 % 8 = k.val; omega)
  unfold pay?
  rw [dif_neg (by omega), if_neg (by omega), he, hk]

/-- Every payment is to a TensorCore cell, at an index below 5; the copies' are at the target's level. -/
theorem pay_facts (d : Dev nD) (n : ℕ) (x : Pay nD τ sig) (h : pay? d n = some x) :
    x.1.1.2 = .tc ∧ x.2.1 < 5 ∧ (5 ≤ n → ∃ e, isEdge d e = true ∧ x.2.1 = lvl (tgt d e)) := by
  have hl : ∀ d', lvl d' < 5 := fun d' => by unfold lvl; split <;> decide
  unfold pay? at h
  split at h
  · split at h
    · cases h; exact ⟨rfl, (by decide : (1 : ℕ) < 5), fun h' => by omega⟩
    · cases h
  · split at h
    · split at h
      · cases h
      · cases h; exact ⟨rfl, (by decide : (1 : ℕ) < 5), fun h' => by omega⟩
    · split at h
      · rename_i he; cases h; exact ⟨rfl, hl _, fun _ => ⟨_, he, rfl⟩⟩
      · cases h

theorem rows_facts (d : Dev nD) (n : ℕ) (x : Pay nD τ sig) (h : x ∈ rows d n) :
    x.1.1.2 = .tc ∧ x.2.1 < 5 ∧ (5 ≤ n → ∃ e, isEdge d e = true ∧ x.2.1 = lvl (tgt d e)) := by
  obtain ⟨a, ha, hx⟩ := List.mem_filterMap.mp h
  obtain ⟨h1, h2, h3⟩ := pay_facts d a x hx
  exact ⟨h1, h2, fun hn => h3 (le_trans hn (List.mem_range'_1.mp ha).1)⟩

/-- What a device may wait for while it owes its copies: its barrier cell, and off the root its receive cells. -/
theorem mayWait_bar (d : Dev nD) (n : ℕ) (hn : 5 ≤ n) : (levAts (L 5) lv : sProp 𝕄) ⊢ MayWait (d : Thread nD τ) (.reg barS) 1 (Ow d n) :=
  mayWait_of (by decide) d _ _ fun g i h => by
    obtain ⟨x, hx, rfl, rfl⟩ := tallyL_pos h
    obtain ⟨h1, h2, h3⟩ := rows_facts d n x hx
    obtain ⟨e, -, he⟩ := h3 hn
    exact ⟨SiteBlocks.mem_L' h1 h2, by rw [he]; unfold lvl; split <;> decide⟩
theorem lvl_lt : ∀ (d : Dev nD) (e : Fin 4), d ≠ 0 → isEdge d e = true → lvl d < lvl (tgt d e) := by decide
theorem mayWait_recv (d : Dev nD) (k : Fin 8) (n : ℕ) (hn : 5 ≤ n) (hd : d ≠ 0) :
    (levAts (L 5) lv : sProp 𝕄) ⊢ MayWait (d : Thread nD τ) (.dma (recvS k)) (lvl d) (Ow d n) :=
  mayWait_of (by unfold lvl; split <;> decide) d _ _ fun g i h => by
    obtain ⟨x, hx, rfl, rfl⟩ := tallyL_pos h
    obtain ⟨h1, h2, h3⟩ := rows_facts d n x hx
    obtain ⟨e, hd', he⟩ := h3 hn
    exact ⟨SiteBlocks.mem_L' h1 h2, by rw [he]; exact lvl_lt d e hd hd'⟩

/-! ## The launch credit -/

/-- The payments to device d's receive cells. -/
def recvPays (d : Dev nD) : List (Pay nD τ sig) := (List.finRange 8).map fun k => (recvC d k, lvl d, NC)
/-- How many of its neighbours pay its barrier cell after the parent. -/
def later (d : Dev nD) : ℕ := if d = 0 then 4 else if d = 4 then 3 else 0

theorem credOf_eq : ∀ d : Dev nD, credOf (fun d => rows d 0) d
    = (if d = 0 then [] else (barC d, 1, 1) :: recvPays d) ++ List.replicate (later d) (barC d, 1, 1) := by decide +kernel

theorem cred_replicate (g : GSem nD τ sig) (n : ℕ) : tallyL (List.replicate n ((g, 1, 1) : Pay nD τ sig)) = tallyAt g 1 n := by
  induction n with
  | zero => exact (tallyAt_zero _ _).symm
  | succ n ih =>
    rw [List.replicate_succ, show tallyL ((g, 1, 1) :: List.replicate n ((g, 1, 1) : Pay nD τ sig)) = tallyAt g 1 1 + tallyL (List.replicate n (g, 1, 1)) from rfl,
      ih, tallyAt_add, Nat.add_comm]

/-- What a device starts with: credit for all of its barrier cell's units, and off the root for each chunk it receives. -/
theorem launch_cred (d : Dev nD) :
    (Pipeline.launchCred (fun d => Ow d 0) d : sProp 𝕄)
      ⊢ iprop(cred (tallyAt (barC d) 1 (deg d)) ∗ bigSepL (List.finRange 8) fun k => if d = 0 then iprop(emp) else cred (tallyAt (recvC d k) (lvl d) NC)) := by
  rw [show (fun d => Ow d 0) = fun d => tallyL (rows d 0) from rfl,
    launchCred_tallyL (fun d => rows d 0) (fun d x hx => (rows_facts d 0 x hx).1), credOf_eq, tallyL_append, cred_replicate]
  by_cases h : d = 0
  · subst h
    rw [if_pos rfl, show (tallyL ([] : List (Pay nD τ sig))) = 0 from rfl, zero_add]
    rw [show later 0 = deg 0 from rfl]
    have : ∀ l : List (Fin 8), iprop(emp) ⊢ (bigSepL l fun k => if (0 : Dev nD) = 0 then iprop(emp) else cred (tallyAt (recvC 0 k) (lvl 0) NC) : sProp 𝕄) := by
      intro l
      induction l with
      | nil => exact .rfl
      | cons k l ih => rw [bigSepL_cons', if_pos rfl]; exact ih.trans BI.emp_sep_intro
    iintro H
    isplitl [H]; · iexact H
    iapply (this _); iempintro
  · rw [if_neg h, show tallyL ((barC d, 1, 1) :: recvPays d) = tallyAt (barC d) 1 1 + tallyL (recvPays d) from rfl,
      add_right_comm, tallyAt_add, show 1 + later d = deg d by revert h; revert d; decide]
    refine (cred_add _ _).1.trans (sep_mono .rfl ?_)
    rw [cred_tallyL]
    unfold recvPays
    rw [bigSepL_map]
    refine bigSepL_mono fun k _ => ?_
    rw [if_neg h]

end Cert.KernelIdeal.Talk

end
-- ==== Proof.Ideal.Steps.lean ====
/-
  The states of the broadcast kernel's body and one rule per kind of step: signal, barrier wait, receive wait, send,
  send wait. Each rule is stated of the printed conditional around the operation, for any device.
-/
module

public import proofs.«01_k».proof.Proof.Ideal.Sched

@[expose] public section

noncomputable section

namespace Cert.KernelIdeal.Talk

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.SiteBlocks (L lv Above mayWait_of)
open Idealize.ShloMosaic.TalkSites (Pay tallyL tallyL_append tallyL_pos credOf allPays launchCred_tallyL cred_tallyL)

variable {F : FTy → Type} [FloatOps F] [Named F]

open Idealize.ShloMosaic.ValueIdx (ix2 ix3 ix4 eq_ix3 eq_ix4)

local notation "𝕄" => MT nD τ sig ℕ (Elt F) ℕ UU ℕ

variable (m : Mem F)

/-! ## The family of cells and the duties each device pays -/

/-- The kernel's own semaphores, one after the other: the send cells, then the receive cells. -/
def osem (i : Fin 40) : SemLoc sig := .dma ⟨6 + i.val, by show _ < 46; omega⟩
theorem osem_inj : Function.Injective osem := fun i j h => by
  have := congrArg Fin.val (SemLoc.dma.inj h)
  exact Fin.ext (by simpa using this)
def sendI (e : Fin 4) (k : Fin 8) : Fin 40 := ⟨8 * e.val + k.val, by omega⟩
def recvI (k : Fin 8) : Fin 40 := ⟨32 + k.val, by omega⟩
theorem osem_send (e : Fin 4) (k : Fin 8) : osem (sendI e k) = .dma (sendS e k) :=
  congrArg SemLoc.dma (Fin.ext (by show 6 + (8 * e.val + k.val) = 6 + 8 * e.val + k.val; omega))
theorem osem_recv (k : Fin 8) : osem (recvI k) = .dma (recvS k) :=
  congrArg SemLoc.dma (Fin.ext (by show 6 + (32 + k.val) = 38 + k.val; omega))

def ownSet : Finset (SemLoc sig) := Finset.univ.map ⟨osem, osem_inj⟩
theorem send_mem (e : Fin 4) (k : Fin 8) : SemLoc.dma (sendS e k) ∈ ownSet := Finset.mem_map.mpr ⟨sendI e k, Finset.mem_univ _, osem_send e k⟩
theorem recv_mem (k : Fin 8) : SemLoc.dma (recvS k) ∈ ownSet := Finset.mem_map.mpr ⟨recvI k, Finset.mem_univ _, osem_recv k⟩

/-- The duties device d pays: its signals; for each chunk and edge the two ends of the copy. -/
def sigToks (d : Dev nD) : List (GSem nD τ sig × ℕ × Dev nD) :=
  ((List.finRange 4).flatMap fun e => if isEdge d e = true then [(barC (tgt d e), 0, d)] else []) ++ (if d = 0 then [] else [(barC (par d), 0, d)])
def chunkToks (d : Dev nD) : List (GSem nD τ sig × ℕ × Dev nD) :=
  (List.finRange 8).flatMap fun k => (List.finRange 4).flatMap fun e =>
    if isEdge d e = true then [(sendC d e k, 0, d), (recvC (tgt d e) k, 0, d)] else []
def toksL (d : Dev nD) : List (GSem nD τ sig × ℕ × Dev nD) := sigToks d ++ chunkToks d
theorem toksL_nodup : ∀ d, (toksL d).Nodup := by decide +kernel
theorem toksL_payer : ∀ d, ∀ x ∈ toksL d, x.2.2 = d := by decide +kernel

def fam : TalkSites.Fam nD τ sig (Dev nD) 1 where
  bar := .reg barS
  dorm _ := ownSet
  toks d _ := (toksL d).toFinset
  semKey _ := 0
  hsem j _ _ := Subsingleton.elim _ _
  hbar _ h := by obtain ⟨i, -, h⟩ := Finset.mem_map.mp h; cases h
  tokKey x := (x.2.2, 0)
  htok d j x hx := Prod.ext (toksL_payer d x (List.mem_toFinset.mp hx)) (Subsingleton.elim _ _)

/-- The invariants of all cells, at some names. -/
abbrev invs (κ : GSem nD τ sig → ℕ) : sProp 𝕄 := fam.cellInvs ER (Rd m) κ

theorem inv_bar (κ : GSem nD τ sig → ℕ) (d : Dev nD) : invs m κ ⊢ cellInv ER (Rd m) (κ (barC d)) (barC d) := fam.cellInvs_bar ER (Rd m) κ d
theorem inv_send (κ : GSem nD τ sig → ℕ) (d : Dev nD) (e : Fin 4) (k : Fin 8) : invs m κ ⊢ cellInv ER (Rd m) (κ (sendC d e k)) (sendC d e k) :=
  fam.cellInvs_dorm ER (Rd m) κ d (j := 0) (send_mem e k)
theorem inv_recv (κ : GSem nD τ sig → ℕ) (d : Dev nD) (k : Fin 8) : invs m κ ⊢ cellInv ER (Rd m) (κ (recvC d k)) (recvC d k) :=
  fam.cellInvs_dorm ER (Rd m) κ d (j := 0) (recv_mem k)

/-! ## States -/

/-- What device d owes at payment n, whatever it has waited for. -/
def OwS (d : Dev nD) (n : ℕ) : sProp 𝕄 := iprop(∃ W, owes (d : Thread nD τ) (Ow d n) W)

theorem OwS_idle (d : Dev nD) {n : ℕ} (hn : n < 37) (h : pay? d n = none) : (OwS d n : sProp 𝕄) = OwS d (n + 1) := by
  unfold OwS; rw [Ow_idle d hn h]

/-- To signal the child on edge e. -/
def SigE (d : Dev nD) (e : Fin 4) : sProp 𝕄 :=
  if isEdge d e = true then iprop(dutyTok ER (barC (tgt d e)) 0 d ∗ reached ER (barC (tgt d e)) 0) else iprop(emp)
/-- To signal the parent. -/
def SigP (d : Dev nD) : sProp 𝕄 := if d = 0 then iprop(emp) else iprop(dutyTok ER (barC (par d)) 0 d ∗ reached ER (barC (par d)) 0)
/-- The device's own context buffer, and its receive cells at round 0. -/
def Slots (d : Dev nD) : sProp 𝕄 := bigSep Finset.univ fun k : Fin 8 => iprop(∃ f, pts d k fullShare f)
/-- What is left of it after the signal to the parent: all of it at the root, nothing elsewhere. -/
def Own (d : Dev nD) (k : Fin 8) : sProp 𝕄 := if d = 0 then iprop(∃ f, pts d k fullShare f) else iprop(emp)
def OwnD (d : Dev nD) (k : Fin 8) : sProp 𝕄 := if d = 0 then pts d k fullShare (ctx m) else iprop(emp)
/-- The credit to wait for chunk k with. -/
def Crd (d : Dev nD) (k : Fin 8) : sProp 𝕄 := if d = 0 then iprop(emp) else cred (tallyAt (recvC d k) (lvl d) NC)
/-- The children's context buffers, at the barrier. -/
def Kids (d : Dev nD) : sProp 𝕄 := bigSepL (List.finRange 4) fun e => if isEdge d e = true then handOver (tgt d e) else iprop(emp)
/-- The barrier wait, before and after. -/
def BW (d : Dev nD) (p : Prop) [Decidable p] : sProp 𝕄 :=
  if p then iprop(atPos ER (barC d) 1 ∅ 0 ∗ Kids d) else iprop(cred (tallyAt (barC d) 1 (deg d)) ∗ atPos ER (barC d) 0 ∅ 0)

/-- To copy chunk k along edge e: the target's chunk and both ends' duties. -/
def Tk (d : Dev nD) (k : Fin 8) (e : Fin 4) : sProp 𝕄 :=
  if isEdge d e = true then iprop((∃ f, pts (tgt d e) k fullShare f) ∗ dutyTok ER (sendC d e k) 0 d ∗ dutyTok ER (recvC (tgt d e) k) 0 d
    ∗ reached ER (recvC (tgt d e) k) 0) else iprop(emp)
/-- The edge's state for chunk k: 0 before the copy, 1 with it in flight, 2 after the wait for it. -/
def Ed (d : Dev nD) (k : Fin 8) (e : Fin 4) (s : ℕ) : sProp 𝕄 :=
  if s = 0 then iprop(pts d k (qS e) (ctx m) ∗ Tk d k e ∗ atPos ER (sendC d e k) 0 ∅ 0 ∗ reached ER (sendC d e k) 0)
  else if s = 1 then iprop((if isEdge d e = true then cred (tallyAt (sendC d e k) 4 NC) else pts d k (qS e) (ctx m)) ∗ atPos ER (sendC d e k) 0 ∅ 0)
  else iprop(pts d k (qS e) (ctx m) ∗ atPos ER (sendC d e k) (if isEdge d e = true then 1 else 0) ∅ 0)
/-- Chunk k before it is in the device's context buffer (own: what the device holds of the buffer). -/
def SA (own : sProp 𝕄) (d : Dev nD) (k : Fin 8) : sProp 𝕄 :=
  iprop(own ∗ Crd d k ∗ atPos ER (recvC d k) 0 ∅ 0
    ∗ bigSepL (List.finRange 4) fun e => iprop(Tk d k e ∗ atPos ER (sendC d e k) 0 ∅ 0 ∗ reached ER (sendC d e k) 0))
/-- Chunk k once it is there: n edges served, w waited for. -/
def SB (d : Dev nD) (k : Fin 8) (n w : ℕ) : sProp 𝕄 :=
  iprop(pts d k qK (ctx m) ∗ atPos ER (recvC d k) (if d = 0 then 0 else 1) ∅ 0
    ∗ bigSepL (List.finRange 4) fun e => Ed m d k e (if e.val < w then 2 else if e.val < n then 1 else 0))

theorem finRange4 : List.finRange 4 = [0, 1, 2, 3] := by decide
theorem finRange8 : List.finRange 8 = [0, 1, 2, 3, 4, 5, 6, 7] := by decide

/-- A chunk held whole is the share kept and the shares to lend. -/
theorem pts_split (d : Dev nD) (k : Fin 8) (f : Ctx F) :
    (pts d k fullShare f : sProp 𝕄) ⊣⊢ iprop(pts d k qK f ∗ bigSepL (List.finRange 4) fun e => pts d k (qS e) f) := by
  rw [← bigSep_univ_eq_bigSepL (List.finRange 4) (by decide) (by decide)]
  exact Transfers.pointsTo_toks fullShare 4

/-- One edge's state changes. -/
theorem edge_turn {Φ Ψ : Fin 4 → sProp 𝕄} (e : Fin 4) (h : ∀ j, j ≠ e → Ψ j = Φ j) :
    bigSepL (List.finRange 4) Φ ⊢ iprop(Φ e ∗ (Ψ e -∗ bigSepL (List.finRange 4) Ψ)) := by
  rw [← bigSep_univ_eq_bigSepL (List.finRange 4) (by decide) (by decide), ← bigSep_univ_eq_bigSepL (List.finRange 4) (by decide) (by decide)]
  exact bigSep_univ_update e h

theorem edge_sep (Φ Ψ : Fin 4 → sProp 𝕄) :
    bigSepL (List.finRange 4) (fun e => iprop(Φ e ∗ Ψ e)) = iprop(bigSepL (List.finRange 4) Φ ∗ bigSepL (List.finRange 4) Ψ) := by
  simp only [← bigSep_univ_eq_bigSepL (List.finRange 4) (by decide) (by decide)]
  exact bigSep_sep' _ _ _

/-- A copy of chunk k writes there what the source holds there. -/
theorem copied (d : Dev nD) (k : Fin 8) (q : PosShare TreeShare) (fd f : Ctx F) :
    (((d : Thread nD τ).loc cc0_scratch0) ↦[(slotM (offK_inb k)).view.set]{q}
        ((slotM (offK_inb k)).view.write (Elt F) fd ((slotM (offK_inb k)).view.read (Elt F) f) Finset.univ) : sProp 𝕄) = pts d k q f := by
  unfold pts
  rw [slotM_set]
  refine pointsTo_congr fun i hi => ?_
  rw [← slotM_set] at hi
  obtain ⟨x, -, rfl⟩ := Finset.mem_map.mp hi
  refine (View.write_emb_of_mem (v := (slotM (offK_inb k)).view) _ _ (Finset.mem_univ x)).trans ?_
  rfl

/-! ## Steps -/

abbrev 𝒱₀ : Variants := Variants.none

section Steps

variable {Q : PUnit → sProp (MT nD τ sig ℕ (Elt F) ℕ UU ℕ)}

/-- A conditional whose condition fails is skipped. -/
theorem step_skip {cond : BitVec 1} (hc : ¬ cond = 1#1) {d : Dev nD} {A : cond = 1#1 → Prog (TpuEff nD τ sig (Elt F) Λ₀ .tc) PUnit} :
    Q ⟨⟩ ⊢ wp frame (wpE (defs₀ (F := F)) 𝒱₀ (d : Thread nD τ) none) Set.univ (if h : cond = 1#1 then A h else (do pure ⟨⟩)) Q := by
  rw [dif_neg hc]
  show _ ⊢ wp frame (wpE (defs₀ (F := F)) 𝒱₀ (d : Thread nD τ) none) Set.univ (.ret ⟨⟩) Q
  rw [wp_ret]
  iintro H; imodintro; iexact H

theorem par_ne_tgt : ∀ (d : Dev nD) (e : Fin 4), isEdge d e = true → par d ≠ tgt d e := by decide

/-- The signal to the child on edge e. -/
theorem step_signal (κ : GSem nD τ sig → ℕ) (d : Dev nD) (e : Fin 4) {cond : BitVec 1} (hc : cond = 1#1 ↔ isEdge d e = true)
    {dv : cond = 1#1 → Dev nD} (hdv : ∀ h, dv h = tgt d e) {s : Sem sig} (hs : s = barS) :
    iprop(invs m κ ∗ OwS d e.val ∗ SigE d e)
      ⊢ iprop((OwS d (e.val + 1) -∗ Q ⟨⟩) -∗ wp frame (wpE (defs₀ (F := F)) 𝒱₀ (d : Thread nD τ) none) Set.univ
          (if h : cond = 1#1 then (do
            semSignalWord (dv h) s 1#32
            pure ⟨⟩) else (do pure ⟨⟩)) Q) := by
  have hp := pay_signal d e
  by_cases h : isEdge d e = true
  · rw [if_pos h] at hp
    subst hs
    rw [dif_pos (hc.mpr h), hdv]
    unfold OwS SigE
    rw [if_pos h, Ow_active d (by omega) hp]
    simp only [semSignalWord, Prog.bind_op, Prog.bind_ret, Prog.pure_eq_ret]
    iintro ⟨#HI, ⟨%W, HO⟩, Ht, Hr⟩ Hk
    iapply (Rounds.wp_signal 𝒱₀ ER (Rd m) (d : Thread nD τ) none (dst := (tgt d e : Thread nD τ)) (sem := barS) (r := 0) (d := d) (κ := κ (barC (tgt d e)))
        (by rw [duties_bar]; exact tgt_mem d e h) (amount_bar m (tgt d e) d) 1 (Ow d (e.val + 1)) rfl) $$ [HO Ht Hr]
    · isplitr; · iapply (inv_bar m κ (tgt d e)); iexact HI
      isplitl [HO]; · iexact HO
      isplitl [Ht]; · iexact Ht
      isplitr
      · rw [payload_bar]; unfold barPay; rw [if_neg (fun hh => par_ne_tgt d e h hh.1)]; iempintro
      · iexact Hr
    iintro HO
    rw [wp_ret]; imodintro
    iapply Hk
    iexists W; iexact HO
  · rw [if_neg h] at hp
    rw [OwS_idle d (by omega) hp]
    iintro ⟨#HI, HO, Ht⟩ Hk
    iapply (step_skip (fun hh => h (hc.mp hh)))
    iapply Hk; iexact HO

/-- The signal to the parent hands over the context buffer. -/
theorem step_parent (κ : GSem nD τ sig → ℕ) (d : Dev nD) {cond : BitVec 1} (hc : cond = 1#1 ↔ d ≠ 0)
    {dv : cond = 1#1 → Dev nD} (hdv : ∀ h, dv h = par d) {s : Sem sig} (hs : s = barS) :
    iprop(invs m κ ∗ OwS d 4 ∗ SigP d ∗ Slots d ∗ bigSep Finset.univ fun k : Fin 8 => reached ER (recvC d k) 0)
      ⊢ iprop(((OwS d 5 ∗ bigSep Finset.univ fun k : Fin 8 => Own d k) -∗ Q ⟨⟩) -∗ wp frame (wpE (defs₀ (F := F)) 𝒱₀ (d : Thread nD τ) none) Set.univ
          (if h : cond = 1#1 then (do
            semSignalWord (dv h) s 1#32
            pure ⟨⟩) else (do pure ⟨⟩)) Q) := by
  have hp := pay_parent d
  by_cases h : d = 0
  · rw [if_pos h] at hp
    rw [OwS_idle d (by omega) hp]
    unfold Slots Own
    simp only [if_pos h]
    iintro ⟨#HI, HO, Ht, Hs, Hr⟩ Hk
    iapply (step_skip (fun hh => hc.mp hh h))
    iapply Hk
    isplitl [HO]; · iexact HO
    iexact Hs
  · rw [if_neg h] at hp
    subst hs
    rw [dif_pos (hc.mpr h), hdv]
    unfold OwS SigP Slots Own
    simp only [if_neg h]
    rw [Ow_active d (by omega) hp]
    have hemp : (iprop(emp) : sProp 𝕄) ⊢ bigSep Finset.univ fun _ : Fin 8 => iprop(emp) := Entails.of_eq (bigSep_emp_const _).symm
    simp only [semSignalWord, Prog.bind_op, Prog.bind_ret, Prog.pure_eq_ret]
    iintro ⟨#HI, ⟨%W, HO⟩, ⟨Ht, Hr⟩, Hs, Hrr⟩ Hk
    iapply (Rounds.wp_signal 𝒱₀ ER (Rd m) (d : Thread nD τ) none (dst := (par d : Thread nD τ)) (sem := barS) (r := 0) (d := d) (κ := κ (barC (par d)))
        (by rw [duties_bar]; exact par_mem d h) (amount_bar m (par d) d) 1 (Ow d (4 + 1)) rfl) $$ [HO Ht Hr Hs Hrr]
    · isplitr; · iapply (inv_bar m κ (par d)); iexact HI
      isplitl [HO]; · iexact HO
      isplitl [Ht]; · iexact Ht
      isplitl [Hs Hrr]
      · rw [payload_bar]; unfold barPay handOver; rw [if_pos ⟨rfl, h⟩, bigSep_sep']
        isplitl [Hs]; · iexact Hs
        iexact Hrr
      · iexact Hr
    iintro HO
    rw [wp_ret]; imodintro
    iapply Hk
    isplitl [HO]; · iexists W; iexact HO
    iapply hemp; iempintro

/-- The barrier wait for u units, taken by the devices that expect u. -/
theorem step_bar (κ : GSem nD τ sig → ℕ) (d : Dev nD) (u : ℕ) (uw : BitVec 32) (huw : uw.toInt = u) {p : Prop} [Decidable p] (hp : ¬ (p ∧ deg d = u))
    {cond : BitVec 1} (hc : cond = 1#1 ↔ deg d = u) {s : Sem sig} (hs : s = barS) :
    iprop(invs m κ ∗ levAts (L 5) lv ∗ OwS d 5 ∗ BW d p)
      ⊢ iprop(((OwS d 5 ∗ BW d (p ∨ deg d = u)) -∗ Q ⟨⟩) -∗ wp frame (wpE (defs₀ (F := F)) 𝒱₀ (d : Thread nD τ) none) Set.univ
          (if h : cond = 1#1 then (do
            semWaitWord s uw
            pure ⟨⟩) else (do pure ⟨⟩)) Q) := by
  by_cases h : deg d = u
  · subst hs
    rw [dif_pos (hc.mpr h)]
    unfold OwS BW Kids
    rw [if_neg (fun hh => hp ⟨hh, h⟩), if_pos (Or.inr h)]
    simp only [semWaitWord, Prog.bind_op, Prog.bind_ret, Prog.pure_eq_ret]
    rw [huw]
    iintro ⟨#HI, #Hlev, ⟨%W, HO⟩, Hc, Hat⟩ Hk
    iapply (Rounds.wp_wait_rest_token 𝒱₀ ER (Rd m) (d : Thread nD τ) none (κ := κ (barC d))
        (wpE_semWait_eq 𝒱₀ (d : Thread nD τ) none Set.univ) (Set.mem_univ _) 1 (O := Ow d 5) (W := W) (R := 0) (m := 0) (T := ∅)
        ((Nat.zero_add _).trans (h.symm.trans (expect_bar m d).symm))) $$ [Hc HO Hat]
    · isplitr; · iapply (inv_bar m κ d); iexact HI
      isplitl [Hc]; · rw [h]; iexact Hc
      isplitl [HO]; · iexact HO
      isplitr; · iapply (mayWait_bar d 5 le_rfl); iexact Hlev
      iexact Hat
    iintro ⟨HO, Hat, -, Hpay⟩
    rw [wp_ret]; imodintro
    iapply Hk
    isplitl [HO]; · iexists _; iexact HO
    isplitl [Hat]; · iexact Hat
    iapply (rest_bar m d); iexact Hpay
  · have hb : (BW d p : sProp 𝕄) ⊢ BW d (p ∨ deg d = u) := by
      unfold BW
      by_cases hh : p
      · rw [if_pos hh, if_pos (Or.inl hh)]
      · rw [if_neg hh, if_neg (fun h' => h'.elim hh h)]
    iintro ⟨#HI, #Hlev, HO, Hb⟩ Hk
    iapply (step_skip (fun hh => h (hc.mp hh)))
    iapply Hk
    isplitl [HO]; · iexact HO
    iapply hb; iexact Hb

/-! ## The chunks -/

/-- A chunk arrives: the root stored it, the others wait for its copy. -/
theorem step_recv (κ : GSem nD τ sig → ℕ) (d : Dev nD) (k : Fin 8) {n : ℕ} (hn : 5 ≤ n) {cond : BitVec 1} (hc : cond = 1#1 ↔ d ≠ 0)
    {s : DmaSem sig} (hs : s = recvS k) {M M' : Memref sig .tc .vmem S256x64 .bf16} (hM : M' = slotM (offK_inb k))
    {w1 : M.view.WordExact} {w2 : M'.view.WordExact} :
    iprop(invs m κ ∗ levAts (L 5) lv ∗ OwS d n ∗ SA (OwnD m d k) d k)
      ⊢ iprop(((OwS d n ∗ SB m d k 0 0) -∗ Q ⟨⟩) -∗ wp frame (wpE (defs₀ (F := F)) 𝒱₀ (d : Thread nD τ) none) Set.univ
          (if h : cond = 1#1 then (do
            Prog.lift (.waitDma2 s M M' w1 w2)
            pure ⟨⟩) else (do pure ⟨⟩)) Q) := by
  have hB : (iprop(pts d k fullShare (ctx m) ∗ atPos ER (recvC d k) (if d = 0 then 0 else 1) ∅ 0
      ∗ bigSepL (List.finRange 4) fun e => iprop(Tk d k e ∗ atPos ER (sendC d e k) 0 ∅ 0 ∗ reached ER (sendC d e k) 0)) : sProp 𝕄) ⊢ SB m d k 0 0 := by
    unfold SB Ed
    simp only [Nat.not_lt_zero, if_false, if_true]
    iintro ⟨Hp, Hat, Hr⟩
    ihave Hp := ((pts_split d k (ctx m)).1) $$ Hp
    icases Hp with ⟨HK, HS⟩
    isplitl [HK]; · iexact HK
    isplitl [Hat]; · iexact Hat
    iapply (Entails.of_eq (edge_sep _ _).symm)
    isplitl [HS]; · iexact HS
    iexact Hr
  by_cases h : d = 0
  · unfold SA OwnD
    rw [if_pos h]
    iintro ⟨#HI, #Hlev, HO, Hp, -, Hat, Hr⟩ Hk
    iapply (step_skip (fun hh => hc.mp hh h))
    iapply Hk
    isplitl [HO]; · iexact HO
    iapply hB
    isplitl [Hp]; · iexact Hp
    isplitl [Hat]; · rw [if_pos h]; iexact Hat
    iexact Hr
  · subst hs hM
    rw [dif_pos (hc.mpr h)]
    unfold SA OwS Crd
    rw [if_neg h]
    simp only [Prog.lift, Prog.bind_op, Prog.bind_ret, Prog.pure_eq_ret]
    iintro ⟨#HI, #Hlev, ⟨%W, HO⟩, -, Hc, Hat, Hr⟩ Hk
    iapply (Rounds.wp_wait_rest_token 𝒱₀ ER (Rd m) (d : Thread nD τ) none (κ := κ (recvC d k))
        (wpE_waitDma2_eq (hsrc := w1) (hdst := w2) 𝒱₀ (d : Thread nD τ) none Set.univ) (Set.mem_univ _) (lvl d) (O := Ow d n) (W := W) (R := 0) (m := 0) (T := ∅)
        ((Nat.zero_add _).trans (expect_recv m d k h).symm)) $$ [Hc HO Hat]
    · isplitr; · iapply (inv_recv m κ d k); iexact HI
      isplitl [Hc]; · iexact Hc
      isplitl [HO]; · iexact HO
      isplitr; · iapply (mayWait_recv d k n hn h); iexact Hlev
      iexact Hat
    iintro ⟨HO, Hat, -, Hpay⟩
    ihave Hp := (Entails.of_eq (rest_recv m d k h)) $$ Hpay
    rw [wp_ret]; imodintro
    iapply Hk
    isplitl [HO]; · iexists _; iexact HO
    iapply hB
    isplitl [Hp]; · iexact Hp
    isplitl [Hat]; · rw [if_neg h]; iexact Hat
    iexact Hr

/-- The copy of chunk k along edge e. -/
theorem step_send (κ : GSem nD τ sig → ℕ) (d : Dev nD) (k : Fin 8) (e : Fin 4) {n n' : ℕ} (hn : n = 5 + 4 * k.val + e.val) (hn' : n' = n + 1)
    {a a' : ℕ} (ha : a = e.val) (ha' : a' = e.val + 1)
    {cond : BitVec 1} (hc : cond = 1#1 ↔ isEdge d e = true)
    {dv : cond = 1#1 → Dev nD} (hdv : ∀ h, dv h = tgt d e) {sS sV : DmaSem sig} (hsS : sS = sendS e k) (hsV : sV = recvS k)
    {M M' : Memref sig .tc .vmem S256x64 .bf16} (hM : M = slotM (offK_inb k)) (hM' : M' = slotM (offK_inb k))
    {w1 : M.view.WordExact} {w2 : M'.view.WordExact} {hsc : M'.view.ref.isScScratch = false}
    {hsem : ∀ h, DmaTarget.Typed .vmem (.dma sV) (.remote (Dev.tc (dv h) : Thread nD τ) M' (.dma sS) hsc)} :
    iprop(invs m κ ∗ OwS d n ∗ SB m d k a 0)
      ⊢ iprop(((OwS d n' ∗ SB m d k a' 0) -∗ Q ⟨⟩) -∗ wp frame (wpE (defs₀ (F := F)) 𝒱₀ (d : Thread nD τ) none) Set.univ
          (if h : cond = 1#1 then (do
            Prog.lift (.enqueueDma M (.remote (Dev.tc (dv h)) M' (.dma sS) hsc) (.dma sV) w1 w2 (hsem h))
            pure ⟨⟩) else (do pure ⟨⟩)) Q) := by
  subst hn' ha ha' hsS hsV hM hM'
  have hp := pay_send d k e
  rw [← hn] at hp
  have hn37 : n < 37 := by omega
  have turn := edge_turn (F := F) (Φ := fun j : Fin 4 => Ed m d k j (if j.val < 0 then 2 else if j.val < e.val then 1 else 0))
    (Ψ := fun j : Fin 4 => Ed m d k j (if j.val < 0 then 2 else if j.val < e.val + 1 then 1 else 0)) e
    (fun j hj => by
      have : j.val ≠ e.val := fun h => hj (Fin.ext h)
      have : (j.val < e.val + 1) = (j.val < e.val) := propext (by omega)
      simp only [this])
  simp only [Nat.not_lt_zero, if_false, lt_irrefl, Nat.lt_succ_self, if_true] at turn
  unfold SB
  simp only [Nat.not_lt_zero, if_false]
  by_cases h : isEdge d e = true
  · rw [if_pos h] at hp
    rw [dif_pos (hc.mpr h)]
    have hdv' := hdv (hc.mpr h)
    generalize hsem (hc.mpr h) = hsem'
    revert hsem'
    rw [hdv']
    intro hsem'
    unfold OwS
    rw [Ow_active d hn37 hp]
    simp only [Prog.lift, Prog.bind_op, Prog.bind_ret, Prog.pure_eq_ret]
    have e0 : (Ed m d k e 0 : sProp 𝕄) = iprop(pts d k (qS e) (ctx m) ∗ ((∃ f, pts (tgt d e) k fullShare f) ∗ dutyTok ER (sendC d e k) 0 d ∗ dutyTok ER (recvC (tgt d e) k) 0 d
        ∗ reached ER (recvC (tgt d e) k) 0) ∗ atPos ER (sendC d e k) 0 ∅ 0 ∗ reached ER (sendC d e k) 0) := by
      unfold Ed Tk; rw [if_pos rfl, if_pos h]
    have e1 : (Ed m d k e 1 : sProp 𝕄) = iprop(cred (tallyAt (sendC d e k) 4 NC) ∗ atPos ER (sendC d e k) 0 ∅ 0) := by
      unfold Ed; rw [if_neg (by decide), if_pos rfl, if_pos h]
    rw [e0, e1] at turn
    have ptsM : ∀ (d' : Dev nD) (q : PosShare TreeShare) (f : Ctx F),
        (pts d' k q f : sProp 𝕄) = (((slotM (offK_inb k)).view.loc (d' : Thread nD τ)) ↦[(slotM (offK_inb k)).view.set]{q} f) := fun d' q f => by
      rw [slotM_set]
    iintro ⟨#HI, ⟨%W, HO⟩, HK, HatV, HE⟩ Hk
    ihave HE := turn $$ HE
    icases HE with ⟨⟨Hs, ⟨⟨%fd, Ht⟩, HtS, HtV, HrV⟩, Hat, HrS⟩, Hback⟩
    ihave Hs := (Entails.of_eq (ptsM d (qS e) (ctx m))) $$ Hs
    ihave Ht := (Entails.of_eq (ptsM (tgt d e) fullShare fd)) $$ Ht
    iapply (Rounds.wp_send_pointsTo 𝒱₀ ER (Rd m) (d : Thread nD τ) none (c' := (tgt d e : Thread nD τ)) (src := slotM (offK_inb k)) (dst := slotM (offK_inb k))
        (sS := .dma (sendS e k)) (sem := .dma (recvS k)) (q := qS e) (fs := ctx m) (κ₁ := κ (sendC d e k)) (κ₂ := κ (recvC (tgt d e) k))
        (r₁ := 0) (r₂ := 0) (d₁ := d) (d₂ := d) (fd := fd)
        (by rw [duties_send m d e k h]; exact Finset.mem_singleton_self _)
        (by rw [duties_recv m (tgt d e) k (par_tgt d e h).2, (par_tgt d e h).1]; exact Finset.mem_singleton_self _)
        (lvl (tgt d e)) 4 NC rfl (amount_send m d e k d) (amount_recv m (tgt d e) k d) (Ow d (n + 1)) rfl (W := W)
        (by rw [payload_send]; exact Entails.of_eq (ptsM d (qS e) (ctx m)).symm)
        (by rw [payload_recv]; exact Entails.of_eq (copied (tgt d e) k fullShare fd (ctx m)))) $$ [Hs Ht HO HtS HrS HtV HrV]
    · isplitr; · iapply (inv_send m κ d e k); iexact HI
      isplitr; · iapply (inv_recv m κ (tgt d e) k); iexact HI
      isplitl [Hs]; · iexact Hs
      isplitl [Ht]; · iexact Ht
      isplitl [HO]; · iexact HO
      isplitl [HtS]; · iexact HtS
      isplitl [HrS]; · iexact HrS
      isplitl [HtV]; · iexact HtV
      iexact HrV
    iintro ⟨HcS, HO⟩
    rw [wp_ret]; imodintro
    iapply Hk
    isplitl [HO]; · iexists W; iexact HO
    isplitl [HK]; · iexact HK
    isplitl [HatV]; · iexact HatV
    iapply Hback
    isplitl [HcS]; · iexact HcS
    iexact Hat
  · rw [if_neg h] at hp
    rw [OwS_idle d hn37 hp]
    have e01 : (Ed m d k e 0 : sProp 𝕄) ⊢ Ed m d k e 1 := by
      unfold Ed; rw [if_pos rfl, if_neg (by decide), if_pos rfl, if_neg h]
      iintro ⟨H, -, Hat, -⟩
      isplitl [H]; · iexact H
      iexact Hat
    iintro ⟨#HI, HO, HK, HatV, HE⟩ Hk
    ihave HE := turn $$ HE
    icases HE with ⟨H0, Hback⟩
    iapply (step_skip (fun hh => h (hc.mp hh)))
    iapply Hk
    isplitl [HO]; · iexact HO
    isplitl [HK]; · iexact HK
    isplitl [HatV]; · iexact HatV
    iapply Hback
    iapply e01; iexact H0

/-- The wait for the copy of chunk k along edge e. -/
theorem step_sent (κ : GSem nD τ sig → ℕ) (d : Dev nD) (k : Fin 8) (e : Fin 4) {a a' : ℕ} (ha : a = e.val) (ha' : a' = e.val + 1)
    {cond : BitVec 1} (hc : cond = 1#1 ↔ isEdge d e = true)
    {s : DmaSem sig} (hs : s = sendS e k) {M M' : Memref sig .tc .vmem S256x64 .bf16} (hM : M' = slotM (offK_inb k))
    {w1 : M.view.WordExact} {w2 : M'.view.WordExact} :
    iprop(invs m κ ∗ OwS d 37 ∗ SB m d k 4 a)
      ⊢ iprop(((OwS d 37 ∗ SB m d k 4 a') -∗ Q ⟨⟩) -∗ wp frame (wpE (defs₀ (F := F)) 𝒱₀ (d : Thread nD τ) none) Set.univ
          (if h : cond = 1#1 then (do
            Prog.lift (.waitDma2 s M M' w1 w2)
            pure ⟨⟩) else (do pure ⟨⟩)) Q) := by
  subst ha ha' hs hM
  have turn := edge_turn (F := F) (Φ := fun j : Fin 4 => Ed m d k j (if j.val < e.val then 2 else if j.val < 4 then 1 else 0))
    (Ψ := fun j : Fin 4 => Ed m d k j (if j.val < e.val + 1 then 2 else if j.val < 4 then 1 else 0)) e
    (fun j hj => by
      have : j.val ≠ e.val := fun h => hj (Fin.ext h)
      have : (j.val < e.val + 1) = (j.val < e.val) := propext (by omega)
      simp only [this])
  simp only [e.isLt, lt_irrefl, if_false, Nat.lt_succ_self, if_true] at turn
  unfold SB
  by_cases h : isEdge d e = true
  · rw [dif_pos (hc.mpr h)]
    have e1 : (Ed m d k e 1 : sProp 𝕄) = iprop(cred (tallyAt (sendC d e k) 4 NC) ∗ atPos ER (sendC d e k) 0 ∅ 0) := by
      unfold Ed; rw [if_neg (by decide), if_pos rfl, if_pos h]
    have e2 : (Ed m d k e 2 : sProp 𝕄) = iprop(pts d k (qS e) (ctx m) ∗ atPos ER (sendC d e k) 1 ∅ 0) := by
      unfold Ed; rw [if_neg (by decide), if_neg (by decide), if_pos h]
    rw [e1, e2] at turn
    unfold OwS
    rw [Ow_end]
    simp only [Prog.lift, Prog.bind_op, Prog.bind_ret, Prog.pure_eq_ret]
    iintro ⟨#HI, ⟨%W, HO⟩, HK, HatV, HE⟩ Hk
    ihave HE := turn $$ HE
    icases HE with ⟨⟨Hc, Hat⟩, Hback⟩
    iapply (Rounds.wp_wait_rest_token 𝒱₀ ER (Rd m) (d : Thread nD τ) none (κ := κ (sendC d e k))
        (wpE_waitDma2_eq (hsrc := w1) (hdst := w2) 𝒱₀ (d : Thread nD τ) none Set.univ) (Set.mem_univ _) 4 (O := 0) (W := W) (R := 0) (m := 0) (T := ∅)
        ((Nat.zero_add _).trans (expect_send m d e k h).symm)) $$ [Hc HO Hat]
    · isplitr; · iapply (inv_send m κ d e k); iexact HI
      isplitl [Hc]; · iexact Hc
      isplitl [HO]; · iexact HO
      isplitr; · rw [MayWait_zero]; iempintro
      iexact Hat
    iintro ⟨HO, Hat, -, Hpay⟩
    ihave Hp := (Entails.of_eq (rest_send m d e k h)) $$ Hpay
    rw [wp_ret]; imodintro
    iapply Hk
    isplitl [HO]; · iexists _; iexact HO
    isplitl [HK]; · iexact HK
    isplitl [HatV]; · iexact HatV
    iapply Hback
    isplitl [Hp]; · iexact Hp
    iexact Hat
  · have e12 : (Ed m d k e 1 : sProp 𝕄) ⊢ Ed m d k e 2 := by
      unfold Ed; rw [if_neg (by decide), if_pos rfl, if_neg h, if_neg (by decide), if_neg (by decide), if_neg h]
    iintro ⟨#HI, HO, HK, HatV, HE⟩ Hk
    ihave HE := turn $$ HE
    icases HE with ⟨H0, Hback⟩
    iapply (step_skip (fun hh => h (hc.mp hh)))
    iapply Hk
    isplitl [HO]; · iexact HO
    isplitl [HK]; · iexact HK
    isplitl [HatV]; · iexact HatV
    iapply Hback
    iapply e12; iexact H0

end Steps

end Cert.KernelIdeal.Talk

end
-- ==== Proof.Ideal.Compute.lean ====
/-
  The compute steps of the broadcast kernel's body: the root's queries, the root's context chunks, and each device's sums.
-/
module

public import proofs.«01_k».proof.Proof.Ideal.Steps

@[expose] public section

noncomputable section

namespace Cert.KernelIdeal.Talk

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.SiteBlocks (L lv Above mayWait_of)
open Idealize.ShloMosaic.TalkSites (Pay tallyL tallyL_append tallyL_pos credOf allPays launchCred_tallyL cred_tallyL)

variable {F : FTy → Type} [FloatOps F] [Named F]

open Idealize.ShloMosaic.ValueIdx (ix2 ix3 ix4 eq_ix3 eq_ix4)

local notation "𝕄" => MT nD τ sig ℕ (Elt F) ℕ UU ℕ

variable (m : Mem F)

/-! ## The buffers -/

abbrev xMm : Memref sig .tc .vmem S2x256x512 .f32 := Memref.whole cc0_stg0_0
abbrev wqMm : Memref sig .tc .vmem S512x256 .f32 := Memref.whole cc0_stg1_0
abbrev kMm : Memref sig .tc .vmem S2x256x256 .f32 := Memref.whole cc0_stg2_0
abbrev vMm : Memref sig .tc .vmem S2x256x256 .f32 := Memref.whole cc0_stg3_0
abbrev oMm : Memref sig .tc .vmem S2x256x512 .f32 := Memref.whole cc0_stg5_0
abbrev cMm : Memref sig .tc .vmem S2x4x256x64 .bf16 := Memref.whole cc0_scratch0
abbrev qMm : Memref sig .tc .vmem S2x256x256 .f32 := Memref.whole cc0_scratch1

/-! ## The staged arrays -/

abbrev xP (d : Dev nD) : sProp 𝕄 := ((d : Thread nD τ).loc cc0_stg0_0) ↦{fullShare} Xb m d
abbrev wqP (d : Dev nD) : sProp 𝕄 := ((d : Thread nD τ).loc cc0_stg1_0) ↦{fullShare} Wqb m d
abbrev kP (d : Dev nD) : sProp 𝕄 := ((d : Thread nD τ).loc cc0_stg2_0) ↦{fullShare} Kb m d
abbrev vP (d : Dev nD) : sProp 𝕄 := ((d : Thread nD τ).loc cc0_stg3_0) ↦{fullShare} Vb m d
abbrev woP (d : Dev nD) : sProp 𝕄 := ((d : Thread nD τ).loc cc0_stg4_0) ↦{fullShare} Wob m d
/-- The query scratch, at any contents; at the root, once computed, at the queries. -/
def QAny (d : Dev nD) : sProp 𝕄 := iprop(∃ f, ((d : Thread nD τ).loc cc0_scratch1) ↦{fullShare} f)
def QS (d : Dev nD) : sProp 𝕄 := iprop(∃ f, (((d : Thread nD τ).loc cc0_scratch1) ↦{fullShare} f) ∗ ⌜d = 0 → f = Qc m⌝)

/-- The sum after chunk k. -/
def oK (d : Dev nD) : Fin 8 → S1x256x512.Idx → Elt F .f32 := ![o0 m d, o1 m d, o2 m d, o3 m d, o4 m d, o5 m d, o6 m d, o7 m d]
/-- What batch b of the result reads as once n chunks are added: the last of its sums among them. -/
def PO (d : Dev nD) (n : ℕ) (b : Fin 2) (v : S1x256x512.Idx → Elt F .f32) : Prop :=
  ∀ k : Fin 8, k.val / 4 = b.val → k.val < n → (∀ k' : Fin 8, k'.val / 4 = b.val → k'.val < n → k'.val ≤ k.val) → v = oK m d k
def OutS (d : Dev nD) (n : ℕ) : sProp 𝕄 :=
  iprop(∃ f, (((d : Thread nD τ).loc cc0_stg5_0) ↦{fullShare} f) ∗ ⌜∀ b, PO m d n b (rd (xR b) f)⌝)

theorem OutS_end (d : Dev nD) : (OutS m d 8 : sProp 𝕄) ⊢ (((d : Thread nD τ).loc cc0_stg5_0) ↦{fullShare} outV m d) := by
  unfold OutS
  iintro ⟨%f, H, %hf⟩
  rw [eq_outV m d f (hf 0 3 (by decide) (by decide) (by decide)) (hf 1 7 (by decide) (by decide) (by decide))]
  iexact H

/-! ## Contents after a store -/

/-- Storing one batch leaves it reading as what is stored, and the other as before. -/
theorem out_same (b : Fin 2) (f : S2x256x512.Idx → Elt F .f32) (w : S1x256x512.Idx → Elt F .f32) :
    rd (xR b) ((oMm.access (xR b)).write (Elt F) f w Finset.univ) = w :=
  funext fun i => (View.write_emb_of_mem (v := oMm.access (xR b)) f w (Finset.mem_univ i)).trans rfl
theorem out_other (b b' : Fin 2) (hb : b' ≠ b) (f : S2x256x512.Idx → Elt F .f32) (w : S1x256x512.Idx → Elt F .f32) :
    rd (xR b') ((oMm.access (xR b)).write (Elt F) f w Finset.univ) = rd (xR b') f := by
  funext i
  refine View.write_of_not_mem (v := oMm.access (xR b)) f w Finset.univ ?_
  intro hm
  obtain ⟨x, -, hx⟩ := Finset.mem_map.mp hm
  have h0 : ((xR b).emb x) 0 = ((xR b').emb i) 0 := congrFun hx 0
  have h1 := congrArg Fin.val h0
  have hx0 : (x 0).val < 1 := (x 0).isLt
  have hi0 : (i 0).val < 1 := (i 0).isLt
  have h2 : b.val + 1 * (x 0).val = b'.val + 1 * (i 0).val := h1
  exact hb (Fin.ext (by omega))
theorem q_same (b : Fin 2) (f : S2x256x256.Idx → Elt F .f32) (w : S1x256x256.Idx → Elt F .f32) :
    rd (qR b) ((qMm.access (qR b)).write (Elt F) f w Finset.univ) = w :=
  funext fun i => (View.write_emb_of_mem (v := qMm.access (qR b)) f w (Finset.mem_univ i)).trans rfl
theorem q_other (b b' : Fin 2) (hb : b' ≠ b) (f : S2x256x256.Idx → Elt F .f32) (w : S1x256x256.Idx → Elt F .f32) :
    rd (qR b') ((qMm.access (qR b)).write (Elt F) f w Finset.univ) = rd (qR b') f := by
  funext i
  refine View.write_of_not_mem (v := qMm.access (qR b)) f w Finset.univ ?_
  intro hm
  obtain ⟨x, -, hx⟩ := Finset.mem_map.mp hm
  have h0 : ((qR b).emb x) 0 = ((qR b').emb i) 0 := congrFun hx 0
  have h1 := congrArg Fin.val h0
  have hx0 : (x 0).val < 1 := (x 0).isLt
  have hi0 : (i 0).val < 1 := (i 0).isLt
  have h2 : b.val + 1 * (x 0).val = b'.val + 1 * (i 0).val := h1
  exact hb (Fin.ext (by omega))

/-- The context buffer's chunk, as an access names its elements. -/
theorem acc_set (k : Fin 8) : (cMm.access (slotR (offK_inb k))).set = chunkSet k :=
  View.set_slice_whole _ _

/-- Storing a chunk of the context. -/
theorem ctx_stored (d : Dev nD) (k : Fin 8) (f : Ctx F) :
    (((d : Thread nD τ).loc cc0_scratch0) ↦[chunkSet k]{fullShare}
        ((cMm.access (slotR (offK_inb k))).write (Elt F) f (cv m k) Finset.univ) : sProp 𝕄)
      = pts d k fullShare (ctx m) := by
  unfold pts
  refine pointsTo_congr fun i hi => ?_
  rw [← acc_set] at hi
  obtain ⟨x, -, rfl⟩ := Finset.mem_map.mp hi
  refine (View.write_emb_of_mem (v := cMm.access (slotR (offK_inb k))) f (cv m k) (Finset.mem_univ x)).trans ?_
  exact (ctx_emb m k x).symm

theorem acc_sub (k : Fin 8) : (cMm.access (slotR (offK_inb k))).set ⊆ chunkSet k := fun _ h => by rw [acc_set] at h; exact h

section Steps

variable {Q : PUnit → sProp (MT nD τ sig ℕ (Elt F) ℕ UU ℕ)}

/-- The root's queries. -/
theorem step_q (d : Dev nD) {cond : BitVec 1} (hc : cond = 1#1 ↔ d = 0)
    {l1 : xMm.view.LoadsAt (xR 0).toLoadRect}
    {l1' : xMm.view.LoadsAt (xR 1).toLoadRect}
    {l2 l2' : wqMm.view.LoadsAt wqR.toLoadRect}
    {l3 : qMm.view.LoadsAt (qR 0).toLoadRect}
    {l3' : qMm.view.LoadsAt (qR 1).toLoadRect}
    {hx : (qMm.access (qR 0)).Stores Finset.univ}
    {hx' : (qMm.access (qR 1)).Stores Finset.univ}
    {hm : (Finset.univ : Finset (qR 0).shape.Idx) = Finset.univ ∨ ∀ a, (qR 0).stride a = 1}
    {hm' : (Finset.univ : Finset (qR 1).shape.Idx) = Finset.univ ∨ ∀ a, (qR 1).stride a = 1} :
    iprop(xP m d ∗ wqP m d ∗ QAny d)
      ⊢ iprop(((xP m d ∗ wqP m d ∗ QS m d) -∗ Q ⟨⟩) -∗ wp frame (wpE (defs₀ (F := F)) 𝒱₀ (d : Thread nD τ) none) Set.univ
          (if h : cond = 1#1 then (do
            let v416 : Vec F S1x256x512 .f32 ← Prog.lift (.load xMm (xR 0).toLoadRect l1)
            let v418 : Vec F S512x256 .f32 ← Prog.lift (.load wqMm wqR.toLoadRect l2)
            let v421 : Vec F S1x256x256 .f32 ← Prog.lift (.load qMm (qR 0).toLoadRect l3)
            Prog.lift (.store qMm (qR 0) (Gen.k0_pay1 v416 v418) Finset.univ hx hm)
            let v424 : Vec F S1x256x512 .f32 ← Prog.lift (.load xMm (xR 1).toLoadRect l1')
            let v426 : Vec F S512x256 .f32 ← Prog.lift (.load wqMm wqR.toLoadRect l2')
            let v429 : Vec F S1x256x256 .f32 ← Prog.lift (.load qMm (qR 1).toLoadRect l3')
            Prog.lift (.store qMm (qR 1) (Gen.k0_pay2 v424 v426) Finset.univ hx' hm')
            pure ⟨⟩) else (do pure ⟨⟩)) Q) := by
  by_cases h : d = 0
  · subst h
    rw [dif_pos (hc.mpr rfl)]
    unfold QAny QS
    simp only [Prog.lift, Prog.bind_op, Prog.bind_ret, Prog.pure_eq_ret]
    iintro ⟨Hx, Hw, ⟨%f, Hq⟩⟩ Hk
    iapply (wp_load_rect 𝒱₀ ((0 : Dev nD) : Thread nD τ) none Set.univ (m := xMm) (r := xR 0) (Finset.subset_univ _)) $$ Hx; iintro Hx
    iapply (wp_load_rect 𝒱₀ ((0 : Dev nD) : Thread nD τ) none Set.univ (m := wqMm) (r := wqR) (Finset.subset_univ _)) $$ Hw; iintro Hw
    iapply (wp_load_rect 𝒱₀ ((0 : Dev nD) : Thread nD τ) none Set.univ (m := qMm) (r := qR 0) (Finset.subset_univ _)) $$ Hq; iintro Hq
    iapply (wp_store 𝒱₀ ((0 : Dev nD) : Thread nD τ) none Set.univ (m := qMm) (r := qR 0) (Finset.subset_univ _)) $$ Hq; iintro Hq
    iapply (wp_load_rect 𝒱₀ ((0 : Dev nD) : Thread nD τ) none Set.univ (m := xMm) (r := xR 1) (Finset.subset_univ _)) $$ Hx; iintro Hx
    iapply (wp_load_rect 𝒱₀ ((0 : Dev nD) : Thread nD τ) none Set.univ (m := wqMm) (r := wqR) (Finset.subset_univ _)) $$ Hw; iintro Hw
    iapply (wp_load_rect 𝒱₀ ((0 : Dev nD) : Thread nD τ) none Set.univ (m := qMm) (r := qR 1) (Finset.subset_univ _)) $$ Hq; iintro Hq
    iapply (wp_store 𝒱₀ ((0 : Dev nD) : Thread nD τ) none Set.univ (m := qMm) (r := qR 1) (Finset.subset_univ _)) $$ Hq; iintro Hq
    rw [wp_ret]; imodintro
    iapply Hk
    isplitl [Hx]; · iexact Hx
    isplitl [Hw]; · iexact Hw
    iexists _
    isplitl [Hq]; · iexact Hq
    ipureintro
    intro _
    refine eq_Qc m _ fun b => ?_
    match b with
    | ⟨0, _⟩ =>
      refine (q_other 1 0 (by decide) _ _).trans ((q_same 0 f _).trans ?_)
      rfl
    | ⟨1, _⟩ =>
      refine (q_same 1 _ _).trans ?_
      rfl
  · have hq : (QAny d : sProp 𝕄) ⊢ QS m d := by
      unfold QAny QS
      iintro ⟨%f, H⟩
      iexists f
      isplitl [H]; · iexact H
      ipureintro; exact fun hh => absurd hh h
    iintro ⟨Hx, Hw, Hq⟩ Hk
    iapply (step_skip (fun hh => h (hc.mp hh)))
    iapply Hk
    isplitl [Hx]; · iexact Hx
    isplitl [Hw]; · iexact Hw
    iapply hq; iexact Hq

/-- The root's chunk k. -/
theorem step_chunk (d : Dev nD) (k : Fin 8) {cond : BitVec 1} (hc : cond = 1#1 ↔ d = 0)
    {pay : Vec F S1x256x64 .f32 → Vec F S1x256x64 .f32 → Vec F S1x256x64 .f32 → FVec F S1x1x256x64 .bf16}
    (hpay : ∀ a b c, pay a b c = Gen.k0_pay10 maskV a b c)
    {l1 : qMm.view.LoadsAt (hR k).toLoadRect}
    {l2 : kMm.view.LoadsAt (hR k).toLoadRect}
    {l3 : vMm.view.LoadsAt (hR k).toLoadRect}
    {l4 : cMm.view.LoadsAt (slotR (offK_inb k)).toLoadRect}
    {hx : (cMm.access (slotR (offK_inb k))).Stores Finset.univ}
    {hm : (Finset.univ : Finset (slotR (offK_inb k)).shape.Idx) = Finset.univ ∨ ∀ a, (slotR (offK_inb k)).stride a = 1} :
    iprop(QS m d ∗ kP m d ∗ vP m d ∗ SA (Own d k) d k)
      ⊢ iprop(((QS m d ∗ kP m d ∗ vP m d ∗ SA (OwnD m d k) d k) -∗ Q ⟨⟩) -∗ wp frame (wpE (defs₀ (F := F)) 𝒱₀ (d : Thread nD τ) none) Set.univ
          (if h : cond = 1#1 then (do
            let v416 : Vec F S1x256x64 .f32 ← Prog.lift (.load qMm (hR k).toLoadRect l1)
            let v418 : Vec F S1x256x64 .f32 ← Prog.lift (.load kMm (hR k).toLoadRect l2)
            let v420 : Vec F S1x256x64 .f32 ← Prog.lift (.load vMm (hR k).toLoadRect l3)
            let v436 : Vec F S1x1x256x64 .bf16 ← Prog.lift (.load cMm (slotR (offK_inb k)).toLoadRect l4)
            Prog.lift (.store cMm (slotR (offK_inb k)) (pay v416 v418 v420) Finset.univ hx hm)
            pure ⟨⟩) else (do pure ⟨⟩)) Q) := by
  by_cases h : d = 0
  · subst h
    rw [dif_pos (hc.mpr rfl)]
    unfold QS SA Own OwnD
    simp only [if_true]
    simp only [Prog.lift, Prog.bind_op, Prog.bind_ret, Prog.pure_eq_ret]
    iintro ⟨⟨%f, Hq, %hf⟩, HK, HV, ⟨%g, Hp⟩, Hr⟩ Hk
    obtain rfl := hf trivial
    iapply (wp_load_rect 𝒱₀ ((0 : Dev nD) : Thread nD τ) none Set.univ (m := qMm) (r := hR k) (Finset.subset_univ _)) $$ Hq; iintro Hq
    iapply (wp_load_rect 𝒱₀ ((0 : Dev nD) : Thread nD τ) none Set.univ (m := kMm) (r := hR k) (Finset.subset_univ _)) $$ HK; iintro HK
    iapply (wp_load_rect 𝒱₀ ((0 : Dev nD) : Thread nD τ) none Set.univ (m := vMm) (r := hR k) (Finset.subset_univ _)) $$ HV; iintro HV
    iapply (wp_load_rect 𝒱₀ ((0 : Dev nD) : Thread nD τ) none Set.univ (m := cMm) (r := slotR (offK_inb k)) (S := chunkSet k) (acc_sub k)) $$ Hp; iintro Hp
    iapply (wp_store 𝒱₀ ((0 : Dev nD) : Thread nD τ) none Set.univ (m := cMm) (r := slotR (offK_inb k)) (S := chunkSet k) (acc_sub k)) $$ Hp; iintro Hp
    rw [hpay]
    have hw : Gen.k0_pay10 maskV (View.read (Elt F) (qMm.access (hR k)) (Qc m)) (View.read (Elt F) (kMm.access (hR k)) (Kb m 0))
        (View.read (Elt F) (vMm.access (hR k)) (Vb m 0)) = cv m k := rfl
    ihave Hp := (Entails.of_eq ((congrArg (fun w => ((((0 : Dev nD) : Thread nD τ).loc cc0_scratch0) ↦[chunkSet k]{fullShare}
        ((cMm.access (slotR (offK_inb k))).write (Elt F) g w Finset.univ) : sProp 𝕄)) hw).trans (ctx_stored m 0 k g))) $$ Hp
    rw [wp_ret]; imodintro
    iapply Hk
    isplitl [Hq]
    · iexists _
      isplitl [Hq]; · iexact Hq
      ipureintro; exact fun _ => rfl
    isplitl [HK]; · iexact HK
    isplitl [HV]; · iexact HV
    isplitl [Hp]; · iexact Hp
    iexact Hr
  · have hp : (SA (Own d k) d k : sProp 𝕄) = SA (OwnD m d k) d k := by
      unfold Own OwnD; rw [if_neg h, if_neg h]
    rw [hp]
    iintro H Hk
    iapply (step_skip (fun hh => h (hc.mp hh)))
    iapply Hk; iexact H

theorem PO_step (d : Dev nD) (k : Fin 8) (b : Fin 2) (hb : b.val = k.val / 4) (f : S2x256x512.Idx → Elt F .f32) (w : S1x256x512.Idx → Elt F .f32)
    (hw : w = oK m d k) (hf : ∀ b, PO m d k.val b (rd (xR b) f)) :
    ∀ b', PO m d (k.val + 1) b' (rd (xR b') ((oMm.access (xR b)).write (Elt F) f w Finset.univ)) := by
  intro b' k' h1 h2 h3
  by_cases hbb : b' = b
  · subst hbb
    have h4 := h3 k hb.symm (Nat.lt_succ_self _)
    have h5 : k' = k := Fin.ext (by omega)
    rw [out_same, hw, h5]
  · rw [out_other b b' hbb]
    have hne : b'.val ≠ b.val := fun h => hbb (Fin.ext h)
    have hkk : k'.val ≠ k.val := fun h => by rw [h] at h1; omega
    exact hf b' k' h1 (by omega) fun k'' h6 h7 => h3 k'' h6 (by omega)

variable {α : Type} {Qa : α → sProp (MT nD τ sig ℕ (Elt F) ℕ UU ℕ)}

/-- A batch's first sum. -/
theorem step_out (d : Dev nD) (k : Fin 8) (b : Fin 2) (hb : b.val = k.val / 4) {n n' : ℕ} (hn : n = k.val) (hn' : n' = k.val + 1) {a w : ℕ}
    {pay : Vec F S1x1x256x64 .bf16 → FVec F S1x256x512 .f32} (hpay : pay (cr m k) = oK m d k)
    {l1 : cMm.view.LoadsAt (slotR (offK_inb k)).toLoadRect}
    {l2 : oMm.view.LoadsAt (xR b).toLoadRect}
    {hx : (oMm.access (xR b)).Stores Finset.univ}
    {hm : (Finset.univ : Finset (xR b).shape.Idx) = Finset.univ ∨ ∀ a, (xR b).stride a = 1}
    {kk : Prog (TpuEff nD τ sig (Elt F) Λ₀ .tc) α} :
    iprop(SB m d k a w ∗ OutS m d n)
      ⊢ iprop(((SB m d k a w ∗ OutS m d n') -∗ wp frame (wpE (defs₀ (F := F)) 𝒱₀ (d : Thread nD τ) none) Set.univ kk Qa)
          -∗ wp frame (wpE (defs₀ (F := F)) 𝒱₀ (d : Thread nD τ) none) Set.univ
          (do
            let v120 : Vec F S1x1x256x64 .bf16 ← Prog.lift (.load cMm (slotR (offK_inb k)).toLoadRect l1)
            let v124 : Vec F S1x256x512 .f32 ← Prog.lift (.load oMm (xR b).toLoadRect l2)
            Prog.lift (.store oMm (xR b) (pay v120) Finset.univ hx hm)
            kk) Qa) := by
  subst hn hn'
  unfold SB OutS
  simp only [Prog.lift, Prog.bind_op, Prog.bind_ret]
  iintro ⟨⟨Hp, Hr⟩, ⟨%f, Ho, %hf⟩⟩ Hk
  iapply (wp_load_rect 𝒱₀ (d : Thread nD τ) none Set.univ (m := cMm) (r := slotR (offK_inb k)) (S := chunkSet k) (acc_sub k)) $$ Hp; iintro Hp
  iapply (wp_load_rect 𝒱₀ (d : Thread nD τ) none Set.univ (m := oMm) (r := xR b) (Finset.subset_univ _)) $$ Ho; iintro Ho
  iapply (wp_store 𝒱₀ (d : Thread nD τ) none Set.univ (m := oMm) (r := xR b) (Finset.subset_univ _)) $$ Ho; iintro Ho
  iapply Hk
  isplitl [Hp Hr]
  · isplitl [Hp]; · iexact Hp
    iexact Hr
  iexists _
  isplitl [Ho]; · iexact Ho
  ipureintro
  exact PO_step m d k b hb f _ hpay hf

/-- A later sum. -/
theorem step_add (d : Dev nD) (k k₀ : Fin 8) (hk : k.val = k₀.val + 1) (b : Fin 2) (hb : b.val = k.val / 4) (hb₀ : b.val = k₀.val / 4)
    {n n' : ℕ} (hn : n = k.val) (hn' : n' = k.val + 1) {a w : ℕ}
    {pay : Vec F S1x1x256x64 .bf16 → Vec F S1x256x512 .f32 → FVec F S1x256x512 .f32} (hpay : pay (cr m k) (oK m d k₀) = oK m d k)
    {l1 : cMm.view.LoadsAt (slotR (offK_inb k)).toLoadRect}
    {l2 l2' : oMm.view.LoadsAt (xR b).toLoadRect}
    {hx : (oMm.access (xR b)).Stores Finset.univ}
    {hm : (Finset.univ : Finset (xR b).shape.Idx) = Finset.univ ∨ ∀ a, (xR b).stride a = 1}
    {kk : Prog (TpuEff nD τ sig (Elt F) Λ₀ .tc) α} :
    iprop(SB m d k a w ∗ OutS m d n)
      ⊢ iprop(((SB m d k a w ∗ OutS m d n') -∗ wp frame (wpE (defs₀ (F := F)) 𝒱₀ (d : Thread nD τ) none) Set.univ kk Qa)
          -∗ wp frame (wpE (defs₀ (F := F)) 𝒱₀ (d : Thread nD τ) none) Set.univ
          (do
            let v145 : Vec F S1x1x256x64 .bf16 ← Prog.lift (.load cMm (slotR (offK_inb k)).toLoadRect l1)
            let v149 : Vec F S1x256x512 .f32 ← Prog.lift (.load oMm (xR b).toLoadRect l2)
            let v152 : Vec F S1x256x512 .f32 ← Prog.lift (.load oMm (xR b).toLoadRect l2')
            Prog.lift (.store oMm (xR b) (pay v145 v149) Finset.univ hx hm)
            kk) Qa) := by
  subst hn hn'
  unfold SB OutS
  simp only [Prog.lift, Prog.bind_op, Prog.bind_ret]
  iintro ⟨⟨Hp, Hr⟩, ⟨%f, Ho, %hf⟩⟩ Hk
  iapply (wp_load_rect 𝒱₀ (d : Thread nD τ) none Set.univ (m := cMm) (r := slotR (offK_inb k)) (S := chunkSet k) (acc_sub k)) $$ Hp; iintro Hp
  iapply (wp_load_rect 𝒱₀ (d : Thread nD τ) none Set.univ (m := oMm) (r := xR b) (Finset.subset_univ _)) $$ Ho; iintro Ho
  iapply (wp_load_rect 𝒱₀ (d : Thread nD τ) none Set.univ (m := oMm) (r := xR b) (Finset.subset_univ _)) $$ Ho; iintro Ho
  iapply (wp_store 𝒱₀ (d : Thread nD τ) none Set.univ (m := oMm) (r := xR b) (Finset.subset_univ _)) $$ Ho; iintro Ho
  iapply Hk
  isplitl [Hp Hr]
  · isplitl [Hp]; · iexact Hp
    iexact Hr
  iexists _
  isplitl [Ho]; · iexact Ho
  ipureintro
  have hv : rd (xR b) f = oK m d k₀ := hf b k₀ hb₀.symm (by omega) fun k' _ h2 => by omega
  refine PO_step m d k b hb f _ ?_ hf
  rw [← hpay, ← hv]
  rfl

end Steps

end Cert.KernelIdeal.Talk

end
-- ==== Proof.Ideal.Conds.lean ====
/-
  The conditions the broadcast kernel prints, and the devices it names, in terms of the tree.
-/
module

public import proofs.«01_k».proof.Proof.Ideal.Compute

@[expose] public section

noncomputable section

namespace Cert.KernelIdeal.Talk

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.SiteBlocks (L lv Above mayWait_of)
open Idealize.ShloMosaic.TalkSites (Pay tallyL tallyL_append tallyL_pos credOf allPays launchCred_tallyL cred_tallyL)

variable {F : FTy → Type} [FloatOps F] [Named F]

open Idealize.ShloMosaic.ValueIdx (ix2 ix3 ix4 eq_ix3 eq_ix4)

/-! ## The values the kernel computes of its device -/

abbrev V2 (d : Dev nD) : BitVec 32 := Scalar.remsi (Scalar.divsi (Dev.word d) 1#32) 8#32
abbrev V5 (d : Dev nD) : BitVec 1 := Scalar.ori (Scalar.cmpi .eq (V2 d) 0#32) (Scalar.cmpi .eq (V2 d) 4#32)
abbrev V9 (d : Dev nD) : BitVec 32 := Scalar.select (Scalar.cmpi .eq (V2 d) 0#32) 4#32 (Scalar.select (Scalar.cmpi .eq (V2 d) 4#32) 5#32 8#32)
abbrev V13 (d : Dev nD) : BitVec 32 := Scalar.select (Scalar.cmpi .eq (V2 d) 0#32) 1#32 (Scalar.select (Scalar.cmpi .eq (V2 d) 4#32) 6#32 8#32)
abbrev V17 (d : Dev nD) : BitVec 32 := Scalar.select (Scalar.cmpi .eq (V2 d) 0#32) 2#32 (Scalar.select (Scalar.cmpi .eq (V2 d) 4#32) 7#32 8#32)
abbrev V19 (d : Dev nD) : BitVec 32 := Scalar.select (Scalar.cmpi .eq (V2 d) 0#32) 3#32 8#32
abbrev V23 (d : Dev nD) : BitVec 32 := Scalar.select (Scalar.cmpi .eq (V2 d) 0#32) 8#32 (Scalar.select (Scalar.cmpi .sle (V2 d) 4#32) 0#32 4#32)

theorem cRoot : ∀ d : Dev nD, Scalar.cmpi .ne (Scalar.extui (Scalar.cmpi .eq (V2 d) 0#32) : BitVec 32) 0#32 = 1#1 ↔ d = 0 := by decide +kernel
theorem cRest : ∀ d : Dev nD, Scalar.cmpi .ne (Scalar.extui (Scalar.cmpi .sgt (V2 d) 0#32) : BitVec 32) 0#32 = 1#1 ↔ d ≠ 0 := by decide +kernel
theorem cBar4 : ∀ d : Dev nD, Scalar.cmpi .ne (Scalar.extui (V5 d) : BitVec 32) 0#32 = 1#1 ↔ deg d = 4 := by decide +kernel
theorem cBar1 : ∀ d : Dev nD, Scalar.cmpi .ne (Scalar.extui (Scalar.xori (V5 d) 1#1) : BitVec 32) 0#32 = 1#1 ↔ deg d = 1 := by decide +kernel
theorem cE0 : ∀ d : Dev nD, Scalar.cmpi .ne (Scalar.extui (Scalar.cmpi .slt (V9 d) 8#32) : BitVec 32) 0#32 = 1#1 ↔ isEdge d 0 = true := by decide +kernel
theorem cE1 : ∀ d : Dev nD, Scalar.cmpi .ne (Scalar.extui (Scalar.cmpi .slt (V13 d) 8#32) : BitVec 32) 0#32 = 1#1 ↔ isEdge d 1 = true := by decide +kernel
theorem cE2 : ∀ d : Dev nD, Scalar.cmpi .ne (Scalar.extui (Scalar.cmpi .slt (V17 d) 8#32) : BitVec 32) 0#32 = 1#1 ↔ isEdge d 2 = true := by decide +kernel
theorem cE3 : ∀ d : Dev nD, Scalar.cmpi .ne (Scalar.extui (Scalar.cmpi .slt (V19 d) 8#32) : BitVec 32) 0#32 = 1#1 ↔ isEdge d 3 = true := by decide +kernel

/-! ## The conditions of the signals and the sends -/

theorem c1 : ∀ d : Dev nD, k0_cond1 d = 1#1 ↔ isEdge d 0 = true := by decide +kernel
theorem dv1 : ∀ (d : Dev nD) (h : k0_cond1 d = 1#1), (⟨k0_dev1 d, Gen.k0_dev1_lt d h⟩ : Dev nD) = tgt d 0 := by decide +kernel
theorem c2 : ∀ d : Dev nD, k0_cond2 d = 1#1 ↔ isEdge d 1 = true := by decide +kernel
theorem dv2 : ∀ (d : Dev nD) (h : k0_cond2 d = 1#1), (⟨k0_dev2 d, Gen.k0_dev2_lt d h⟩ : Dev nD) = tgt d 1 := by decide +kernel
theorem c3 : ∀ d : Dev nD, k0_cond3 d = 1#1 ↔ isEdge d 2 = true := by decide +kernel
theorem dv3 : ∀ (d : Dev nD) (h : k0_cond3 d = 1#1), (⟨k0_dev3 d, Gen.k0_dev3_lt d h⟩ : Dev nD) = tgt d 2 := by decide +kernel
theorem c4 : ∀ d : Dev nD, k0_cond4 d = 1#1 ↔ isEdge d 3 = true := by decide +kernel
theorem dv4 : ∀ (d : Dev nD) (h : k0_cond4 d = 1#1), (⟨k0_dev4 d, Gen.k0_dev4_lt d h⟩ : Dev nD) = tgt d 3 := by decide +kernel
theorem c5 : ∀ d : Dev nD, k0_cond5 d = 1#1 ↔ d ≠ 0 := by decide +kernel
theorem dv5 : ∀ (d : Dev nD) (h : k0_cond5 d = 1#1), (⟨k0_dev5 d, Gen.k0_dev5_lt d h⟩ : Dev nD) = par d := by decide +kernel
theorem c11 : ∀ d : Dev nD, k0_cond11 d = 1#1 ↔ isEdge d 0 = true := by decide +kernel
theorem dv6 : ∀ (d : Dev nD) (h : k0_cond11 d = 1#1), (⟨k0_dev6 d, Gen.k0_dev6_lt d h⟩ : Dev nD) = tgt d 0 := by decide +kernel
theorem c12 : ∀ d : Dev nD, k0_cond12 d = 1#1 ↔ isEdge d 1 = true := by decide +kernel
theorem dv7 : ∀ (d : Dev nD) (h : k0_cond12 d = 1#1), (⟨k0_dev7 d, Gen.k0_dev7_lt d h⟩ : Dev nD) = tgt d 1 := by decide +kernel
theorem c13 : ∀ d : Dev nD, k0_cond13 d = 1#1 ↔ isEdge d 2 = true := by decide +kernel
theorem dv8 : ∀ (d : Dev nD) (h : k0_cond13 d = 1#1), (⟨k0_dev8 d, Gen.k0_dev8_lt d h⟩ : Dev nD) = tgt d 2 := by decide +kernel
theorem c14 : ∀ d : Dev nD, k0_cond14 d = 1#1 ↔ isEdge d 3 = true := by decide +kernel
theorem dv9 : ∀ (d : Dev nD) (h : k0_cond14 d = 1#1), (⟨k0_dev9 d, Gen.k0_dev9_lt d h⟩ : Dev nD) = tgt d 3 := by decide +kernel
theorem c17 : ∀ d : Dev nD, k0_cond17 d = 1#1 ↔ isEdge d 0 = true := by decide +kernel
theorem dv10 : ∀ (d : Dev nD) (h : k0_cond17 d = 1#1), (⟨k0_dev10 d, Gen.k0_dev10_lt d h⟩ : Dev nD) = tgt d 0 := by decide +kernel
theorem c18 : ∀ d : Dev nD, k0_cond18 d = 1#1 ↔ isEdge d 1 = true := by decide +kernel
theorem dv11 : ∀ (d : Dev nD) (h : k0_cond18 d = 1#1), (⟨k0_dev11 d, Gen.k0_dev11_lt d h⟩ : Dev nD) = tgt d 1 := by decide +kernel
theorem c19 : ∀ d : Dev nD, k0_cond19 d = 1#1 ↔ isEdge d 2 = true := by decide +kernel
theorem dv12 : ∀ (d : Dev nD) (h : k0_cond19 d = 1#1), (⟨k0_dev12 d, Gen.k0_dev12_lt d h⟩ : Dev nD) = tgt d 2 := by decide +kernel
theorem c20 : ∀ d : Dev nD, k0_cond20 d = 1#1 ↔ isEdge d 3 = true := by decide +kernel
theorem dv13 : ∀ (d : Dev nD) (h : k0_cond20 d = 1#1), (⟨k0_dev13 d, Gen.k0_dev13_lt d h⟩ : Dev nD) = tgt d 3 := by decide +kernel
theorem c23 : ∀ d : Dev nD, k0_cond23 d = 1#1 ↔ isEdge d 0 = true := by decide +kernel
theorem dv14 : ∀ (d : Dev nD) (h : k0_cond23 d = 1#1), (⟨k0_dev14 d, Gen.k0_dev14_lt d h⟩ : Dev nD) = tgt d 0 := by decide +kernel
theorem c24 : ∀ d : Dev nD, k0_cond24 d = 1#1 ↔ isEdge d 1 = true := by decide +kernel
theorem dv15 : ∀ (d : Dev nD) (h : k0_cond24 d = 1#1), (⟨k0_dev15 d, Gen.k0_dev15_lt d h⟩ : Dev nD) = tgt d 1 := by decide +kernel
theorem c25 : ∀ d : Dev nD, k0_cond25 d = 1#1 ↔ isEdge d 2 = true := by decide +kernel
theorem dv16 : ∀ (d : Dev nD) (h : k0_cond25 d = 1#1), (⟨k0_dev16 d, Gen.k0_dev16_lt d h⟩ : Dev nD) = tgt d 2 := by decide +kernel
theorem c26 : ∀ d : Dev nD, k0_cond26 d = 1#1 ↔ isEdge d 3 = true := by decide +kernel
theorem dv17 : ∀ (d : Dev nD) (h : k0_cond26 d = 1#1), (⟨k0_dev17 d, Gen.k0_dev17_lt d h⟩ : Dev nD) = tgt d 3 := by decide +kernel
theorem c29 : ∀ d : Dev nD, k0_cond29 d = 1#1 ↔ isEdge d 0 = true := by decide +kernel
theorem dv18 : ∀ (d : Dev nD) (h : k0_cond29 d = 1#1), (⟨k0_dev18 d, Gen.k0_dev18_lt d h⟩ : Dev nD) = tgt d 0 := by decide +kernel
theorem c30 : ∀ d : Dev nD, k0_cond30 d = 1#1 ↔ isEdge d 1 = true := by decide +kernel
theorem dv19 : ∀ (d : Dev nD) (h : k0_cond30 d = 1#1), (⟨k0_dev19 d, Gen.k0_dev19_lt d h⟩ : Dev nD) = tgt d 1 := by decide +kernel
theorem c31 : ∀ d : Dev nD, k0_cond31 d = 1#1 ↔ isEdge d 2 = true := by decide +kernel
theorem dv20 : ∀ (d : Dev nD) (h : k0_cond31 d = 1#1), (⟨k0_dev20 d, Gen.k0_dev20_lt d h⟩ : Dev nD) = tgt d 2 := by decide +kernel
theorem c32 : ∀ d : Dev nD, k0_cond32 d = 1#1 ↔ isEdge d 3 = true := by decide +kernel
theorem dv21 : ∀ (d : Dev nD) (h : k0_cond32 d = 1#1), (⟨k0_dev21 d, Gen.k0_dev21_lt d h⟩ : Dev nD) = tgt d 3 := by decide +kernel
theorem c35 : ∀ d : Dev nD, k0_cond35 d = 1#1 ↔ isEdge d 0 = true := by decide +kernel
theorem dv22 : ∀ (d : Dev nD) (h : k0_cond35 d = 1#1), (⟨k0_dev22 d, Gen.k0_dev22_lt d h⟩ : Dev nD) = tgt d 0 := by decide +kernel
theorem c36 : ∀ d : Dev nD, k0_cond36 d = 1#1 ↔ isEdge d 1 = true := by decide +kernel
theorem dv23 : ∀ (d : Dev nD) (h : k0_cond36 d = 1#1), (⟨k0_dev23 d, Gen.k0_dev23_lt d h⟩ : Dev nD) = tgt d 1 := by decide +kernel
theorem c37 : ∀ d : Dev nD, k0_cond37 d = 1#1 ↔ isEdge d 2 = true := by decide +kernel
theorem dv24 : ∀ (d : Dev nD) (h : k0_cond37 d = 1#1), (⟨k0_dev24 d, Gen.k0_dev24_lt d h⟩ : Dev nD) = tgt d 2 := by decide +kernel
theorem c38 : ∀ d : Dev nD, k0_cond38 d = 1#1 ↔ isEdge d 3 = true := by decide +kernel
theorem dv25 : ∀ (d : Dev nD) (h : k0_cond38 d = 1#1), (⟨k0_dev25 d, Gen.k0_dev25_lt d h⟩ : Dev nD) = tgt d 3 := by decide +kernel
theorem c41 : ∀ d : Dev nD, k0_cond41 d = 1#1 ↔ isEdge d 0 = true := by decide +kernel
theorem dv26 : ∀ (d : Dev nD) (h : k0_cond41 d = 1#1), (⟨k0_dev26 d, Gen.k0_dev26_lt d h⟩ : Dev nD) = tgt d 0 := by decide +kernel
theorem c42 : ∀ d : Dev nD, k0_cond42 d = 1#1 ↔ isEdge d 1 = true := by decide +kernel
theorem dv27 : ∀ (d : Dev nD) (h : k0_cond42 d = 1#1), (⟨k0_dev27 d, Gen.k0_dev27_lt d h⟩ : Dev nD) = tgt d 1 := by decide +kernel
theorem c43 : ∀ d : Dev nD, k0_cond43 d = 1#1 ↔ isEdge d 2 = true := by decide +kernel
theorem dv28 : ∀ (d : Dev nD) (h : k0_cond43 d = 1#1), (⟨k0_dev28 d, Gen.k0_dev28_lt d h⟩ : Dev nD) = tgt d 2 := by decide +kernel
theorem c44 : ∀ d : Dev nD, k0_cond44 d = 1#1 ↔ isEdge d 3 = true := by decide +kernel
theorem dv29 : ∀ (d : Dev nD) (h : k0_cond44 d = 1#1), (⟨k0_dev29 d, Gen.k0_dev29_lt d h⟩ : Dev nD) = tgt d 3 := by decide +kernel
theorem c47 : ∀ d : Dev nD, k0_cond47 d = 1#1 ↔ isEdge d 0 = true := by decide +kernel
theorem dv30 : ∀ (d : Dev nD) (h : k0_cond47 d = 1#1), (⟨k0_dev30 d, Gen.k0_dev30_lt d h⟩ : Dev nD) = tgt d 0 := by decide +kernel
theorem c48 : ∀ d : Dev nD, k0_cond48 d = 1#1 ↔ isEdge d 1 = true := by decide +kernel
theorem dv31 : ∀ (d : Dev nD) (h : k0_cond48 d = 1#1), (⟨k0_dev31 d, Gen.k0_dev31_lt d h⟩ : Dev nD) = tgt d 1 := by decide +kernel
theorem c49 : ∀ d : Dev nD, k0_cond49 d = 1#1 ↔ isEdge d 2 = true := by decide +kernel
theorem dv32 : ∀ (d : Dev nD) (h : k0_cond49 d = 1#1), (⟨k0_dev32 d, Gen.k0_dev32_lt d h⟩ : Dev nD) = tgt d 2 := by decide +kernel
theorem c50 : ∀ d : Dev nD, k0_cond50 d = 1#1 ↔ isEdge d 3 = true := by decide +kernel
theorem dv33 : ∀ (d : Dev nD) (h : k0_cond50 d = 1#1), (⟨k0_dev33 d, Gen.k0_dev33_lt d h⟩ : Dev nD) = tgt d 3 := by decide +kernel
theorem c53 : ∀ d : Dev nD, k0_cond53 d = 1#1 ↔ isEdge d 0 = true := by decide +kernel
theorem dv34 : ∀ (d : Dev nD) (h : k0_cond53 d = 1#1), (⟨k0_dev34 d, Gen.k0_dev34_lt d h⟩ : Dev nD) = tgt d 0 := by decide +kernel
theorem c54 : ∀ d : Dev nD, k0_cond54 d = 1#1 ↔ isEdge d 1 = true := by decide +kernel
theorem dv35 : ∀ (d : Dev nD) (h : k0_cond54 d = 1#1), (⟨k0_dev35 d, Gen.k0_dev35_lt d h⟩ : Dev nD) = tgt d 1 := by decide +kernel
theorem c55 : ∀ d : Dev nD, k0_cond55 d = 1#1 ↔ isEdge d 2 = true := by decide +kernel
theorem dv36 : ∀ (d : Dev nD) (h : k0_cond55 d = 1#1), (⟨k0_dev36 d, Gen.k0_dev36_lt d h⟩ : Dev nD) = tgt d 2 := by decide +kernel
theorem c56 : ∀ d : Dev nD, k0_cond56 d = 1#1 ↔ isEdge d 3 = true := by decide +kernel
theorem dv37 : ∀ (d : Dev nD) (h : k0_cond56 d = 1#1), (⟨k0_dev37 d, Gen.k0_dev37_lt d h⟩ : Dev nD) = tgt d 3 := by decide +kernel

end Cert.KernelIdeal.Talk

end
-- ==== Proof.Ideal.PartsA.lean ====
/-
  The broadcast kernel's body, parts 1 to 4 of it: what each takes and leaves.
-/
module

public import proofs.«01_k».proof.Proof.Ideal.Conds

@[expose] public section

noncomputable section

namespace Cert.KernelIdeal.Talk

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.SiteBlocks (L lv Above mayWait_of)
open Idealize.ShloMosaic.TalkSites (Pay tallyL tallyL_append tallyL_pos credOf allPays launchCred_tallyL cred_tallyL)

variable {F : FTy → Type} [FloatOps F] [Named F]

open Idealize.ShloMosaic.ValueIdx (ix2 ix3 ix4 eq_ix3 eq_ix4)

local notation "𝕄" => MT nD τ sig ℕ (Elt F) ℕ UU ℕ

variable (m : Mem F)

attribute [local irreducible] Scalar.divsi Scalar.remsi Scalar.cmpi Scalar.select Scalar.extui Scalar.ori Scalar.xori

abbrev woMm : Memref sig .tc .vmem S256x512 .f32 := Memref.whole cc0_stg4_0

section
variable {α : Type} {Qa : α → sProp (MT nD τ sig ℕ (Elt F) ℕ UU ℕ)}

/-- A program that has returned. -/
theorem wp_done {d : Dev nD} {a : α} : Qa a ⊢ wp frame (wpE (defs₀ (F := F)) 𝒱₀ (d : Thread nD τ) none) Set.univ (pure a) Qa := by
  rw [Prog.pure_eq_ret, wp_ret]
  iintro H; imodintro; iexact H

/-- A program run under a condition before another. -/
theorem wp_if_then {cond : BitVec 1} {d : Dev nD} {A : cond = 1#1 → Prog (TpuEff nD τ sig (Elt F) Λ₀ .tc) PUnit} {jj : Prog (TpuEff nD τ sig (Elt F) Λ₀ .tc) α} :
    wp frame (wpE (defs₀ (F := F)) 𝒱₀ (d : Thread nD τ) none) Set.univ (if h : cond = 1#1 then (do
        A h
        pure PUnit.unit) else (do pure PUnit.unit : Prog (TpuEff nD τ sig (Elt F) Λ₀ .tc) PUnit))
        (fun _ => wp frame (wpE (defs₀ (F := F)) 𝒱₀ (d : Thread nD τ) none) Set.univ jj Qa)
      ⊢ wp frame (wpE (defs₀ (F := F)) 𝒱₀ (d : Thread nD τ) none) Set.univ (if h : cond = 1#1 then (A h >>= fun _ => jj) else jj) Qa := by
  by_cases h : cond = 1#1
  · rw [dif_pos h, dif_pos h]
    have e : (A h >>= fun _ => jj) = ((A h >>= fun _ => pure PUnit.unit : Prog (TpuEff nD τ sig (Elt F) Λ₀ .tc) PUnit) >>= fun _ => jj) := by
      generalize A h = p
      induction p with
      | ret a => rfl
      | op e k ih =>
        show Prog.op e _ = Prog.op e _
        congr 1; funext x; exact ih x
    rw [e]
    refine Entails.of_eq (Eq.symm ?_)
    rw [wp_bind]
  · rw [dif_neg h, dif_neg h, Prog.pure_eq_ret, wp_ret]
    iintro H; iapply fupd_wp; iexact H

theorem step_q_then (d : Dev nD) {cond : BitVec 1} (hc : cond = 1#1 ↔ d = 0)
    {l1 : xMm.view.LoadsAt (xR 0).toLoadRect}
    {l1' : xMm.view.LoadsAt (xR 1).toLoadRect}
    {l2 l2' : wqMm.view.LoadsAt wqR.toLoadRect}
    {l3 : qMm.view.LoadsAt (qR 0).toLoadRect}
    {l3' : qMm.view.LoadsAt (qR 1).toLoadRect}
    {hx : (qMm.access (qR 0)).Stores Finset.univ}
    {hx' : (qMm.access (qR 1)).Stores Finset.univ}
    {hm : (Finset.univ : Finset (qR 0).shape.Idx) = Finset.univ ∨ ∀ a, (qR 0).stride a = 1}
    {hm' : (Finset.univ : Finset (qR 1).shape.Idx) = Finset.univ ∨ ∀ a, (qR 1).stride a = 1}
    {jj : Prog (TpuEff nD τ sig (Elt F) Λ₀ .tc) α} :
    iprop(xP m d ∗ wqP m d ∗ QAny d)
      ⊢ iprop(((xP m d ∗ wqP m d ∗ QS m d) -∗ wp frame (wpE (defs₀ (F := F)) 𝒱₀ (d : Thread nD τ) none) Set.univ jj Qa)
          -∗ wp frame (wpE (defs₀ (F := F)) 𝒱₀ (d : Thread nD τ) none) Set.univ
          (if h : cond = 1#1 then (do
            let v416 : Vec F S1x256x512 .f32 ← Prog.lift (.load xMm (xR 0).toLoadRect l1)
            let v418 : Vec F S512x256 .f32 ← Prog.lift (.load wqMm wqR.toLoadRect l2)
            let v421 : Vec F S1x256x256 .f32 ← Prog.lift (.load qMm (qR 0).toLoadRect l3)
            Prog.lift (.store qMm (qR 0) (Gen.k0_pay1 v416 v418) Finset.univ hx hm)
            let v424 : Vec F S1x256x512 .f32 ← Prog.lift (.load xMm (xR 1).toLoadRect l1')
            let v426 : Vec F S512x256 .f32 ← Prog.lift (.load wqMm wqR.toLoadRect l2')
            let v429 : Vec F S1x256x256 .f32 ← Prog.lift (.load qMm (qR 1).toLoadRect l3')
            Prog.lift (.store qMm (qR 1) (Gen.k0_pay2 v424 v426) Finset.univ hx' hm')
            jj) else jj) Qa) := by
  have hP : (if h : cond = 1#1 then (do
            let v416 : Vec F S1x256x512 .f32 ← Prog.lift (.load xMm (xR 0).toLoadRect l1)
            let v418 : Vec F S512x256 .f32 ← Prog.lift (.load wqMm wqR.toLoadRect l2)
            let v421 : Vec F S1x256x256 .f32 ← Prog.lift (.load qMm (qR 0).toLoadRect l3)
            Prog.lift (.store qMm (qR 0) (Gen.k0_pay1 v416 v418) Finset.univ hx hm)
            let v424 : Vec F S1x256x512 .f32 ← Prog.lift (.load xMm (xR 1).toLoadRect l1')
            let v426 : Vec F S512x256 .f32 ← Prog.lift (.load wqMm wqR.toLoadRect l2')
            let v429 : Vec F S1x256x256 .f32 ← Prog.lift (.load qMm (qR 1).toLoadRect l3')
            Prog.lift (.store qMm (qR 1) (Gen.k0_pay2 v424 v426) Finset.univ hx' hm')
            jj) else jj)
      = (if h : cond = 1#1 then (do
            let v416 : Vec F S1x256x512 .f32 ← Prog.lift (.load xMm (xR 0).toLoadRect l1)
            let v418 : Vec F S512x256 .f32 ← Prog.lift (.load wqMm wqR.toLoadRect l2)
            let v421 : Vec F S1x256x256 .f32 ← Prog.lift (.load qMm (qR 0).toLoadRect l3)
            Prog.lift (.store qMm (qR 0) (Gen.k0_pay1 v416 v418) Finset.univ hx hm)
            let v424 : Vec F S1x256x512 .f32 ← Prog.lift (.load xMm (xR 1).toLoadRect l1')
            let v426 : Vec F S512x256 .f32 ← Prog.lift (.load wqMm wqR.toLoadRect l2')
            let v429 : Vec F S1x256x256 .f32 ← Prog.lift (.load qMm (qR 1).toLoadRect l3')
            Prog.lift (.store qMm (qR 1) (Gen.k0_pay2 v424 v426) Finset.univ hx' hm')
            pure ⟨⟩) else (do pure ⟨⟩ : Prog (TpuEff nD τ sig (Elt F) Λ₀ .tc) PUnit)) >>= fun _ => jj := by
    by_cases h : cond = 1#1
    · rw [dif_pos h, dif_pos h]; rfl
    · rw [dif_neg h, dif_neg h]; rfl
  rw [hP, wp_bind]
  exact step_q (Q := fun _ => wp frame (wpE (defs₀ (F := F)) 𝒱₀ (d : Thread nD τ) none) Set.univ jj Qa) m d hc

theorem step_chunk_then (d : Dev nD) (k : Fin 8) {cond : BitVec 1} (hc : cond = 1#1 ↔ d = 0)
    {pay : Vec F S1x256x64 .f32 → Vec F S1x256x64 .f32 → Vec F S1x256x64 .f32 → FVec F S1x1x256x64 .bf16}
    (hpay : ∀ a b c, pay a b c = Gen.k0_pay10 maskV a b c)
    {l1 : qMm.view.LoadsAt (hR k).toLoadRect}
    {l2 : kMm.view.LoadsAt (hR k).toLoadRect}
    {l3 : vMm.view.LoadsAt (hR k).toLoadRect}
    {l4 : cMm.view.LoadsAt (slotR (offK_inb k)).toLoadRect}
    {hx : (cMm.access (slotR (offK_inb k))).Stores Finset.univ}
    {hm : (Finset.univ : Finset (slotR (offK_inb k)).shape.Idx) = Finset.univ ∨ ∀ a, (slotR (offK_inb k)).stride a = 1}
    {jj : Prog (TpuEff nD τ sig (Elt F) Λ₀ .tc) α} :
    iprop(QS m d ∗ kP m d ∗ vP m d ∗ SA (Own d k) d k)
      ⊢ iprop(((QS m d ∗ kP m d ∗ vP m d ∗ SA (OwnD m d k) d k) -∗ wp frame (wpE (defs₀ (F := F)) 𝒱₀ (d : Thread nD τ) none) Set.univ jj Qa)
          -∗ wp frame (wpE (defs₀ (F := F)) 𝒱₀ (d : Thread nD τ) none) Set.univ
          (if h : cond = 1#1 then (do
            let v416 : Vec F S1x256x64 .f32 ← Prog.lift (.load qMm (hR k).toLoadRect l1)
            let v418 : Vec F S1x256x64 .f32 ← Prog.lift (.load kMm (hR k).toLoadRect l2)
            let v420 : Vec F S1x256x64 .f32 ← Prog.lift (.load vMm (hR k).toLoadRect l3)
            let v436 : Vec F S1x1x256x64 .bf16 ← Prog.lift (.load cMm (slotR (offK_inb k)).toLoadRect l4)
            Prog.lift (.store cMm (slotR (offK_inb k)) (pay v416 v418 v420) Finset.univ hx hm)
            jj) else jj) Qa) := by
  have hP : (if h : cond = 1#1 then (do
            let v416 : Vec F S1x256x64 .f32 ← Prog.lift (.load qMm (hR k).toLoadRect l1)
            let v418 : Vec F S1x256x64 .f32 ← Prog.lift (.load kMm (hR k).toLoadRect l2)
            let v420 : Vec F S1x256x64 .f32 ← Prog.lift (.load vMm (hR k).toLoadRect l3)
            let v436 : Vec F S1x1x256x64 .bf16 ← Prog.lift (.load cMm (slotR (offK_inb k)).toLoadRect l4)
            Prog.lift (.store cMm (slotR (offK_inb k)) (pay v416 v418 v420) Finset.univ hx hm)
            jj) else jj)
      = (if h : cond = 1#1 then (do
            let v416 : Vec F S1x256x64 .f32 ← Prog.lift (.load qMm (hR k).toLoadRect l1)
            let v418 : Vec F S1x256x64 .f32 ← Prog.lift (.load kMm (hR k).toLoadRect l2)
            let v420 : Vec F S1x256x64 .f32 ← Prog.lift (.load vMm (hR k).toLoadRect l3)
            let v436 : Vec F S1x1x256x64 .bf16 ← Prog.lift (.load cMm (slotR (offK_inb k)).toLoadRect l4)
            Prog.lift (.store cMm (slotR (offK_inb k)) (pay v416 v418 v420) Finset.univ hx hm)
            pure ⟨⟩) else (do pure ⟨⟩ : Prog (TpuEff nD τ sig (Elt F) Λ₀ .tc) PUnit)) >>= fun _ => jj := by
    by_cases h : cond = 1#1
    · rw [dif_pos h, dif_pos h]; rfl
    · rw [dif_neg h, dif_neg h]; rfl
  rw [hP, wp_bind]
  exact step_chunk (Q := fun _ => wp frame (wpE (defs₀ (F := F)) 𝒱₀ (d : Thread nD τ) none) Set.univ jj Qa) m d k hc hpay

/-- The device's own name. -/
theorem step_dev (d : Dev nD) {kk : Dev nD → Prog (TpuEff nD τ sig (Elt F) Λ₀ .tc) α} :
    wp frame (wpE (defs₀ (F := F)) 𝒱₀ (d : Thread nD τ) none) Set.univ (kk d) Qa
      ⊢ wp frame (wpE (defs₀ (F := F)) 𝒱₀ (d : Thread nD τ) none) Set.univ (Prog.lift .deviceId >>= kk) Qa := by
  simp only [Prog.lift, Prog.bind_op, Prog.bind_ret]
  exact Entails.of_eq (wp_deviceId 𝒱₀ (d : Thread nD τ) none Set.univ).symm

/-- The output weight, loaded. -/
theorem step_wo (d : Dev nD) {l : woMm.view.LoadsAt woR.toLoadRect} {kk : Vec F S256x512 .f32 → Prog (TpuEff nD τ sig (Elt F) Λ₀ .tc) α} :
    (woP m d : sProp 𝕄)
      ⊢ iprop((woP m d -∗ wp frame (wpE (defs₀ (F := F)) 𝒱₀ (d : Thread nD τ) none) Set.univ (kk (rd woR (Wob m d))) Qa)
          -∗ wp frame (wpE (defs₀ (F := F)) 𝒱₀ (d : Thread nD τ) none) Set.univ (Prog.lift (.load woMm woR.toLoadRect l) >>= kk) Qa) := by
  simp only [Prog.lift, Prog.bind_op, Prog.bind_ret]
  exact wp_load_rect 𝒱₀ (d : Thread nD τ) none Set.univ (m := woMm) (r := woR) (Finset.subset_univ _)

end

theorem wp_part1 (κ : GSem nD τ sig → ℕ) (d : Dev nD) {Q : _ → sProp (MT nD τ sig ℕ (Elt F) ℕ UU ℕ)} :
    iprop(invs m κ ∗ levAts (L 5) lv ∗ OwS d 0 ∗ SigE d 0)
      ⊢ iprop(((OwS d 1) -∗ Q ⟨d, V2 d, V5 d, V9 d, V13 d, V17 d, V19 d, V23 d, SemArray.scalar (sig.barrier 0 rfl), 8#32⟩) -∗ wp frame (wpE (defs₀ (F := F)) 𝒱₀ (d : Thread nD τ) none) Set.univ
          (k0_part1 (F := F) xMm (Memref.isWhole_whole _) wqMm (Memref.isWhole_whole _) kMm (Memref.isWhole_whole _) vMm (Memref.isWhole_whole _) woMm (Memref.isWhole_whole _) oMm (Memref.isWhole_whole _) cMm (Memref.isWhole_whole _) qMm (Memref.isWhole_whole _) cc0_scratch2 cc0_scratch3 ) Q) := by
  rw [Gen.k0_part1_eq_skeleton]
  unfold Gen.k0_part1_skel
  iintro ⟨#HI, #Hlev, O, G0⟩ Hk
  iapply (step_dev d)
  iapply wp_if_then
  iapply (step_signal m κ d 0 (c1 d) (dv1 d) rfl) $$ [O G0]
  · isplitr; · iexact HI
    isplitl [O]; · iexact O
    iexact G0
  iintro O
  iapply wp_done
  iapply Hk
  iexact O

theorem wp_part2 (κ : GSem nD τ sig → ℕ) (d : Dev nD) {v24 : Sems sig S_} (hv : v24.sem = barS) {Q : _ → sProp (MT nD τ sig ℕ (Elt F) ℕ UU ℕ)} :
    iprop(invs m κ ∗ levAts (L 5) lv ∗ OwS d 1 ∗ SigE d 1 ∗ SigE d 2 ∗ SigE d 3 ∗ (SigP d ∗ Slots d ∗ bigSep Finset.univ fun k : Fin 8 => reached ER (recvC d k) 0) ∗ BW d (False) ∗ xP m d ∗ wqP m d ∗ QAny d)
      ⊢ iprop(((OwS d 5 ∗ (bigSep Finset.univ fun k : Fin 8 => Own d k) ∗ BW d ((False ∨ deg d = 4) ∨ deg d = 1) ∗ xP m d ∗ wqP m d ∗ QS m d) -∗ Q ⟨iota .tc S256x256 32 [0] Gen.iota_S256x256_d0_w32, 64#32, Gen.k0_pay3, Gen.k0_pay4, Gen.k0_pay5⟩) -∗ wp frame (wpE (defs₀ (F := F)) 𝒱₀ (d : Thread nD τ) none) Set.univ
          (k0_part2 (F := F) xMm (Memref.isWhole_whole _) wqMm (Memref.isWhole_whole _) kMm (Memref.isWhole_whole _) vMm (Memref.isWhole_whole _) woMm (Memref.isWhole_whole _) oMm (Memref.isWhole_whole _) cMm (Memref.isWhole_whole _) qMm (Memref.isWhole_whole _) cc0_scratch2 cc0_scratch3 d (V2 d) (V5 d) (V13 d) (V17 d) (V19 d) (V23 d) v24 8#32) Q) := by
  rw [Gen.k0_part2_eq_skeleton]
  unfold Gen.k0_part2_skel
  iintro ⟨#HI, #Hlev, O, G1, G2, G3, P, B, X, W, Q⟩ Hk
  iapply wp_if_then
  iapply (step_signal m κ d 1 (c2 d) (dv2 d) hv) $$ [O G1]
  · isplitr; · iexact HI
    isplitl [O]; · iexact O
    iexact G1
  iintro O
  iapply wp_if_then
  iapply (step_signal m κ d 2 (c3 d) (dv3 d) hv) $$ [O G2]
  · isplitr; · iexact HI
    isplitl [O]; · iexact O
    iexact G2
  iintro O
  iapply wp_if_then
  iapply (step_signal m κ d 3 (c4 d) (dv4 d) hv) $$ [O G3]
  · isplitr; · iexact HI
    isplitl [O]; · iexact O
    iexact G3
  iintro O
  iapply wp_if_then
  iapply (step_parent m κ d (c5 d) (dv5 d) hv) $$ [O P]
  · isplitr; · iexact HI
    isplitl [O]; · iexact O
    iexact P
  iintro ⟨O, P⟩
  iapply wp_if_then
  iapply (step_bar m κ d 4 4#32 (by decide) (p := False) (fun h => h.1.elim) (cBar4 d) hv) $$ [O B]
  · isplitr; · iexact HI
    isplitr; · iexact Hlev
    isplitl [O]; · iexact O
    iexact B
  iintro ⟨O, B⟩
  iapply wp_if_then
  iapply (step_bar m κ d 1 1#32 (by decide) (p := False ∨ deg d = 4) (fun h => h.1.elim id fun h4 => by have h1 := h.2; omega) (cBar1 d) hv) $$ [O B]
  · isplitr; · iexact HI
    isplitr; · iexact Hlev
    isplitl [O]; · iexact O
    iexact B
  iintro ⟨O, B⟩
  iapply (step_q_then m d (cRoot d)) $$ [X W Q]
  · isplitl [X]; · iexact X
    isplitl [W]; · iexact W
    iexact Q
  iintro ⟨X, W, Q⟩
  iapply wp_done
  iapply Hk
  isplitl [O]; · iexact O
  isplitl [P]; · iexact P
  isplitl [B]; · iexact B
  isplitl [X]; · iexact X
  isplitl [W]; · iexact W
  iexact Q

theorem wp_part3_aux (κ : GSem nD τ sig → ℕ) (d : Dev nD) {Q : _ → sProp (MT nD τ sig ℕ (Elt F) ℕ UU ℕ)} :
    iprop(invs m κ ∗ levAts (L 5) lv ∗ QS m d ∗ kP m d ∗ vP m d ∗ woP m d ∗ SA (Own d 0) d 0)
      ⊢ iprop(((QS m d ∗ kP m d ∗ vP m d ∗ woP m d ∗ SA (OwnD m d 0) d 0) -∗ Q ⟨Gen.k0_pay6 (iota .tc S256x256 32 [0] Gen.iota_S256x256_d0_w32) 64#32 Gen.k0_pay3 Gen.k0_pay4 Gen.k0_pay5, Gen.k0_pay7 (rd woR (Wob m d)), Scalar.cmpi .ne (Scalar.extui (Scalar.cmpi .sgt (V2 d) 0#32) : BitVec 32) 0#32⟩) -∗ wp frame (wpE (defs₀ (F := F)) 𝒱₀ (d : Thread nD τ) none) Set.univ
          (k0_part3 (F := F) xMm (Memref.isWhole_whole _) wqMm (Memref.isWhole_whole _) kMm (Memref.isWhole_whole _) vMm (Memref.isWhole_whole _) woMm (Memref.isWhole_whole _) oMm (Memref.isWhole_whole _) cMm (Memref.isWhole_whole _) qMm (Memref.isWhole_whole _) cc0_scratch2 cc0_scratch3 (V2 d) (iota .tc S256x256 32 [0] Gen.iota_S256x256_d0_w32) 64#32 Gen.k0_pay3 Gen.k0_pay4 Gen.k0_pay5) Q) := by
  rw [Gen.k0_part3_eq_skeleton]
  unfold Gen.k0_part3_skel
  iintro ⟨#HI, #Hlev, Q, K, V, U, S0⟩ Hk
  iapply (step_wo m d) $$ U
  iintro U
  iapply (step_chunk_then m d 0 (cRoot d) (pay := Gen.k0_pay8 (iota .tc S256x256 32 [0] Gen.iota_S256x256_d0_w32) 64#32 Gen.k0_pay3 Gen.k0_pay4 Gen.k0_pay5) (fun _ _ _ => rfl)) $$ [Q K V S0]
  · isplitl [Q]; · iexact Q
    isplitl [K]; · iexact K
    isplitl [V]; · iexact V
    iexact S0
  iintro ⟨Q, K, V, S0⟩
  iapply wp_done
  iapply Hk
  isplitl [Q]; · iexact Q
  isplitl [K]; · iexact K
  isplitl [V]; · iexact V
  isplitl [U]; · iexact U
  iexact S0

theorem wp_part3 (κ : GSem nD τ sig → ℕ) (d : Dev nD) {Q : _ → sProp (MT nD τ sig ℕ (Elt F) ℕ UU ℕ)} :
    iprop(invs m κ ∗ levAts (L 5) lv ∗ QS m d ∗ kP m d ∗ vP m d ∗ woP m d ∗ SA (Own d 0) d 0)
      ⊢ iprop(((QS m d ∗ kP m d ∗ vP m d ∗ woP m d ∗ SA (OwnD m d 0) d 0) -∗ Q ⟨maskV, wo m d, Scalar.cmpi .ne (Scalar.extui (Scalar.cmpi .sgt (V2 d) 0#32) : BitVec 32) 0#32⟩) -∗ wp frame (wpE (defs₀ (F := F)) 𝒱₀ (d : Thread nD τ) none) Set.univ
          (k0_part3 (F := F) xMm (Memref.isWhole_whole _) wqMm (Memref.isWhole_whole _) kMm (Memref.isWhole_whole _) vMm (Memref.isWhole_whole _) woMm (Memref.isWhole_whole _) oMm (Memref.isWhole_whole _) cMm (Memref.isWhole_whole _) qMm (Memref.isWhole_whole _) cc0_scratch2 cc0_scratch3 (V2 d) (iota .tc S256x256 32 [0] Gen.iota_S256x256_d0_w32) 64#32 Gen.k0_pay3 Gen.k0_pay4 Gen.k0_pay5) Q) :=
  wp_part3_aux m κ d

theorem wp_part4 (κ : GSem nD τ sig → ℕ) (d : Dev nD) {Q : _ → sProp (MT nD τ sig ℕ (Elt F) ℕ UU ℕ)} :
    iprop(invs m κ ∗ levAts (L 5) lv ∗ OwS d 5 ∗ QS m d ∗ kP m d ∗ vP m d ∗ SA (OwnD m d 0) d 0 ∗ SA (Own d 1) d 1 ∗ OutS m d 0)
      ⊢ iprop(((OwS d 10 ∗ QS m d ∗ kP m d ∗ vP m d ∗ SB m d 0 4 0 ∗ SB m d 1 1 0 ∗ OutS m d 1) -∗ Q 8#32) -∗ wp frame (wpE (defs₀ (F := F)) 𝒱₀ (d : Thread nD τ) none) Set.univ
          (k0_part4 (F := F) xMm (Memref.isWhole_whole _) wqMm (Memref.isWhole_whole _) kMm (Memref.isWhole_whole _) vMm (Memref.isWhole_whole _) woMm (Memref.isWhole_whole _) oMm (Memref.isWhole_whole _) cMm (Memref.isWhole_whole _) qMm (Memref.isWhole_whole _) cc0_scratch2 cc0_scratch3 d (V2 d) (V9 d) (V13 d) (V17 d) (V19 d) maskV (wo m d) (Scalar.cmpi .ne (Scalar.extui (Scalar.cmpi .sgt (V2 d) 0#32) : BitVec 32) 0#32)) Q) := by
  rw [Gen.k0_part4_eq_skeleton]
  unfold Gen.k0_part4_skel
  iintro ⟨#HI, #Hlev, O, Q, K, V, S0, S1, T⟩ Hk
  iapply (wp_if_then (A := fun _ => Prog.lift (.waitDma2 _ _ _ _ _)))
  iapply (step_recv m κ d 0 (n := 5) (by decide) (cRest d) (s := ((cc0_scratch3.slice (Rect.unit (s := S8) ![0] S1.size Gen.inb_S8_S1_0)).squeeze S_ Gen.squeezes_S1_S_).sem) rfl (M := slotM (off := ![0, 0, 0, 0]) Gen.inb_S2x4x256x64_S1x1x256x64_0_0_0_0) (M' := slotM (off := ![0, 0, 0, 0]) Gen.inb_S2x4x256x64_S1x1x256x64_0_0_0_0) rfl) $$ [O S0]
  · isplitr; · iexact HI
    isplitr; · iexact Hlev
    isplitl [O]; · iexact O
    iexact S0
  iintro ⟨O, S0⟩
  iapply (wp_if_then (cond := k0_cond11 d) (A := fun h => Prog.lift (.enqueueDma _ (.remote (Dev.tc (⟨k0_dev6 d, Gen.k0_dev6_lt d h⟩ : Dev nD)) _ _ _) _ _ _ _)))
  iapply (step_send m κ d 0 0 (n := 5) (n' := 6) rfl rfl (a := 0) (a' := 1) rfl rfl (c11 d) (dv6 d) (sS := ((cc0_scratch2.slice (Rect.unit (s := S4x8) ![0, 0] S1x1.size Gen.inb_S4x8_S1x1_0_0)).squeeze S_ Gen.squeezes_S1x1_S_).sem) (sV := ((cc0_scratch3.slice (Rect.unit (s := S8) ![0] S1.size Gen.inb_S8_S1_0)).squeeze S_ Gen.squeezes_S1_S_).sem) rfl rfl (M := slotM (off := ![0, 0, 0, 0]) Gen.inb_S2x4x256x64_S1x1x256x64_0_0_0_0) (M' := slotM (off := ![0, 0, 0, 0]) Gen.inb_S2x4x256x64_S1x1x256x64_0_0_0_0) rfl rfl (hsc := rfl) (hsem := fun _ => ⟨⟨rfl, Or.inl rfl⟩, trivial⟩)) $$ [O S0]
  · isplitr; · iexact HI
    isplitl [O]; · iexact O
    iexact S0
  iintro ⟨O, S0⟩
  iapply (wp_if_then (cond := k0_cond12 d) (A := fun h => Prog.lift (.enqueueDma _ (.remote (Dev.tc (⟨k0_dev7 d, Gen.k0_dev7_lt d h⟩ : Dev nD)) _ _ _) _ _ _ _)))
  iapply (step_send m κ d 0 1 (n := 6) (n' := 7) rfl rfl (a := 1) (a' := 2) rfl rfl (c12 d) (dv7 d) (sS := ((cc0_scratch2.slice (Rect.unit (s := S4x8) ![1, 0] S1x1.size Gen.inb_S4x8_S1x1_1_0)).squeeze S_ Gen.squeezes_S1x1_S_).sem) (sV := ((cc0_scratch3.slice (Rect.unit (s := S8) ![0] S1.size Gen.inb_S8_S1_0)).squeeze S_ Gen.squeezes_S1_S_).sem) rfl rfl (M := slotM (off := ![0, 0, 0, 0]) Gen.inb_S2x4x256x64_S1x1x256x64_0_0_0_0) (M' := slotM (off := ![0, 0, 0, 0]) Gen.inb_S2x4x256x64_S1x1x256x64_0_0_0_0) rfl rfl (hsc := rfl) (hsem := fun _ => ⟨⟨rfl, Or.inl rfl⟩, trivial⟩)) $$ [O S0]
  · isplitr; · iexact HI
    isplitl [O]; · iexact O
    iexact S0
  iintro ⟨O, S0⟩
  iapply (wp_if_then (cond := k0_cond13 d) (A := fun h => Prog.lift (.enqueueDma _ (.remote (Dev.tc (⟨k0_dev8 d, Gen.k0_dev8_lt d h⟩ : Dev nD)) _ _ _) _ _ _ _)))
  iapply (step_send m κ d 0 2 (n := 7) (n' := 8) rfl rfl (a := 2) (a' := 3) rfl rfl (c13 d) (dv8 d) (sS := ((cc0_scratch2.slice (Rect.unit (s := S4x8) ![2, 0] S1x1.size Gen.inb_S4x8_S1x1_2_0)).squeeze S_ Gen.squeezes_S1x1_S_).sem) (sV := ((cc0_scratch3.slice (Rect.unit (s := S8) ![0] S1.size Gen.inb_S8_S1_0)).squeeze S_ Gen.squeezes_S1_S_).sem) rfl rfl (M := slotM (off := ![0, 0, 0, 0]) Gen.inb_S2x4x256x64_S1x1x256x64_0_0_0_0) (M' := slotM (off := ![0, 0, 0, 0]) Gen.inb_S2x4x256x64_S1x1x256x64_0_0_0_0) rfl rfl (hsc := rfl) (hsem := fun _ => ⟨⟨rfl, Or.inl rfl⟩, trivial⟩)) $$ [O S0]
  · isplitr; · iexact HI
    isplitl [O]; · iexact O
    iexact S0
  iintro ⟨O, S0⟩
  iapply (wp_if_then (cond := k0_cond14 d) (A := fun h => Prog.lift (.enqueueDma _ (.remote (Dev.tc (⟨k0_dev9 d, Gen.k0_dev9_lt d h⟩ : Dev nD)) _ _ _) _ _ _ _)))
  iapply (step_send m κ d 0 3 (n := 8) (n' := 9) rfl rfl (a := 3) (a' := 4) rfl rfl (c14 d) (dv9 d) (sS := ((cc0_scratch2.slice (Rect.unit (s := S4x8) ![3, 0] S1x1.size Gen.inb_S4x8_S1x1_3_0)).squeeze S_ Gen.squeezes_S1x1_S_).sem) (sV := ((cc0_scratch3.slice (Rect.unit (s := S8) ![0] S1.size Gen.inb_S8_S1_0)).squeeze S_ Gen.squeezes_S1_S_).sem) rfl rfl (M := slotM (off := ![0, 0, 0, 0]) Gen.inb_S2x4x256x64_S1x1x256x64_0_0_0_0) (M' := slotM (off := ![0, 0, 0, 0]) Gen.inb_S2x4x256x64_S1x1x256x64_0_0_0_0) rfl rfl (hsc := rfl) (hsem := fun _ => ⟨⟨rfl, Or.inl rfl⟩, trivial⟩)) $$ [O S0]
  · isplitr; · iexact HI
    isplitl [O]; · iexact O
    iexact S0
  iintro ⟨O, S0⟩
  iapply (step_out m d 0 0 rfl (n := 0) (n' := 1) rfl rfl (pay := Gen.k0_pay9 (wo m d)) rfl) $$ [S0 T]
  · isplitl [S0]; · iexact S0
    iexact T
  iintro ⟨S0, T⟩
  iapply (step_chunk_then m d 1 (cRoot d) (pay := Gen.k0_pay10 maskV) (fun _ _ _ => rfl)) $$ [Q K V S1]
  · isplitl [Q]; · iexact Q
    isplitl [K]; · iexact K
    isplitl [V]; · iexact V
    iexact S1
  iintro ⟨Q, K, V, S1⟩
  iapply (wp_if_then (A := fun _ => Prog.lift (.waitDma2 _ _ _ _ _)))
  iapply (step_recv m κ d 1 (n := 9) (by decide) (cRest d) (s := ((cc0_scratch3.slice (Rect.unit (s := S8) ![1] S1.size Gen.inb_S8_S1_1)).squeeze S_ Gen.squeezes_S1_S_).sem) rfl (M := slotM (off := ![0, 1, 0, 0]) Gen.inb_S2x4x256x64_S1x1x256x64_0_1_0_0) (M' := slotM (off := ![0, 1, 0, 0]) Gen.inb_S2x4x256x64_S1x1x256x64_0_1_0_0) rfl) $$ [O S1]
  · isplitr; · iexact HI
    isplitr; · iexact Hlev
    isplitl [O]; · iexact O
    iexact S1
  iintro ⟨O, S1⟩
  iapply (wp_if_then (cond := k0_cond17 d) (A := fun h => Prog.lift (.enqueueDma _ (.remote (Dev.tc (⟨k0_dev10 d, Gen.k0_dev10_lt d h⟩ : Dev nD)) _ _ _) _ _ _ _)))
  iapply (step_send m κ d 1 0 (n := 9) (n' := 10) rfl rfl (a := 0) (a' := 1) rfl rfl (c17 d) (dv10 d) (sS := ((cc0_scratch2.slice (Rect.unit (s := S4x8) ![0, 1] S1x1.size Gen.inb_S4x8_S1x1_0_1)).squeeze S_ Gen.squeezes_S1x1_S_).sem) (sV := ((cc0_scratch3.slice (Rect.unit (s := S8) ![1] S1.size Gen.inb_S8_S1_1)).squeeze S_ Gen.squeezes_S1_S_).sem) rfl rfl (M := slotM (off := ![0, 1, 0, 0]) Gen.inb_S2x4x256x64_S1x1x256x64_0_1_0_0) (M' := slotM (off := ![0, 1, 0, 0]) Gen.inb_S2x4x256x64_S1x1x256x64_0_1_0_0) rfl rfl (hsc := rfl) (hsem := fun _ => ⟨⟨rfl, Or.inl rfl⟩, trivial⟩)) $$ [O S1]
  · isplitr; · iexact HI
    isplitl [O]; · iexact O
    iexact S1
  iintro ⟨O, S1⟩
  iapply wp_done
  iapply Hk
  isplitl [O]; · iexact O
  isplitl [Q]; · iexact Q
  isplitl [K]; · iexact K
  isplitl [V]; · iexact V
  isplitl [S0]; · iexact S0
  isplitl [S1]; · iexact S1
  iexact T

end Cert.KernelIdeal.Talk

end
-- ==== Proof.Ideal.PartsB.lean ====
/-
  The broadcast kernel's body, parts 5 to 7 of it: what each takes and leaves.
-/
module

public import proofs.«01_k».proof.Proof.Ideal.PartsA

@[expose] public section

noncomputable section

namespace Cert.KernelIdeal.Talk

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.SiteBlocks (L lv Above mayWait_of)
open Idealize.ShloMosaic.TalkSites (Pay tallyL tallyL_append tallyL_pos credOf allPays launchCred_tallyL cred_tallyL)

variable {F : FTy → Type} [FloatOps F] [Named F]

open Idealize.ShloMosaic.ValueIdx (ix2 ix3 ix4 eq_ix3 eq_ix4)

local notation "𝕄" => MT nD τ sig ℕ (Elt F) ℕ UU ℕ

variable (m : Mem F)

attribute [local irreducible] Scalar.divsi Scalar.remsi Scalar.cmpi Scalar.select Scalar.extui Scalar.ori Scalar.xori

theorem wp_part5 (κ : GSem nD τ sig → ℕ) (d : Dev nD) {Q : _ → sProp (MT nD τ sig ℕ (Elt F) ℕ UU ℕ)} :
    iprop(invs m κ ∗ levAts (L 5) lv ∗ OwS d 10 ∗ QS m d ∗ kP m d ∗ vP m d ∗ SB m d 1 1 0 ∗ SA (Own d 2) d 2 ∗ OutS m d 1)
      ⊢ iprop(((OwS d 14 ∗ QS m d ∗ kP m d ∗ vP m d ∗ SB m d 1 4 0 ∗ SB m d 2 1 0 ∗ OutS m d 2) -∗ Q (Scalar.extui (Scalar.cmpi .slt (V13 d) 8#32) : BitVec 32)) -∗ wp frame (wpE (defs₀ (F := F)) 𝒱₀ (d : Thread nD τ) none) Set.univ
          (k0_part5 (F := F) xMm (Memref.isWhole_whole _) wqMm (Memref.isWhole_whole _) kMm (Memref.isWhole_whole _) vMm (Memref.isWhole_whole _) woMm (Memref.isWhole_whole _) oMm (Memref.isWhole_whole _) cMm (Memref.isWhole_whole _) qMm (Memref.isWhole_whole _) cc0_scratch2 cc0_scratch3 d (V2 d) (V9 d) (V13 d) (V17 d) (V19 d) maskV (wo m d) 8#32) Q) := by
  rw [Gen.k0_part5_eq_skeleton]
  unfold Gen.k0_part5_skel
  iintro ⟨#HI, #Hlev, O, Q, K, V, S1, S2, T⟩ Hk
  iapply (wp_if_then (cond := k0_cond18 d) (A := fun h => Prog.lift (.enqueueDma _ (.remote (Dev.tc (⟨k0_dev11 d, Gen.k0_dev11_lt d h⟩ : Dev nD)) _ _ _) _ _ _ _)))
  iapply (step_send m κ d 1 1 (n := 10) (n' := 11) rfl rfl (a := 1) (a' := 2) rfl rfl (c18 d) (dv11 d) (sS := ((cc0_scratch2.slice (Rect.unit (s := S4x8) ![1, 1] S1x1.size Gen.inb_S4x8_S1x1_1_1)).squeeze S_ Gen.squeezes_S1x1_S_).sem) (sV := ((cc0_scratch3.slice (Rect.unit (s := S8) ![1] S1.size Gen.inb_S8_S1_1)).squeeze S_ Gen.squeezes_S1_S_).sem) rfl rfl (M := slotM (off := ![0, 1, 0, 0]) Gen.inb_S2x4x256x64_S1x1x256x64_0_1_0_0) (M' := slotM (off := ![0, 1, 0, 0]) Gen.inb_S2x4x256x64_S1x1x256x64_0_1_0_0) rfl rfl (hsc := rfl) (hsem := fun _ => ⟨⟨rfl, Or.inl rfl⟩, trivial⟩)) $$ [O S1]
  · isplitr; · iexact HI
    isplitl [O]; · iexact O
    iexact S1
  iintro ⟨O, S1⟩
  iapply (wp_if_then (cond := k0_cond19 d) (A := fun h => Prog.lift (.enqueueDma _ (.remote (Dev.tc (⟨k0_dev12 d, Gen.k0_dev12_lt d h⟩ : Dev nD)) _ _ _) _ _ _ _)))
  iapply (step_send m κ d 1 2 (n := 11) (n' := 12) rfl rfl (a := 2) (a' := 3) rfl rfl (c19 d) (dv12 d) (sS := ((cc0_scratch2.slice (Rect.unit (s := S4x8) ![2, 1] S1x1.size Gen.inb_S4x8_S1x1_2_1)).squeeze S_ Gen.squeezes_S1x1_S_).sem) (sV := ((cc0_scratch3.slice (Rect.unit (s := S8) ![1] S1.size Gen.inb_S8_S1_1)).squeeze S_ Gen.squeezes_S1_S_).sem) rfl rfl (M := slotM (off := ![0, 1, 0, 0]) Gen.inb_S2x4x256x64_S1x1x256x64_0_1_0_0) (M' := slotM (off := ![0, 1, 0, 0]) Gen.inb_S2x4x256x64_S1x1x256x64_0_1_0_0) rfl rfl (hsc := rfl) (hsem := fun _ => ⟨⟨rfl, Or.inl rfl⟩, trivial⟩)) $$ [O S1]
  · isplitr; · iexact HI
    isplitl [O]; · iexact O
    iexact S1
  iintro ⟨O, S1⟩
  iapply (wp_if_then (cond := k0_cond20 d) (A := fun h => Prog.lift (.enqueueDma _ (.remote (Dev.tc (⟨k0_dev13 d, Gen.k0_dev13_lt d h⟩ : Dev nD)) _ _ _) _ _ _ _)))
  iapply (step_send m κ d 1 3 (n := 12) (n' := 13) rfl rfl (a := 3) (a' := 4) rfl rfl (c20 d) (dv13 d) (sS := ((cc0_scratch2.slice (Rect.unit (s := S4x8) ![3, 1] S1x1.size Gen.inb_S4x8_S1x1_3_1)).squeeze S_ Gen.squeezes_S1x1_S_).sem) (sV := ((cc0_scratch3.slice (Rect.unit (s := S8) ![1] S1.size Gen.inb_S8_S1_1)).squeeze S_ Gen.squeezes_S1_S_).sem) rfl rfl (M := slotM (off := ![0, 1, 0, 0]) Gen.inb_S2x4x256x64_S1x1x256x64_0_1_0_0) (M' := slotM (off := ![0, 1, 0, 0]) Gen.inb_S2x4x256x64_S1x1x256x64_0_1_0_0) rfl rfl (hsc := rfl) (hsem := fun _ => ⟨⟨rfl, Or.inl rfl⟩, trivial⟩)) $$ [O S1]
  · isplitr; · iexact HI
    isplitl [O]; · iexact O
    iexact S1
  iintro ⟨O, S1⟩
  iapply (step_add m d 1 0 rfl 0 rfl rfl (n := 1) (n' := 2) rfl rfl (pay := Gen.k0_pay11 (wo m d)) rfl) $$ [S1 T]
  · isplitl [S1]; · iexact S1
    iexact T
  iintro ⟨S1, T⟩
  iapply (step_chunk_then m d 2 (cRoot d) (pay := Gen.k0_pay12 maskV) (fun _ _ _ => rfl)) $$ [Q K V S2]
  · isplitl [Q]; · iexact Q
    isplitl [K]; · iexact K
    isplitl [V]; · iexact V
    iexact S2
  iintro ⟨Q, K, V, S2⟩
  iapply (wp_if_then (A := fun _ => Prog.lift (.waitDma2 _ _ _ _ _)))
  iapply (step_recv m κ d 2 (n := 13) (by decide) (cRest d) (s := ((cc0_scratch3.slice (Rect.unit (s := S8) ![2] S1.size Gen.inb_S8_S1_2)).squeeze S_ Gen.squeezes_S1_S_).sem) rfl (M := slotM (off := ![0, 2, 0, 0]) Gen.inb_S2x4x256x64_S1x1x256x64_0_2_0_0) (M' := slotM (off := ![0, 2, 0, 0]) Gen.inb_S2x4x256x64_S1x1x256x64_0_2_0_0) rfl) $$ [O S2]
  · isplitr; · iexact HI
    isplitr; · iexact Hlev
    isplitl [O]; · iexact O
    iexact S2
  iintro ⟨O, S2⟩
  iapply (wp_if_then (cond := k0_cond23 d) (A := fun h => Prog.lift (.enqueueDma _ (.remote (Dev.tc (⟨k0_dev14 d, Gen.k0_dev14_lt d h⟩ : Dev nD)) _ _ _) _ _ _ _)))
  iapply (step_send m κ d 2 0 (n := 13) (n' := 14) rfl rfl (a := 0) (a' := 1) rfl rfl (c23 d) (dv14 d) (sS := ((cc0_scratch2.slice (Rect.unit (s := S4x8) ![0, 2] S1x1.size Gen.inb_S4x8_S1x1_0_2)).squeeze S_ Gen.squeezes_S1x1_S_).sem) (sV := ((cc0_scratch3.slice (Rect.unit (s := S8) ![2] S1.size Gen.inb_S8_S1_2)).squeeze S_ Gen.squeezes_S1_S_).sem) rfl rfl (M := slotM (off := ![0, 2, 0, 0]) Gen.inb_S2x4x256x64_S1x1x256x64_0_2_0_0) (M' := slotM (off := ![0, 2, 0, 0]) Gen.inb_S2x4x256x64_S1x1x256x64_0_2_0_0) rfl rfl (hsc := rfl) (hsem := fun _ => ⟨⟨rfl, Or.inl rfl⟩, trivial⟩)) $$ [O S2]
  · isplitr; · iexact HI
    isplitl [O]; · iexact O
    iexact S2
  iintro ⟨O, S2⟩
  iapply wp_done
  iapply Hk
  isplitl [O]; · iexact O
  isplitl [Q]; · iexact Q
  isplitl [K]; · iexact K
  isplitl [V]; · iexact V
  isplitl [S1]; · iexact S1
  isplitl [S2]; · iexact S2
  iexact T

theorem wp_part6 (κ : GSem nD τ sig → ℕ) (d : Dev nD) {Q : _ → sProp (MT nD τ sig ℕ (Elt F) ℕ UU ℕ)} :
    iprop(invs m κ ∗ levAts (L 5) lv ∗ OwS d 14 ∗ QS m d ∗ kP m d ∗ vP m d ∗ SB m d 2 1 0 ∗ SA (Own d 3) d 3 ∗ OutS m d 2)
      ⊢ iprop(((OwS d 18 ∗ QS m d ∗ kP m d ∗ vP m d ∗ SB m d 2 4 0 ∗ SB m d 3 1 0 ∗ OutS m d 3) -∗ Q ⟨⟩) -∗ wp frame (wpE (defs₀ (F := F)) 𝒱₀ (d : Thread nD τ) none) Set.univ
          (k0_part6 (F := F) xMm (Memref.isWhole_whole _) wqMm (Memref.isWhole_whole _) kMm (Memref.isWhole_whole _) vMm (Memref.isWhole_whole _) woMm (Memref.isWhole_whole _) oMm (Memref.isWhole_whole _) cMm (Memref.isWhole_whole _) qMm (Memref.isWhole_whole _) cc0_scratch2 cc0_scratch3 d (V2 d) (V9 d) (V13 d) (V17 d) (V19 d) maskV (wo m d) (Scalar.extui (Scalar.cmpi .slt (V13 d) 8#32) : BitVec 32)) Q) := by
  rw [Gen.k0_part6_eq_skeleton]
  unfold Gen.k0_part6_skel
  iintro ⟨#HI, #Hlev, O, Q, K, V, S2, S3, T⟩ Hk
  iapply (wp_if_then (cond := k0_cond24 d) (A := fun h => Prog.lift (.enqueueDma _ (.remote (Dev.tc (⟨k0_dev15 d, Gen.k0_dev15_lt d h⟩ : Dev nD)) _ _ _) _ _ _ _)))
  iapply (step_send m κ d 2 1 (n := 14) (n' := 15) rfl rfl (a := 1) (a' := 2) rfl rfl (c24 d) (dv15 d) (sS := ((cc0_scratch2.slice (Rect.unit (s := S4x8) ![1, 2] S1x1.size Gen.inb_S4x8_S1x1_1_2)).squeeze S_ Gen.squeezes_S1x1_S_).sem) (sV := ((cc0_scratch3.slice (Rect.unit (s := S8) ![2] S1.size Gen.inb_S8_S1_2)).squeeze S_ Gen.squeezes_S1_S_).sem) rfl rfl (M := slotM (off := ![0, 2, 0, 0]) Gen.inb_S2x4x256x64_S1x1x256x64_0_2_0_0) (M' := slotM (off := ![0, 2, 0, 0]) Gen.inb_S2x4x256x64_S1x1x256x64_0_2_0_0) rfl rfl (hsc := rfl) (hsem := fun _ => ⟨⟨rfl, Or.inl rfl⟩, trivial⟩)) $$ [O S2]
  · isplitr; · iexact HI
    isplitl [O]; · iexact O
    iexact S2
  iintro ⟨O, S2⟩
  iapply (wp_if_then (cond := k0_cond25 d) (A := fun h => Prog.lift (.enqueueDma _ (.remote (Dev.tc (⟨k0_dev16 d, Gen.k0_dev16_lt d h⟩ : Dev nD)) _ _ _) _ _ _ _)))
  iapply (step_send m κ d 2 2 (n := 15) (n' := 16) rfl rfl (a := 2) (a' := 3) rfl rfl (c25 d) (dv16 d) (sS := ((cc0_scratch2.slice (Rect.unit (s := S4x8) ![2, 2] S1x1.size Gen.inb_S4x8_S1x1_2_2)).squeeze S_ Gen.squeezes_S1x1_S_).sem) (sV := ((cc0_scratch3.slice (Rect.unit (s := S8) ![2] S1.size Gen.inb_S8_S1_2)).squeeze S_ Gen.squeezes_S1_S_).sem) rfl rfl (M := slotM (off := ![0, 2, 0, 0]) Gen.inb_S2x4x256x64_S1x1x256x64_0_2_0_0) (M' := slotM (off := ![0, 2, 0, 0]) Gen.inb_S2x4x256x64_S1x1x256x64_0_2_0_0) rfl rfl (hsc := rfl) (hsem := fun _ => ⟨⟨rfl, Or.inl rfl⟩, trivial⟩)) $$ [O S2]
  · isplitr; · iexact HI
    isplitl [O]; · iexact O
    iexact S2
  iintro ⟨O, S2⟩
  iapply (wp_if_then (cond := k0_cond26 d) (A := fun h => Prog.lift (.enqueueDma _ (.remote (Dev.tc (⟨k0_dev17 d, Gen.k0_dev17_lt d h⟩ : Dev nD)) _ _ _) _ _ _ _)))
  iapply (step_send m κ d 2 3 (n := 16) (n' := 17) rfl rfl (a := 3) (a' := 4) rfl rfl (c26 d) (dv17 d) (sS := ((cc0_scratch2.slice (Rect.unit (s := S4x8) ![3, 2] S1x1.size Gen.inb_S4x8_S1x1_3_2)).squeeze S_ Gen.squeezes_S1x1_S_).sem) (sV := ((cc0_scratch3.slice (Rect.unit (s := S8) ![2] S1.size Gen.inb_S8_S1_2)).squeeze S_ Gen.squeezes_S1_S_).sem) rfl rfl (M := slotM (off := ![0, 2, 0, 0]) Gen.inb_S2x4x256x64_S1x1x256x64_0_2_0_0) (M' := slotM (off := ![0, 2, 0, 0]) Gen.inb_S2x4x256x64_S1x1x256x64_0_2_0_0) rfl rfl (hsc := rfl) (hsem := fun _ => ⟨⟨rfl, Or.inl rfl⟩, trivial⟩)) $$ [O S2]
  · isplitr; · iexact HI
    isplitl [O]; · iexact O
    iexact S2
  iintro ⟨O, S2⟩
  iapply (step_add m d 2 1 rfl 0 rfl rfl (n := 2) (n' := 3) rfl rfl (pay := Gen.k0_pay13 (wo m d)) rfl) $$ [S2 T]
  · isplitl [S2]; · iexact S2
    iexact T
  iintro ⟨S2, T⟩
  iapply (step_chunk_then m d 3 (cRoot d) (pay := Gen.k0_pay14 maskV) (fun _ _ _ => rfl)) $$ [Q K V S3]
  · isplitl [Q]; · iexact Q
    isplitl [K]; · iexact K
    isplitl [V]; · iexact V
    iexact S3
  iintro ⟨Q, K, V, S3⟩
  iapply (wp_if_then (A := fun _ => Prog.lift (.waitDma2 _ _ _ _ _)))
  iapply (step_recv m κ d 3 (n := 17) (by decide) (cRest d) (s := ((cc0_scratch3.slice (Rect.unit (s := S8) ![3] S1.size Gen.inb_S8_S1_3)).squeeze S_ Gen.squeezes_S1_S_).sem) rfl (M := slotM (off := ![0, 3, 0, 0]) Gen.inb_S2x4x256x64_S1x1x256x64_0_3_0_0) (M' := slotM (off := ![0, 3, 0, 0]) Gen.inb_S2x4x256x64_S1x1x256x64_0_3_0_0) rfl) $$ [O S3]
  · isplitr; · iexact HI
    isplitr; · iexact Hlev
    isplitl [O]; · iexact O
    iexact S3
  iintro ⟨O, S3⟩
  iapply (wp_if_then (cond := k0_cond29 d) (A := fun h => Prog.lift (.enqueueDma _ (.remote (Dev.tc (⟨k0_dev18 d, Gen.k0_dev18_lt d h⟩ : Dev nD)) _ _ _) _ _ _ _)))
  iapply (step_send m κ d 3 0 (n := 17) (n' := 18) rfl rfl (a := 0) (a' := 1) rfl rfl (c29 d) (dv18 d) (sS := ((cc0_scratch2.slice (Rect.unit (s := S4x8) ![0, 3] S1x1.size Gen.inb_S4x8_S1x1_0_3)).squeeze S_ Gen.squeezes_S1x1_S_).sem) (sV := ((cc0_scratch3.slice (Rect.unit (s := S8) ![3] S1.size Gen.inb_S8_S1_3)).squeeze S_ Gen.squeezes_S1_S_).sem) rfl rfl (M := slotM (off := ![0, 3, 0, 0]) Gen.inb_S2x4x256x64_S1x1x256x64_0_3_0_0) (M' := slotM (off := ![0, 3, 0, 0]) Gen.inb_S2x4x256x64_S1x1x256x64_0_3_0_0) rfl rfl (hsc := rfl) (hsem := fun _ => ⟨⟨rfl, Or.inl rfl⟩, trivial⟩)) $$ [O S3]
  · isplitr; · iexact HI
    isplitl [O]; · iexact O
    iexact S3
  iintro ⟨O, S3⟩
  iapply wp_done
  iapply Hk
  isplitl [O]; · iexact O
  isplitl [Q]; · iexact Q
  isplitl [K]; · iexact K
  isplitl [V]; · iexact V
  isplitl [S2]; · iexact S2
  isplitl [S3]; · iexact S3
  iexact T

theorem wp_part7 (κ : GSem nD τ sig → ℕ) (d : Dev nD) {Q : _ → sProp (MT nD τ sig ℕ (Elt F) ℕ UU ℕ)} :
    iprop(invs m κ ∗ levAts (L 5) lv ∗ OwS d 18 ∗ QS m d ∗ kP m d ∗ vP m d ∗ SB m d 3 1 0 ∗ SA (Own d 4) d 4 ∗ OutS m d 3)
      ⊢ iprop(((OwS d 23 ∗ QS m d ∗ kP m d ∗ vP m d ∗ SB m d 3 4 0 ∗ SB m d 4 2 0 ∗ OutS m d 4) -∗ Q 8#32) -∗ wp frame (wpE (defs₀ (F := F)) 𝒱₀ (d : Thread nD τ) none) Set.univ
          (k0_part7 (F := F) xMm (Memref.isWhole_whole _) wqMm (Memref.isWhole_whole _) kMm (Memref.isWhole_whole _) vMm (Memref.isWhole_whole _) woMm (Memref.isWhole_whole _) oMm (Memref.isWhole_whole _) cMm (Memref.isWhole_whole _) qMm (Memref.isWhole_whole _) cc0_scratch2 cc0_scratch3 d (V2 d) (V9 d) (V13 d) (V17 d) (V19 d) maskV (wo m d)) Q) := by
  rw [Gen.k0_part7_eq_skeleton]
  unfold Gen.k0_part7_skel
  iintro ⟨#HI, #Hlev, O, Q, K, V, S3, S4, T⟩ Hk
  iapply (wp_if_then (cond := k0_cond30 d) (A := fun h => Prog.lift (.enqueueDma _ (.remote (Dev.tc (⟨k0_dev19 d, Gen.k0_dev19_lt d h⟩ : Dev nD)) _ _ _) _ _ _ _)))
  iapply (step_send m κ d 3 1 (n := 18) (n' := 19) rfl rfl (a := 1) (a' := 2) rfl rfl (c30 d) (dv19 d) (sS := ((cc0_scratch2.slice (Rect.unit (s := S4x8) ![1, 3] S1x1.size Gen.inb_S4x8_S1x1_1_3)).squeeze S_ Gen.squeezes_S1x1_S_).sem) (sV := ((cc0_scratch3.slice (Rect.unit (s := S8) ![3] S1.size Gen.inb_S8_S1_3)).squeeze S_ Gen.squeezes_S1_S_).sem) rfl rfl (M := slotM (off := ![0, 3, 0, 0]) Gen.inb_S2x4x256x64_S1x1x256x64_0_3_0_0) (M' := slotM (off := ![0, 3, 0, 0]) Gen.inb_S2x4x256x64_S1x1x256x64_0_3_0_0) rfl rfl (hsc := rfl) (hsem := fun _ => ⟨⟨rfl, Or.inl rfl⟩, trivial⟩)) $$ [O S3]
  · isplitr; · iexact HI
    isplitl [O]; · iexact O
    iexact S3
  iintro ⟨O, S3⟩
  iapply (wp_if_then (cond := k0_cond31 d) (A := fun h => Prog.lift (.enqueueDma _ (.remote (Dev.tc (⟨k0_dev20 d, Gen.k0_dev20_lt d h⟩ : Dev nD)) _ _ _) _ _ _ _)))
  iapply (step_send m κ d 3 2 (n := 19) (n' := 20) rfl rfl (a := 2) (a' := 3) rfl rfl (c31 d) (dv20 d) (sS := ((cc0_scratch2.slice (Rect.unit (s := S4x8) ![2, 3] S1x1.size Gen.inb_S4x8_S1x1_2_3)).squeeze S_ Gen.squeezes_S1x1_S_).sem) (sV := ((cc0_scratch3.slice (Rect.unit (s := S8) ![3] S1.size Gen.inb_S8_S1_3)).squeeze S_ Gen.squeezes_S1_S_).sem) rfl rfl (M := slotM (off := ![0, 3, 0, 0]) Gen.inb_S2x4x256x64_S1x1x256x64_0_3_0_0) (M' := slotM (off := ![0, 3, 0, 0]) Gen.inb_S2x4x256x64_S1x1x256x64_0_3_0_0) rfl rfl (hsc := rfl) (hsem := fun _ => ⟨⟨rfl, Or.inl rfl⟩, trivial⟩)) $$ [O S3]
  · isplitr; · iexact HI
    isplitl [O]; · iexact O
    iexact S3
  iintro ⟨O, S3⟩
  iapply (wp_if_then (cond := k0_cond32 d) (A := fun h => Prog.lift (.enqueueDma _ (.remote (Dev.tc (⟨k0_dev21 d, Gen.k0_dev21_lt d h⟩ : Dev nD)) _ _ _) _ _ _ _)))
  iapply (step_send m κ d 3 3 (n := 20) (n' := 21) rfl rfl (a := 3) (a' := 4) rfl rfl (c32 d) (dv21 d) (sS := ((cc0_scratch2.slice (Rect.unit (s := S4x8) ![3, 3] S1x1.size Gen.inb_S4x8_S1x1_3_3)).squeeze S_ Gen.squeezes_S1x1_S_).sem) (sV := ((cc0_scratch3.slice (Rect.unit (s := S8) ![3] S1.size Gen.inb_S8_S1_3)).squeeze S_ Gen.squeezes_S1_S_).sem) rfl rfl (M := slotM (off := ![0, 3, 0, 0]) Gen.inb_S2x4x256x64_S1x1x256x64_0_3_0_0) (M' := slotM (off := ![0, 3, 0, 0]) Gen.inb_S2x4x256x64_S1x1x256x64_0_3_0_0) rfl rfl (hsc := rfl) (hsem := fun _ => ⟨⟨rfl, Or.inl rfl⟩, trivial⟩)) $$ [O S3]
  · isplitr; · iexact HI
    isplitl [O]; · iexact O
    iexact S3
  iintro ⟨O, S3⟩
  iapply (step_add m d 3 2 rfl 0 rfl rfl (n := 3) (n' := 4) rfl rfl (pay := Gen.k0_pay15 (wo m d)) rfl) $$ [S3 T]
  · isplitl [S3]; · iexact S3
    iexact T
  iintro ⟨S3, T⟩
  iapply (step_chunk_then m d 4 (cRoot d) (pay := Gen.k0_pay16 maskV) (fun _ _ _ => rfl)) $$ [Q K V S4]
  · isplitl [Q]; · iexact Q
    isplitl [K]; · iexact K
    isplitl [V]; · iexact V
    iexact S4
  iintro ⟨Q, K, V, S4⟩
  iapply (wp_if_then (A := fun _ => Prog.lift (.waitDma2 _ _ _ _ _)))
  iapply (step_recv m κ d 4 (n := 21) (by decide) (cRest d) (s := ((cc0_scratch3.slice (Rect.unit (s := S8) ![4] S1.size Gen.inb_S8_S1_4)).squeeze S_ Gen.squeezes_S1_S_).sem) rfl (M := slotM (off := ![1, 0, 0, 0]) Gen.inb_S2x4x256x64_S1x1x256x64_1_0_0_0) (M' := slotM (off := ![1, 0, 0, 0]) Gen.inb_S2x4x256x64_S1x1x256x64_1_0_0_0) rfl) $$ [O S4]
  · isplitr; · iexact HI
    isplitr; · iexact Hlev
    isplitl [O]; · iexact O
    iexact S4
  iintro ⟨O, S4⟩
  iapply (wp_if_then (cond := k0_cond35 d) (A := fun h => Prog.lift (.enqueueDma _ (.remote (Dev.tc (⟨k0_dev22 d, Gen.k0_dev22_lt d h⟩ : Dev nD)) _ _ _) _ _ _ _)))
  iapply (step_send m κ d 4 0 (n := 21) (n' := 22) rfl rfl (a := 0) (a' := 1) rfl rfl (c35 d) (dv22 d) (sS := ((cc0_scratch2.slice (Rect.unit (s := S4x8) ![0, 4] S1x1.size Gen.inb_S4x8_S1x1_0_4)).squeeze S_ Gen.squeezes_S1x1_S_).sem) (sV := ((cc0_scratch3.slice (Rect.unit (s := S8) ![4] S1.size Gen.inb_S8_S1_4)).squeeze S_ Gen.squeezes_S1_S_).sem) rfl rfl (M := slotM (off := ![1, 0, 0, 0]) Gen.inb_S2x4x256x64_S1x1x256x64_1_0_0_0) (M' := slotM (off := ![1, 0, 0, 0]) Gen.inb_S2x4x256x64_S1x1x256x64_1_0_0_0) rfl rfl (hsc := rfl) (hsem := fun _ => ⟨⟨rfl, Or.inl rfl⟩, trivial⟩)) $$ [O S4]
  · isplitr; · iexact HI
    isplitl [O]; · iexact O
    iexact S4
  iintro ⟨O, S4⟩
  iapply (wp_if_then (cond := k0_cond36 d) (A := fun h => Prog.lift (.enqueueDma _ (.remote (Dev.tc (⟨k0_dev23 d, Gen.k0_dev23_lt d h⟩ : Dev nD)) _ _ _) _ _ _ _)))
  iapply (step_send m κ d 4 1 (n := 22) (n' := 23) rfl rfl (a := 1) (a' := 2) rfl rfl (c36 d) (dv23 d) (sS := ((cc0_scratch2.slice (Rect.unit (s := S4x8) ![1, 4] S1x1.size Gen.inb_S4x8_S1x1_1_4)).squeeze S_ Gen.squeezes_S1x1_S_).sem) (sV := ((cc0_scratch3.slice (Rect.unit (s := S8) ![4] S1.size Gen.inb_S8_S1_4)).squeeze S_ Gen.squeezes_S1_S_).sem) rfl rfl (M := slotM (off := ![1, 0, 0, 0]) Gen.inb_S2x4x256x64_S1x1x256x64_1_0_0_0) (M' := slotM (off := ![1, 0, 0, 0]) Gen.inb_S2x4x256x64_S1x1x256x64_1_0_0_0) rfl rfl (hsc := rfl) (hsem := fun _ => ⟨⟨rfl, Or.inl rfl⟩, trivial⟩)) $$ [O S4]
  · isplitr; · iexact HI
    isplitl [O]; · iexact O
    iexact S4
  iintro ⟨O, S4⟩
  iapply wp_done
  iapply Hk
  isplitl [O]; · iexact O
  isplitl [Q]; · iexact Q
  isplitl [K]; · iexact K
  isplitl [V]; · iexact V
  isplitl [S3]; · iexact S3
  isplitl [S4]; · iexact S4
  iexact T

end Cert.KernelIdeal.Talk

end
-- ==== Proof.Ideal.PartsC.lean ====
/-
  The broadcast kernel's body, parts 8 to 10 of it: what each takes and leaves.
-/
module

public import proofs.«01_k».proof.Proof.Ideal.PartsA

@[expose] public section

noncomputable section

namespace Cert.KernelIdeal.Talk

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.SiteBlocks (L lv Above mayWait_of)
open Idealize.ShloMosaic.TalkSites (Pay tallyL tallyL_append tallyL_pos credOf allPays launchCred_tallyL cred_tallyL)

variable {F : FTy → Type} [FloatOps F] [Named F]

open Idealize.ShloMosaic.ValueIdx (ix2 ix3 ix4 eq_ix3 eq_ix4)

local notation "𝕄" => MT nD τ sig ℕ (Elt F) ℕ UU ℕ

variable (m : Mem F)

attribute [local irreducible] Scalar.divsi Scalar.remsi Scalar.cmpi Scalar.select Scalar.extui Scalar.ori Scalar.xori

theorem wp_part8 (κ : GSem nD τ sig → ℕ) (d : Dev nD) {Q : _ → sProp (MT nD τ sig ℕ (Elt F) ℕ UU ℕ)} :
    iprop(invs m κ ∗ levAts (L 5) lv ∗ OwS d 23 ∗ QS m d ∗ kP m d ∗ vP m d ∗ SB m d 4 2 0 ∗ SA (Own d 5) d 5 ∗ OutS m d 4)
      ⊢ iprop(((OwS d 28 ∗ QS m d ∗ kP m d ∗ vP m d ∗ SB m d 4 4 0 ∗ SB m d 5 3 0 ∗ OutS m d 5) -∗ Q (Scalar.extui (Scalar.cmpi .slt (V19 d) 8#32) : BitVec 32)) -∗ wp frame (wpE (defs₀ (F := F)) 𝒱₀ (d : Thread nD τ) none) Set.univ
          (k0_part8 (F := F) xMm (Memref.isWhole_whole _) wqMm (Memref.isWhole_whole _) kMm (Memref.isWhole_whole _) vMm (Memref.isWhole_whole _) woMm (Memref.isWhole_whole _) oMm (Memref.isWhole_whole _) cMm (Memref.isWhole_whole _) qMm (Memref.isWhole_whole _) cc0_scratch2 cc0_scratch3 d (V2 d) (V9 d) (V13 d) (V17 d) (V19 d) maskV (wo m d) 8#32) Q) := by
  rw [Gen.k0_part8_eq_skeleton]
  unfold Gen.k0_part8_skel
  iintro ⟨#HI, #Hlev, O, Q, K, V, S4, S5, T⟩ Hk
  iapply (wp_if_then (cond := k0_cond37 d) (A := fun h => Prog.lift (.enqueueDma _ (.remote (Dev.tc (⟨k0_dev24 d, Gen.k0_dev24_lt d h⟩ : Dev nD)) _ _ _) _ _ _ _)))
  iapply (step_send m κ d 4 2 (n := 23) (n' := 24) rfl rfl (a := 2) (a' := 3) rfl rfl (c37 d) (dv24 d) (sS := ((cc0_scratch2.slice (Rect.unit (s := S4x8) ![2, 4] S1x1.size Gen.inb_S4x8_S1x1_2_4)).squeeze S_ Gen.squeezes_S1x1_S_).sem) (sV := ((cc0_scratch3.slice (Rect.unit (s := S8) ![4] S1.size Gen.inb_S8_S1_4)).squeeze S_ Gen.squeezes_S1_S_).sem) rfl rfl (M := slotM (off := ![1, 0, 0, 0]) Gen.inb_S2x4x256x64_S1x1x256x64_1_0_0_0) (M' := slotM (off := ![1, 0, 0, 0]) Gen.inb_S2x4x256x64_S1x1x256x64_1_0_0_0) rfl rfl (hsc := rfl) (hsem := fun _ => ⟨⟨rfl, Or.inl rfl⟩, trivial⟩)) $$ [O S4]
  · isplitr; · iexact HI
    isplitl [O]; · iexact O
    iexact S4
  iintro ⟨O, S4⟩
  iapply (wp_if_then (cond := k0_cond38 d) (A := fun h => Prog.lift (.enqueueDma _ (.remote (Dev.tc (⟨k0_dev25 d, Gen.k0_dev25_lt d h⟩ : Dev nD)) _ _ _) _ _ _ _)))
  iapply (step_send m κ d 4 3 (n := 24) (n' := 25) rfl rfl (a := 3) (a' := 4) rfl rfl (c38 d) (dv25 d) (sS := ((cc0_scratch2.slice (Rect.unit (s := S4x8) ![3, 4] S1x1.size Gen.inb_S4x8_S1x1_3_4)).squeeze S_ Gen.squeezes_S1x1_S_).sem) (sV := ((cc0_scratch3.slice (Rect.unit (s := S8) ![4] S1.size Gen.inb_S8_S1_4)).squeeze S_ Gen.squeezes_S1_S_).sem) rfl rfl (M := slotM (off := ![1, 0, 0, 0]) Gen.inb_S2x4x256x64_S1x1x256x64_1_0_0_0) (M' := slotM (off := ![1, 0, 0, 0]) Gen.inb_S2x4x256x64_S1x1x256x64_1_0_0_0) rfl rfl (hsc := rfl) (hsem := fun _ => ⟨⟨rfl, Or.inl rfl⟩, trivial⟩)) $$ [O S4]
  · isplitr; · iexact HI
    isplitl [O]; · iexact O
    iexact S4
  iintro ⟨O, S4⟩
  iapply (step_out m d 4 1 rfl (n := 4) (n' := 5) rfl rfl (pay := Gen.k0_pay17 (wo m d)) rfl) $$ [S4 T]
  · isplitl [S4]; · iexact S4
    iexact T
  iintro ⟨S4, T⟩
  iapply (step_chunk_then m d 5 (cRoot d) (pay := Gen.k0_pay18 maskV) (fun _ _ _ => rfl)) $$ [Q K V S5]
  · isplitl [Q]; · iexact Q
    isplitl [K]; · iexact K
    isplitl [V]; · iexact V
    iexact S5
  iintro ⟨Q, K, V, S5⟩
  iapply (wp_if_then (A := fun _ => Prog.lift (.waitDma2 _ _ _ _ _)))
  iapply (step_recv m κ d 5 (n := 25) (by decide) (cRest d) (s := ((cc0_scratch3.slice (Rect.unit (s := S8) ![5] S1.size Gen.inb_S8_S1_5)).squeeze S_ Gen.squeezes_S1_S_).sem) rfl (M := slotM (off := ![1, 1, 0, 0]) Gen.inb_S2x4x256x64_S1x1x256x64_1_1_0_0) (M' := slotM (off := ![1, 1, 0, 0]) Gen.inb_S2x4x256x64_S1x1x256x64_1_1_0_0) rfl) $$ [O S5]
  · isplitr; · iexact HI
    isplitr; · iexact Hlev
    isplitl [O]; · iexact O
    iexact S5
  iintro ⟨O, S5⟩
  iapply (wp_if_then (cond := k0_cond41 d) (A := fun h => Prog.lift (.enqueueDma _ (.remote (Dev.tc (⟨k0_dev26 d, Gen.k0_dev26_lt d h⟩ : Dev nD)) _ _ _) _ _ _ _)))
  iapply (step_send m κ d 5 0 (n := 25) (n' := 26) rfl rfl (a := 0) (a' := 1) rfl rfl (c41 d) (dv26 d) (sS := ((cc0_scratch2.slice (Rect.unit (s := S4x8) ![0, 5] S1x1.size Gen.inb_S4x8_S1x1_0_5)).squeeze S_ Gen.squeezes_S1x1_S_).sem) (sV := ((cc0_scratch3.slice (Rect.unit (s := S8) ![5] S1.size Gen.inb_S8_S1_5)).squeeze S_ Gen.squeezes_S1_S_).sem) rfl rfl (M := slotM (off := ![1, 1, 0, 0]) Gen.inb_S2x4x256x64_S1x1x256x64_1_1_0_0) (M' := slotM (off := ![1, 1, 0, 0]) Gen.inb_S2x4x256x64_S1x1x256x64_1_1_0_0) rfl rfl (hsc := rfl) (hsem := fun _ => ⟨⟨rfl, Or.inl rfl⟩, trivial⟩)) $$ [O S5]
  · isplitr; · iexact HI
    isplitl [O]; · iexact O
    iexact S5
  iintro ⟨O, S5⟩
  iapply (wp_if_then (cond := k0_cond42 d) (A := fun h => Prog.lift (.enqueueDma _ (.remote (Dev.tc (⟨k0_dev27 d, Gen.k0_dev27_lt d h⟩ : Dev nD)) _ _ _) _ _ _ _)))
  iapply (step_send m κ d 5 1 (n := 26) (n' := 27) rfl rfl (a := 1) (a' := 2) rfl rfl (c42 d) (dv27 d) (sS := ((cc0_scratch2.slice (Rect.unit (s := S4x8) ![1, 5] S1x1.size Gen.inb_S4x8_S1x1_1_5)).squeeze S_ Gen.squeezes_S1x1_S_).sem) (sV := ((cc0_scratch3.slice (Rect.unit (s := S8) ![5] S1.size Gen.inb_S8_S1_5)).squeeze S_ Gen.squeezes_S1_S_).sem) rfl rfl (M := slotM (off := ![1, 1, 0, 0]) Gen.inb_S2x4x256x64_S1x1x256x64_1_1_0_0) (M' := slotM (off := ![1, 1, 0, 0]) Gen.inb_S2x4x256x64_S1x1x256x64_1_1_0_0) rfl rfl (hsc := rfl) (hsem := fun _ => ⟨⟨rfl, Or.inl rfl⟩, trivial⟩)) $$ [O S5]
  · isplitr; · iexact HI
    isplitl [O]; · iexact O
    iexact S5
  iintro ⟨O, S5⟩
  iapply (wp_if_then (cond := k0_cond43 d) (A := fun h => Prog.lift (.enqueueDma _ (.remote (Dev.tc (⟨k0_dev28 d, Gen.k0_dev28_lt d h⟩ : Dev nD)) _ _ _) _ _ _ _)))
  iapply (step_send m κ d 5 2 (n := 27) (n' := 28) rfl rfl (a := 2) (a' := 3) rfl rfl (c43 d) (dv28 d) (sS := ((cc0_scratch2.slice (Rect.unit (s := S4x8) ![2, 5] S1x1.size Gen.inb_S4x8_S1x1_2_5)).squeeze S_ Gen.squeezes_S1x1_S_).sem) (sV := ((cc0_scratch3.slice (Rect.unit (s := S8) ![5] S1.size Gen.inb_S8_S1_5)).squeeze S_ Gen.squeezes_S1_S_).sem) rfl rfl (M := slotM (off := ![1, 1, 0, 0]) Gen.inb_S2x4x256x64_S1x1x256x64_1_1_0_0) (M' := slotM (off := ![1, 1, 0, 0]) Gen.inb_S2x4x256x64_S1x1x256x64_1_1_0_0) rfl rfl (hsc := rfl) (hsem := fun _ => ⟨⟨rfl, Or.inl rfl⟩, trivial⟩)) $$ [O S5]
  · isplitr; · iexact HI
    isplitl [O]; · iexact O
    iexact S5
  iintro ⟨O, S5⟩
  iapply wp_done
  iapply Hk
  isplitl [O]; · iexact O
  isplitl [Q]; · iexact Q
  isplitl [K]; · iexact K
  isplitl [V]; · iexact V
  isplitl [S4]; · iexact S4
  isplitl [S5]; · iexact S5
  iexact T

theorem wp_part9 (κ : GSem nD τ sig → ℕ) (d : Dev nD) {Q : _ → sProp (MT nD τ sig ℕ (Elt F) ℕ UU ℕ)} :
    iprop(invs m κ ∗ levAts (L 5) lv ∗ OwS d 28 ∗ QS m d ∗ kP m d ∗ vP m d ∗ SB m d 5 3 0 ∗ SA (Own d 6) d 6 ∗ OutS m d 5)
      ⊢ iprop(((OwS d 32 ∗ QS m d ∗ kP m d ∗ vP m d ∗ SB m d 5 4 0 ∗ SB m d 6 3 0 ∗ OutS m d 6) -∗ Q ⟨⟩) -∗ wp frame (wpE (defs₀ (F := F)) 𝒱₀ (d : Thread nD τ) none) Set.univ
          (k0_part9 (F := F) xMm (Memref.isWhole_whole _) wqMm (Memref.isWhole_whole _) kMm (Memref.isWhole_whole _) vMm (Memref.isWhole_whole _) woMm (Memref.isWhole_whole _) oMm (Memref.isWhole_whole _) cMm (Memref.isWhole_whole _) qMm (Memref.isWhole_whole _) cc0_scratch2 cc0_scratch3 d (V2 d) (V9 d) (V13 d) (V17 d) (V19 d) maskV (wo m d) (Scalar.extui (Scalar.cmpi .slt (V19 d) 8#32) : BitVec 32)) Q) := by
  rw [Gen.k0_part9_eq_skeleton]
  unfold Gen.k0_part9_skel
  iintro ⟨#HI, #Hlev, O, Q, K, V, S5, S6, T⟩ Hk
  iapply (wp_if_then (cond := k0_cond44 d) (A := fun h => Prog.lift (.enqueueDma _ (.remote (Dev.tc (⟨k0_dev29 d, Gen.k0_dev29_lt d h⟩ : Dev nD)) _ _ _) _ _ _ _)))
  iapply (step_send m κ d 5 3 (n := 28) (n' := 29) rfl rfl (a := 3) (a' := 4) rfl rfl (c44 d) (dv29 d) (sS := ((cc0_scratch2.slice (Rect.unit (s := S4x8) ![3, 5] S1x1.size Gen.inb_S4x8_S1x1_3_5)).squeeze S_ Gen.squeezes_S1x1_S_).sem) (sV := ((cc0_scratch3.slice (Rect.unit (s := S8) ![5] S1.size Gen.inb_S8_S1_5)).squeeze S_ Gen.squeezes_S1_S_).sem) rfl rfl (M := slotM (off := ![1, 1, 0, 0]) Gen.inb_S2x4x256x64_S1x1x256x64_1_1_0_0) (M' := slotM (off := ![1, 1, 0, 0]) Gen.inb_S2x4x256x64_S1x1x256x64_1_1_0_0) rfl rfl (hsc := rfl) (hsem := fun _ => ⟨⟨rfl, Or.inl rfl⟩, trivial⟩)) $$ [O S5]
  · isplitr; · iexact HI
    isplitl [O]; · iexact O
    iexact S5
  iintro ⟨O, S5⟩
  iapply (step_add m d 5 4 rfl 1 rfl rfl (n := 5) (n' := 6) rfl rfl (pay := Gen.k0_pay19 (wo m d)) rfl) $$ [S5 T]
  · isplitl [S5]; · iexact S5
    iexact T
  iintro ⟨S5, T⟩
  iapply (step_chunk_then m d 6 (cRoot d) (pay := Gen.k0_pay20 maskV) (fun _ _ _ => rfl)) $$ [Q K V S6]
  · isplitl [Q]; · iexact Q
    isplitl [K]; · iexact K
    isplitl [V]; · iexact V
    iexact S6
  iintro ⟨Q, K, V, S6⟩
  iapply (wp_if_then (A := fun _ => Prog.lift (.waitDma2 _ _ _ _ _)))
  iapply (step_recv m κ d 6 (n := 29) (by decide) (cRest d) (s := ((cc0_scratch3.slice (Rect.unit (s := S8) ![6] S1.size Gen.inb_S8_S1_6)).squeeze S_ Gen.squeezes_S1_S_).sem) rfl (M := slotM (off := ![1, 2, 0, 0]) Gen.inb_S2x4x256x64_S1x1x256x64_1_2_0_0) (M' := slotM (off := ![1, 2, 0, 0]) Gen.inb_S2x4x256x64_S1x1x256x64_1_2_0_0) rfl) $$ [O S6]
  · isplitr; · iexact HI
    isplitr; · iexact Hlev
    isplitl [O]; · iexact O
    iexact S6
  iintro ⟨O, S6⟩
  iapply (wp_if_then (cond := k0_cond47 d) (A := fun h => Prog.lift (.enqueueDma _ (.remote (Dev.tc (⟨k0_dev30 d, Gen.k0_dev30_lt d h⟩ : Dev nD)) _ _ _) _ _ _ _)))
  iapply (step_send m κ d 6 0 (n := 29) (n' := 30) rfl rfl (a := 0) (a' := 1) rfl rfl (c47 d) (dv30 d) (sS := ((cc0_scratch2.slice (Rect.unit (s := S4x8) ![0, 6] S1x1.size Gen.inb_S4x8_S1x1_0_6)).squeeze S_ Gen.squeezes_S1x1_S_).sem) (sV := ((cc0_scratch3.slice (Rect.unit (s := S8) ![6] S1.size Gen.inb_S8_S1_6)).squeeze S_ Gen.squeezes_S1_S_).sem) rfl rfl (M := slotM (off := ![1, 2, 0, 0]) Gen.inb_S2x4x256x64_S1x1x256x64_1_2_0_0) (M' := slotM (off := ![1, 2, 0, 0]) Gen.inb_S2x4x256x64_S1x1x256x64_1_2_0_0) rfl rfl (hsc := rfl) (hsem := fun _ => ⟨⟨rfl, Or.inl rfl⟩, trivial⟩)) $$ [O S6]
  · isplitr; · iexact HI
    isplitl [O]; · iexact O
    iexact S6
  iintro ⟨O, S6⟩
  iapply (wp_if_then (cond := k0_cond48 d) (A := fun h => Prog.lift (.enqueueDma _ (.remote (Dev.tc (⟨k0_dev31 d, Gen.k0_dev31_lt d h⟩ : Dev nD)) _ _ _) _ _ _ _)))
  iapply (step_send m κ d 6 1 (n := 30) (n' := 31) rfl rfl (a := 1) (a' := 2) rfl rfl (c48 d) (dv31 d) (sS := ((cc0_scratch2.slice (Rect.unit (s := S4x8) ![1, 6] S1x1.size Gen.inb_S4x8_S1x1_1_6)).squeeze S_ Gen.squeezes_S1x1_S_).sem) (sV := ((cc0_scratch3.slice (Rect.unit (s := S8) ![6] S1.size Gen.inb_S8_S1_6)).squeeze S_ Gen.squeezes_S1_S_).sem) rfl rfl (M := slotM (off := ![1, 2, 0, 0]) Gen.inb_S2x4x256x64_S1x1x256x64_1_2_0_0) (M' := slotM (off := ![1, 2, 0, 0]) Gen.inb_S2x4x256x64_S1x1x256x64_1_2_0_0) rfl rfl (hsc := rfl) (hsem := fun _ => ⟨⟨rfl, Or.inl rfl⟩, trivial⟩)) $$ [O S6]
  · isplitr; · iexact HI
    isplitl [O]; · iexact O
    iexact S6
  iintro ⟨O, S6⟩
  iapply (wp_if_then (cond := k0_cond49 d) (A := fun h => Prog.lift (.enqueueDma _ (.remote (Dev.tc (⟨k0_dev32 d, Gen.k0_dev32_lt d h⟩ : Dev nD)) _ _ _) _ _ _ _)))
  iapply (step_send m κ d 6 2 (n := 31) (n' := 32) rfl rfl (a := 2) (a' := 3) rfl rfl (c49 d) (dv32 d) (sS := ((cc0_scratch2.slice (Rect.unit (s := S4x8) ![2, 6] S1x1.size Gen.inb_S4x8_S1x1_2_6)).squeeze S_ Gen.squeezes_S1x1_S_).sem) (sV := ((cc0_scratch3.slice (Rect.unit (s := S8) ![6] S1.size Gen.inb_S8_S1_6)).squeeze S_ Gen.squeezes_S1_S_).sem) rfl rfl (M := slotM (off := ![1, 2, 0, 0]) Gen.inb_S2x4x256x64_S1x1x256x64_1_2_0_0) (M' := slotM (off := ![1, 2, 0, 0]) Gen.inb_S2x4x256x64_S1x1x256x64_1_2_0_0) rfl rfl (hsc := rfl) (hsem := fun _ => ⟨⟨rfl, Or.inl rfl⟩, trivial⟩)) $$ [O S6]
  · isplitr; · iexact HI
    isplitl [O]; · iexact O
    iexact S6
  iintro ⟨O, S6⟩
  iapply wp_done
  iapply Hk
  isplitl [O]; · iexact O
  isplitl [Q]; · iexact Q
  isplitl [K]; · iexact K
  isplitl [V]; · iexact V
  isplitl [S5]; · iexact S5
  isplitl [S6]; · iexact S6
  iexact T

theorem wp_part10 (κ : GSem nD τ sig → ℕ) (d : Dev nD) {Q : _ → sProp (MT nD τ sig ℕ (Elt F) ℕ UU ℕ)} :
    iprop(invs m κ ∗ levAts (L 5) lv ∗ OwS d 32 ∗ QS m d ∗ kP m d ∗ vP m d ∗ SB m d 6 3 0 ∗ SA (Own d 7) d 7 ∗ OutS m d 6)
      ⊢ iprop(((OwS d 37 ∗ QS m d ∗ kP m d ∗ vP m d ∗ SB m d 6 4 0 ∗ SB m d 7 4 0 ∗ OutS m d 7) -∗ Q ⟨⟩) -∗ wp frame (wpE (defs₀ (F := F)) 𝒱₀ (d : Thread nD τ) none) Set.univ
          (k0_part10 (F := F) xMm (Memref.isWhole_whole _) wqMm (Memref.isWhole_whole _) kMm (Memref.isWhole_whole _) vMm (Memref.isWhole_whole _) woMm (Memref.isWhole_whole _) oMm (Memref.isWhole_whole _) cMm (Memref.isWhole_whole _) qMm (Memref.isWhole_whole _) cc0_scratch2 cc0_scratch3 d (V2 d) (V9 d) (V13 d) (V17 d) (V19 d) maskV (wo m d)) Q) := by
  rw [Gen.k0_part10_eq_skeleton]
  unfold Gen.k0_part10_skel
  iintro ⟨#HI, #Hlev, O, Q, K, V, S6, S7, T⟩ Hk
  iapply (wp_if_then (cond := k0_cond50 d) (A := fun h => Prog.lift (.enqueueDma _ (.remote (Dev.tc (⟨k0_dev33 d, Gen.k0_dev33_lt d h⟩ : Dev nD)) _ _ _) _ _ _ _)))
  iapply (step_send m κ d 6 3 (n := 32) (n' := 33) rfl rfl (a := 3) (a' := 4) rfl rfl (c50 d) (dv33 d) (sS := ((cc0_scratch2.slice (Rect.unit (s := S4x8) ![3, 6] S1x1.size Gen.inb_S4x8_S1x1_3_6)).squeeze S_ Gen.squeezes_S1x1_S_).sem) (sV := ((cc0_scratch3.slice (Rect.unit (s := S8) ![6] S1.size Gen.inb_S8_S1_6)).squeeze S_ Gen.squeezes_S1_S_).sem) rfl rfl (M := slotM (off := ![1, 2, 0, 0]) Gen.inb_S2x4x256x64_S1x1x256x64_1_2_0_0) (M' := slotM (off := ![1, 2, 0, 0]) Gen.inb_S2x4x256x64_S1x1x256x64_1_2_0_0) rfl rfl (hsc := rfl) (hsem := fun _ => ⟨⟨rfl, Or.inl rfl⟩, trivial⟩)) $$ [O S6]
  · isplitr; · iexact HI
    isplitl [O]; · iexact O
    iexact S6
  iintro ⟨O, S6⟩
  iapply (step_add m d 6 5 rfl 1 rfl rfl (n := 6) (n' := 7) rfl rfl (pay := Gen.k0_pay21 (wo m d)) rfl) $$ [S6 T]
  · isplitl [S6]; · iexact S6
    iexact T
  iintro ⟨S6, T⟩
  iapply (step_chunk_then m d 7 (cRoot d) (pay := Gen.k0_pay22 maskV) (fun _ _ _ => rfl)) $$ [Q K V S7]
  · isplitl [Q]; · iexact Q
    isplitl [K]; · iexact K
    isplitl [V]; · iexact V
    iexact S7
  iintro ⟨Q, K, V, S7⟩
  iapply (wp_if_then (A := fun _ => Prog.lift (.waitDma2 _ _ _ _ _)))
  iapply (step_recv m κ d 7 (n := 33) (by decide) (cRest d) (s := ((cc0_scratch3.slice (Rect.unit (s := S8) ![7] S1.size Gen.inb_S8_S1_7)).squeeze S_ Gen.squeezes_S1_S_).sem) rfl (M := slotM (off := ![1, 3, 0, 0]) Gen.inb_S2x4x256x64_S1x1x256x64_1_3_0_0) (M' := slotM (off := ![1, 3, 0, 0]) Gen.inb_S2x4x256x64_S1x1x256x64_1_3_0_0) rfl) $$ [O S7]
  · isplitr; · iexact HI
    isplitr; · iexact Hlev
    isplitl [O]; · iexact O
    iexact S7
  iintro ⟨O, S7⟩
  iapply (wp_if_then (cond := k0_cond53 d) (A := fun h => Prog.lift (.enqueueDma _ (.remote (Dev.tc (⟨k0_dev34 d, Gen.k0_dev34_lt d h⟩ : Dev nD)) _ _ _) _ _ _ _)))
  iapply (step_send m κ d 7 0 (n := 33) (n' := 34) rfl rfl (a := 0) (a' := 1) rfl rfl (c53 d) (dv34 d) (sS := ((cc0_scratch2.slice (Rect.unit (s := S4x8) ![0, 7] S1x1.size Gen.inb_S4x8_S1x1_0_7)).squeeze S_ Gen.squeezes_S1x1_S_).sem) (sV := ((cc0_scratch3.slice (Rect.unit (s := S8) ![7] S1.size Gen.inb_S8_S1_7)).squeeze S_ Gen.squeezes_S1_S_).sem) rfl rfl (M := slotM (off := ![1, 3, 0, 0]) Gen.inb_S2x4x256x64_S1x1x256x64_1_3_0_0) (M' := slotM (off := ![1, 3, 0, 0]) Gen.inb_S2x4x256x64_S1x1x256x64_1_3_0_0) rfl rfl (hsc := rfl) (hsem := fun _ => ⟨⟨rfl, Or.inl rfl⟩, trivial⟩)) $$ [O S7]
  · isplitr; · iexact HI
    isplitl [O]; · iexact O
    iexact S7
  iintro ⟨O, S7⟩
  iapply (wp_if_then (cond := k0_cond54 d) (A := fun h => Prog.lift (.enqueueDma _ (.remote (Dev.tc (⟨k0_dev35 d, Gen.k0_dev35_lt d h⟩ : Dev nD)) _ _ _) _ _ _ _)))
  iapply (step_send m κ d 7 1 (n := 34) (n' := 35) rfl rfl (a := 1) (a' := 2) rfl rfl (c54 d) (dv35 d) (sS := ((cc0_scratch2.slice (Rect.unit (s := S4x8) ![1, 7] S1x1.size Gen.inb_S4x8_S1x1_1_7)).squeeze S_ Gen.squeezes_S1x1_S_).sem) (sV := ((cc0_scratch3.slice (Rect.unit (s := S8) ![7] S1.size Gen.inb_S8_S1_7)).squeeze S_ Gen.squeezes_S1_S_).sem) rfl rfl (M := slotM (off := ![1, 3, 0, 0]) Gen.inb_S2x4x256x64_S1x1x256x64_1_3_0_0) (M' := slotM (off := ![1, 3, 0, 0]) Gen.inb_S2x4x256x64_S1x1x256x64_1_3_0_0) rfl rfl (hsc := rfl) (hsem := fun _ => ⟨⟨rfl, Or.inl rfl⟩, trivial⟩)) $$ [O S7]
  · isplitr; · iexact HI
    isplitl [O]; · iexact O
    iexact S7
  iintro ⟨O, S7⟩
  iapply (wp_if_then (cond := k0_cond55 d) (A := fun h => Prog.lift (.enqueueDma _ (.remote (Dev.tc (⟨k0_dev36 d, Gen.k0_dev36_lt d h⟩ : Dev nD)) _ _ _) _ _ _ _)))
  iapply (step_send m κ d 7 2 (n := 35) (n' := 36) rfl rfl (a := 2) (a' := 3) rfl rfl (c55 d) (dv36 d) (sS := ((cc0_scratch2.slice (Rect.unit (s := S4x8) ![2, 7] S1x1.size Gen.inb_S4x8_S1x1_2_7)).squeeze S_ Gen.squeezes_S1x1_S_).sem) (sV := ((cc0_scratch3.slice (Rect.unit (s := S8) ![7] S1.size Gen.inb_S8_S1_7)).squeeze S_ Gen.squeezes_S1_S_).sem) rfl rfl (M := slotM (off := ![1, 3, 0, 0]) Gen.inb_S2x4x256x64_S1x1x256x64_1_3_0_0) (M' := slotM (off := ![1, 3, 0, 0]) Gen.inb_S2x4x256x64_S1x1x256x64_1_3_0_0) rfl rfl (hsc := rfl) (hsem := fun _ => ⟨⟨rfl, Or.inl rfl⟩, trivial⟩)) $$ [O S7]
  · isplitr; · iexact HI
    isplitl [O]; · iexact O
    iexact S7
  iintro ⟨O, S7⟩
  iapply (wp_if_then (cond := k0_cond56 d) (A := fun h => Prog.lift (.enqueueDma _ (.remote (Dev.tc (⟨k0_dev37 d, Gen.k0_dev37_lt d h⟩ : Dev nD)) _ _ _) _ _ _ _)))
  iapply (step_send m κ d 7 3 (n := 36) (n' := 37) rfl rfl (a := 3) (a' := 4) rfl rfl (c56 d) (dv37 d) (sS := ((cc0_scratch2.slice (Rect.unit (s := S4x8) ![3, 7] S1x1.size Gen.inb_S4x8_S1x1_3_7)).squeeze S_ Gen.squeezes_S1x1_S_).sem) (sV := ((cc0_scratch3.slice (Rect.unit (s := S8) ![7] S1.size Gen.inb_S8_S1_7)).squeeze S_ Gen.squeezes_S1_S_).sem) rfl rfl (M := slotM (off := ![1, 3, 0, 0]) Gen.inb_S2x4x256x64_S1x1x256x64_1_3_0_0) (M' := slotM (off := ![1, 3, 0, 0]) Gen.inb_S2x4x256x64_S1x1x256x64_1_3_0_0) rfl rfl (hsc := rfl) (hsem := fun _ => ⟨⟨rfl, Or.inl rfl⟩, trivial⟩)) $$ [O S7]
  · isplitr; · iexact HI
    isplitl [O]; · iexact O
    iexact S7
  iintro ⟨O, S7⟩
  iapply wp_done
  iapply Hk
  isplitl [O]; · iexact O
  isplitl [Q]; · iexact Q
  isplitl [K]; · iexact K
  isplitl [V]; · iexact V
  isplitl [S6]; · iexact S6
  isplitl [S7]; · iexact S7
  iexact T

end Cert.KernelIdeal.Talk

end
-- ==== Proof.Ideal.PartsD.lean ====
/-
  The broadcast kernel's body, parts 11 to 13 of it: what each takes and leaves.
-/
module

public import proofs.«01_k».proof.Proof.Ideal.PartsA

@[expose] public section

noncomputable section

namespace Cert.KernelIdeal.Talk

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.SiteBlocks (L lv Above mayWait_of)
open Idealize.ShloMosaic.TalkSites (Pay tallyL tallyL_append tallyL_pos credOf allPays launchCred_tallyL cred_tallyL)

variable {F : FTy → Type} [FloatOps F] [Named F]

open Idealize.ShloMosaic.ValueIdx (ix2 ix3 ix4 eq_ix3 eq_ix4)

local notation "𝕄" => MT nD τ sig ℕ (Elt F) ℕ UU ℕ

variable (m : Mem F)

attribute [local irreducible] Scalar.divsi Scalar.remsi Scalar.cmpi Scalar.select Scalar.extui Scalar.ori Scalar.xori

theorem wp_part11 (κ : GSem nD τ sig → ℕ) (d : Dev nD) {Q : _ → sProp (MT nD τ sig ℕ (Elt F) ℕ UU ℕ)} :
    iprop(invs m κ ∗ levAts (L 5) lv ∗ OwS d 37 ∗ SB m d 0 4 0 ∗ SB m d 1 4 0 ∗ SB m d 7 4 0 ∗ OutS m d 7)
      ⊢ iprop(((OwS d 37 ∗ SB m d 0 4 4 ∗ SB m d 1 4 2 ∗ SB m d 7 4 0 ∗ OutS m d 8) -∗ Q (Scalar.extui (Scalar.cmpi .slt (V17 d) 8#32) : BitVec 32)) -∗ wp frame (wpE (defs₀ (F := F)) 𝒱₀ (d : Thread nD τ) none) Set.univ
          (k0_part11 (F := F) xMm (Memref.isWhole_whole _) wqMm (Memref.isWhole_whole _) kMm (Memref.isWhole_whole _) vMm (Memref.isWhole_whole _) woMm (Memref.isWhole_whole _) oMm (Memref.isWhole_whole _) cMm (Memref.isWhole_whole _) qMm (Memref.isWhole_whole _) cc0_scratch2 cc0_scratch3 (V9 d) (V13 d) (V17 d) (V19 d) (wo m d)) Q) := by
  rw [Gen.k0_part11_eq_skeleton]
  unfold Gen.k0_part11_skel
  iintro ⟨#HI, #Hlev, O, S0, S1, S7, T⟩ Hk
  iapply (step_add m d 7 6 rfl 1 rfl rfl (n := 7) (n' := 8) rfl rfl (pay := Gen.k0_pay23 (wo m d)) rfl) $$ [S7 T]
  · isplitl [S7]; · iexact S7
    iexact T
  iintro ⟨S7, T⟩
  iapply (wp_if_then (A := fun _ => Prog.lift (.waitDma2 _ _ _ _ _)))
  iapply (step_sent m κ d 0 0 (a := 0) (a' := 1) rfl rfl (cE0 d) (s := ((cc0_scratch2.slice (Rect.unit (s := S4x8) ![0, 0] S1x1.size Gen.inb_S4x8_S1x1_0_0)).squeeze S_ Gen.squeezes_S1x1_S_).sem) rfl (M := slotM (off := ![0, 0, 0, 0]) Gen.inb_S2x4x256x64_S1x1x256x64_0_0_0_0) (M' := slotM (off := ![0, 0, 0, 0]) Gen.inb_S2x4x256x64_S1x1x256x64_0_0_0_0) rfl) $$ [O S0]
  · isplitr; · iexact HI
    isplitl [O]; · iexact O
    iexact S0
  iintro ⟨O, S0⟩
  iapply (wp_if_then (A := fun _ => Prog.lift (.waitDma2 _ _ _ _ _)))
  iapply (step_sent m κ d 0 1 (a := 1) (a' := 2) rfl rfl (cE1 d) (s := ((cc0_scratch2.slice (Rect.unit (s := S4x8) ![1, 0] S1x1.size Gen.inb_S4x8_S1x1_1_0)).squeeze S_ Gen.squeezes_S1x1_S_).sem) rfl (M := slotM (off := ![0, 0, 0, 0]) Gen.inb_S2x4x256x64_S1x1x256x64_0_0_0_0) (M' := slotM (off := ![0, 0, 0, 0]) Gen.inb_S2x4x256x64_S1x1x256x64_0_0_0_0) rfl) $$ [O S0]
  · isplitr; · iexact HI
    isplitl [O]; · iexact O
    iexact S0
  iintro ⟨O, S0⟩
  iapply (wp_if_then (A := fun _ => Prog.lift (.waitDma2 _ _ _ _ _)))
  iapply (step_sent m κ d 0 2 (a := 2) (a' := 3) rfl rfl (cE2 d) (s := ((cc0_scratch2.slice (Rect.unit (s := S4x8) ![2, 0] S1x1.size Gen.inb_S4x8_S1x1_2_0)).squeeze S_ Gen.squeezes_S1x1_S_).sem) rfl (M := slotM (off := ![0, 0, 0, 0]) Gen.inb_S2x4x256x64_S1x1x256x64_0_0_0_0) (M' := slotM (off := ![0, 0, 0, 0]) Gen.inb_S2x4x256x64_S1x1x256x64_0_0_0_0) rfl) $$ [O S0]
  · isplitr; · iexact HI
    isplitl [O]; · iexact O
    iexact S0
  iintro ⟨O, S0⟩
  iapply (wp_if_then (A := fun _ => Prog.lift (.waitDma2 _ _ _ _ _)))
  iapply (step_sent m κ d 0 3 (a := 3) (a' := 4) rfl rfl (cE3 d) (s := ((cc0_scratch2.slice (Rect.unit (s := S4x8) ![3, 0] S1x1.size Gen.inb_S4x8_S1x1_3_0)).squeeze S_ Gen.squeezes_S1x1_S_).sem) rfl (M := slotM (off := ![0, 0, 0, 0]) Gen.inb_S2x4x256x64_S1x1x256x64_0_0_0_0) (M' := slotM (off := ![0, 0, 0, 0]) Gen.inb_S2x4x256x64_S1x1x256x64_0_0_0_0) rfl) $$ [O S0]
  · isplitr; · iexact HI
    isplitl [O]; · iexact O
    iexact S0
  iintro ⟨O, S0⟩
  iapply (wp_if_then (A := fun _ => Prog.lift (.waitDma2 _ _ _ _ _)))
  iapply (step_sent m κ d 1 0 (a := 0) (a' := 1) rfl rfl (cE0 d) (s := ((cc0_scratch2.slice (Rect.unit (s := S4x8) ![0, 1] S1x1.size Gen.inb_S4x8_S1x1_0_1)).squeeze S_ Gen.squeezes_S1x1_S_).sem) rfl (M := slotM (off := ![0, 1, 0, 0]) Gen.inb_S2x4x256x64_S1x1x256x64_0_1_0_0) (M' := slotM (off := ![0, 1, 0, 0]) Gen.inb_S2x4x256x64_S1x1x256x64_0_1_0_0) rfl) $$ [O S1]
  · isplitr; · iexact HI
    isplitl [O]; · iexact O
    iexact S1
  iintro ⟨O, S1⟩
  iapply (wp_if_then (A := fun _ => Prog.lift (.waitDma2 _ _ _ _ _)))
  iapply (step_sent m κ d 1 1 (a := 1) (a' := 2) rfl rfl (cE1 d) (s := ((cc0_scratch2.slice (Rect.unit (s := S4x8) ![1, 1] S1x1.size Gen.inb_S4x8_S1x1_1_1)).squeeze S_ Gen.squeezes_S1x1_S_).sem) rfl (M := slotM (off := ![0, 1, 0, 0]) Gen.inb_S2x4x256x64_S1x1x256x64_0_1_0_0) (M' := slotM (off := ![0, 1, 0, 0]) Gen.inb_S2x4x256x64_S1x1x256x64_0_1_0_0) rfl) $$ [O S1]
  · isplitr; · iexact HI
    isplitl [O]; · iexact O
    iexact S1
  iintro ⟨O, S1⟩
  iapply wp_done
  iapply Hk
  isplitl [O]; · iexact O
  isplitl [S0]; · iexact S0
  isplitl [S1]; · iexact S1
  isplitl [S7]; · iexact S7
  iexact T

theorem wp_part12 (κ : GSem nD τ sig → ℕ) (d : Dev nD) {Q : _ → sProp (MT nD τ sig ℕ (Elt F) ℕ UU ℕ)} :
    iprop(invs m κ ∗ levAts (L 5) lv ∗ OwS d 37 ∗ SB m d 1 4 2 ∗ SB m d 2 4 0 ∗ SB m d 3 4 0)
      ⊢ iprop(((OwS d 37 ∗ SB m d 1 4 4 ∗ SB m d 2 4 4 ∗ SB m d 3 4 4) -∗ Q (Scalar.extui (Scalar.cmpi .slt (V9 d) 8#32) : BitVec 32)) -∗ wp frame (wpE (defs₀ (F := F)) 𝒱₀ (d : Thread nD τ) none) Set.univ
          (k0_part12 (F := F) xMm (Memref.isWhole_whole _) wqMm (Memref.isWhole_whole _) kMm (Memref.isWhole_whole _) vMm (Memref.isWhole_whole _) woMm (Memref.isWhole_whole _) oMm (Memref.isWhole_whole _) cMm (Memref.isWhole_whole _) qMm (Memref.isWhole_whole _) cc0_scratch2 cc0_scratch3 (V9 d) (V13 d) (V17 d) (V19 d) (Scalar.extui (Scalar.cmpi .slt (V17 d) 8#32) : BitVec 32)) Q) := by
  rw [Gen.k0_part12_eq_skeleton]
  unfold Gen.k0_part12_skel
  iintro ⟨#HI, #Hlev, O, S1, S2, S3⟩ Hk
  iapply (wp_if_then (A := fun _ => Prog.lift (.waitDma2 _ _ _ _ _)))
  iapply (step_sent m κ d 1 2 (a := 2) (a' := 3) rfl rfl (cE2 d) (s := ((cc0_scratch2.slice (Rect.unit (s := S4x8) ![2, 1] S1x1.size Gen.inb_S4x8_S1x1_2_1)).squeeze S_ Gen.squeezes_S1x1_S_).sem) rfl (M := slotM (off := ![0, 1, 0, 0]) Gen.inb_S2x4x256x64_S1x1x256x64_0_1_0_0) (M' := slotM (off := ![0, 1, 0, 0]) Gen.inb_S2x4x256x64_S1x1x256x64_0_1_0_0) rfl) $$ [O S1]
  · isplitr; · iexact HI
    isplitl [O]; · iexact O
    iexact S1
  iintro ⟨O, S1⟩
  iapply (wp_if_then (A := fun _ => Prog.lift (.waitDma2 _ _ _ _ _)))
  iapply (step_sent m κ d 1 3 (a := 3) (a' := 4) rfl rfl (cE3 d) (s := ((cc0_scratch2.slice (Rect.unit (s := S4x8) ![3, 1] S1x1.size Gen.inb_S4x8_S1x1_3_1)).squeeze S_ Gen.squeezes_S1x1_S_).sem) rfl (M := slotM (off := ![0, 1, 0, 0]) Gen.inb_S2x4x256x64_S1x1x256x64_0_1_0_0) (M' := slotM (off := ![0, 1, 0, 0]) Gen.inb_S2x4x256x64_S1x1x256x64_0_1_0_0) rfl) $$ [O S1]
  · isplitr; · iexact HI
    isplitl [O]; · iexact O
    iexact S1
  iintro ⟨O, S1⟩
  iapply (wp_if_then (A := fun _ => Prog.lift (.waitDma2 _ _ _ _ _)))
  iapply (step_sent m κ d 2 0 (a := 0) (a' := 1) rfl rfl (cE0 d) (s := ((cc0_scratch2.slice (Rect.unit (s := S4x8) ![0, 2] S1x1.size Gen.inb_S4x8_S1x1_0_2)).squeeze S_ Gen.squeezes_S1x1_S_).sem) rfl (M := slotM (off := ![0, 2, 0, 0]) Gen.inb_S2x4x256x64_S1x1x256x64_0_2_0_0) (M' := slotM (off := ![0, 2, 0, 0]) Gen.inb_S2x4x256x64_S1x1x256x64_0_2_0_0) rfl) $$ [O S2]
  · isplitr; · iexact HI
    isplitl [O]; · iexact O
    iexact S2
  iintro ⟨O, S2⟩
  iapply (wp_if_then (A := fun _ => Prog.lift (.waitDma2 _ _ _ _ _)))
  iapply (step_sent m κ d 2 1 (a := 1) (a' := 2) rfl rfl (cE1 d) (s := ((cc0_scratch2.slice (Rect.unit (s := S4x8) ![1, 2] S1x1.size Gen.inb_S4x8_S1x1_1_2)).squeeze S_ Gen.squeezes_S1x1_S_).sem) rfl (M := slotM (off := ![0, 2, 0, 0]) Gen.inb_S2x4x256x64_S1x1x256x64_0_2_0_0) (M' := slotM (off := ![0, 2, 0, 0]) Gen.inb_S2x4x256x64_S1x1x256x64_0_2_0_0) rfl) $$ [O S2]
  · isplitr; · iexact HI
    isplitl [O]; · iexact O
    iexact S2
  iintro ⟨O, S2⟩
  iapply (wp_if_then (A := fun _ => Prog.lift (.waitDma2 _ _ _ _ _)))
  iapply (step_sent m κ d 2 2 (a := 2) (a' := 3) rfl rfl (cE2 d) (s := ((cc0_scratch2.slice (Rect.unit (s := S4x8) ![2, 2] S1x1.size Gen.inb_S4x8_S1x1_2_2)).squeeze S_ Gen.squeezes_S1x1_S_).sem) rfl (M := slotM (off := ![0, 2, 0, 0]) Gen.inb_S2x4x256x64_S1x1x256x64_0_2_0_0) (M' := slotM (off := ![0, 2, 0, 0]) Gen.inb_S2x4x256x64_S1x1x256x64_0_2_0_0) rfl) $$ [O S2]
  · isplitr; · iexact HI
    isplitl [O]; · iexact O
    iexact S2
  iintro ⟨O, S2⟩
  iapply (wp_if_then (A := fun _ => Prog.lift (.waitDma2 _ _ _ _ _)))
  iapply (step_sent m κ d 2 3 (a := 3) (a' := 4) rfl rfl (cE3 d) (s := ((cc0_scratch2.slice (Rect.unit (s := S4x8) ![3, 2] S1x1.size Gen.inb_S4x8_S1x1_3_2)).squeeze S_ Gen.squeezes_S1x1_S_).sem) rfl (M := slotM (off := ![0, 2, 0, 0]) Gen.inb_S2x4x256x64_S1x1x256x64_0_2_0_0) (M' := slotM (off := ![0, 2, 0, 0]) Gen.inb_S2x4x256x64_S1x1x256x64_0_2_0_0) rfl) $$ [O S2]
  · isplitr; · iexact HI
    isplitl [O]; · iexact O
    iexact S2
  iintro ⟨O, S2⟩
  iapply (wp_if_then (A := fun _ => Prog.lift (.waitDma2 _ _ _ _ _)))
  iapply (step_sent m κ d 3 0 (a := 0) (a' := 1) rfl rfl (cE0 d) (s := ((cc0_scratch2.slice (Rect.unit (s := S4x8) ![0, 3] S1x1.size Gen.inb_S4x8_S1x1_0_3)).squeeze S_ Gen.squeezes_S1x1_S_).sem) rfl (M := slotM (off := ![0, 3, 0, 0]) Gen.inb_S2x4x256x64_S1x1x256x64_0_3_0_0) (M' := slotM (off := ![0, 3, 0, 0]) Gen.inb_S2x4x256x64_S1x1x256x64_0_3_0_0) rfl) $$ [O S3]
  · isplitr; · iexact HI
    isplitl [O]; · iexact O
    iexact S3
  iintro ⟨O, S3⟩
  iapply (wp_if_then (A := fun _ => Prog.lift (.waitDma2 _ _ _ _ _)))
  iapply (step_sent m κ d 3 1 (a := 1) (a' := 2) rfl rfl (cE1 d) (s := ((cc0_scratch2.slice (Rect.unit (s := S4x8) ![1, 3] S1x1.size Gen.inb_S4x8_S1x1_1_3)).squeeze S_ Gen.squeezes_S1x1_S_).sem) rfl (M := slotM (off := ![0, 3, 0, 0]) Gen.inb_S2x4x256x64_S1x1x256x64_0_3_0_0) (M' := slotM (off := ![0, 3, 0, 0]) Gen.inb_S2x4x256x64_S1x1x256x64_0_3_0_0) rfl) $$ [O S3]
  · isplitr; · iexact HI
    isplitl [O]; · iexact O
    iexact S3
  iintro ⟨O, S3⟩
  iapply (wp_if_then (A := fun _ => Prog.lift (.waitDma2 _ _ _ _ _)))
  iapply (step_sent m κ d 3 2 (a := 2) (a' := 3) rfl rfl (cE2 d) (s := ((cc0_scratch2.slice (Rect.unit (s := S4x8) ![2, 3] S1x1.size Gen.inb_S4x8_S1x1_2_3)).squeeze S_ Gen.squeezes_S1x1_S_).sem) rfl (M := slotM (off := ![0, 3, 0, 0]) Gen.inb_S2x4x256x64_S1x1x256x64_0_3_0_0) (M' := slotM (off := ![0, 3, 0, 0]) Gen.inb_S2x4x256x64_S1x1x256x64_0_3_0_0) rfl) $$ [O S3]
  · isplitr; · iexact HI
    isplitl [O]; · iexact O
    iexact S3
  iintro ⟨O, S3⟩
  iapply (wp_if_then (A := fun _ => Prog.lift (.waitDma2 _ _ _ _ _)))
  iapply (step_sent m κ d 3 3 (a := 3) (a' := 4) rfl rfl (cE3 d) (s := ((cc0_scratch2.slice (Rect.unit (s := S4x8) ![3, 3] S1x1.size Gen.inb_S4x8_S1x1_3_3)).squeeze S_ Gen.squeezes_S1x1_S_).sem) rfl (M := slotM (off := ![0, 3, 0, 0]) Gen.inb_S2x4x256x64_S1x1x256x64_0_3_0_0) (M' := slotM (off := ![0, 3, 0, 0]) Gen.inb_S2x4x256x64_S1x1x256x64_0_3_0_0) rfl) $$ [O S3]
  · isplitr; · iexact HI
    isplitl [O]; · iexact O
    iexact S3
  iintro ⟨O, S3⟩
  iapply wp_done
  iapply Hk
  isplitl [O]; · iexact O
  isplitl [S1]; · iexact S1
  isplitl [S2]; · iexact S2
  iexact S3

theorem wp_part13 (κ : GSem nD τ sig → ℕ) (d : Dev nD) {Q : _ → sProp (MT nD τ sig ℕ (Elt F) ℕ UU ℕ)} :
    iprop(invs m κ ∗ levAts (L 5) lv ∗ OwS d 37 ∗ SB m d 4 4 0 ∗ SB m d 5 4 0 ∗ SB m d 6 4 0)
      ⊢ iprop(((OwS d 37 ∗ SB m d 4 4 4 ∗ SB m d 5 4 4 ∗ SB m d 6 4 2) -∗ Q (Scalar.extui (Scalar.cmpi .slt (V17 d) 8#32) : BitVec 32)) -∗ wp frame (wpE (defs₀ (F := F)) 𝒱₀ (d : Thread nD τ) none) Set.univ
          (k0_part13 (F := F) xMm (Memref.isWhole_whole _) wqMm (Memref.isWhole_whole _) kMm (Memref.isWhole_whole _) vMm (Memref.isWhole_whole _) woMm (Memref.isWhole_whole _) oMm (Memref.isWhole_whole _) cMm (Memref.isWhole_whole _) qMm (Memref.isWhole_whole _) cc0_scratch2 cc0_scratch3 (V9 d) (V13 d) (V17 d) (V19 d) (Scalar.extui (Scalar.cmpi .slt (V9 d) 8#32) : BitVec 32)) Q) := by
  rw [Gen.k0_part13_eq_skeleton]
  unfold Gen.k0_part13_skel
  iintro ⟨#HI, #Hlev, O, S4, S5, S6⟩ Hk
  iapply (wp_if_then (A := fun _ => Prog.lift (.waitDma2 _ _ _ _ _)))
  iapply (step_sent m κ d 4 0 (a := 0) (a' := 1) rfl rfl (cE0 d) (s := ((cc0_scratch2.slice (Rect.unit (s := S4x8) ![0, 4] S1x1.size Gen.inb_S4x8_S1x1_0_4)).squeeze S_ Gen.squeezes_S1x1_S_).sem) rfl (M := slotM (off := ![1, 0, 0, 0]) Gen.inb_S2x4x256x64_S1x1x256x64_1_0_0_0) (M' := slotM (off := ![1, 0, 0, 0]) Gen.inb_S2x4x256x64_S1x1x256x64_1_0_0_0) rfl) $$ [O S4]
  · isplitr; · iexact HI
    isplitl [O]; · iexact O
    iexact S4
  iintro ⟨O, S4⟩
  iapply (wp_if_then (A := fun _ => Prog.lift (.waitDma2 _ _ _ _ _)))
  iapply (step_sent m κ d 4 1 (a := 1) (a' := 2) rfl rfl (cE1 d) (s := ((cc0_scratch2.slice (Rect.unit (s := S4x8) ![1, 4] S1x1.size Gen.inb_S4x8_S1x1_1_4)).squeeze S_ Gen.squeezes_S1x1_S_).sem) rfl (M := slotM (off := ![1, 0, 0, 0]) Gen.inb_S2x4x256x64_S1x1x256x64_1_0_0_0) (M' := slotM (off := ![1, 0, 0, 0]) Gen.inb_S2x4x256x64_S1x1x256x64_1_0_0_0) rfl) $$ [O S4]
  · isplitr; · iexact HI
    isplitl [O]; · iexact O
    iexact S4
  iintro ⟨O, S4⟩
  iapply (wp_if_then (A := fun _ => Prog.lift (.waitDma2 _ _ _ _ _)))
  iapply (step_sent m κ d 4 2 (a := 2) (a' := 3) rfl rfl (cE2 d) (s := ((cc0_scratch2.slice (Rect.unit (s := S4x8) ![2, 4] S1x1.size Gen.inb_S4x8_S1x1_2_4)).squeeze S_ Gen.squeezes_S1x1_S_).sem) rfl (M := slotM (off := ![1, 0, 0, 0]) Gen.inb_S2x4x256x64_S1x1x256x64_1_0_0_0) (M' := slotM (off := ![1, 0, 0, 0]) Gen.inb_S2x4x256x64_S1x1x256x64_1_0_0_0) rfl) $$ [O S4]
  · isplitr; · iexact HI
    isplitl [O]; · iexact O
    iexact S4
  iintro ⟨O, S4⟩
  iapply (wp_if_then (A := fun _ => Prog.lift (.waitDma2 _ _ _ _ _)))
  iapply (step_sent m κ d 4 3 (a := 3) (a' := 4) rfl rfl (cE3 d) (s := ((cc0_scratch2.slice (Rect.unit (s := S4x8) ![3, 4] S1x1.size Gen.inb_S4x8_S1x1_3_4)).squeeze S_ Gen.squeezes_S1x1_S_).sem) rfl (M := slotM (off := ![1, 0, 0, 0]) Gen.inb_S2x4x256x64_S1x1x256x64_1_0_0_0) (M' := slotM (off := ![1, 0, 0, 0]) Gen.inb_S2x4x256x64_S1x1x256x64_1_0_0_0) rfl) $$ [O S4]
  · isplitr; · iexact HI
    isplitl [O]; · iexact O
    iexact S4
  iintro ⟨O, S4⟩
  iapply (wp_if_then (A := fun _ => Prog.lift (.waitDma2 _ _ _ _ _)))
  iapply (step_sent m κ d 5 0 (a := 0) (a' := 1) rfl rfl (cE0 d) (s := ((cc0_scratch2.slice (Rect.unit (s := S4x8) ![0, 5] S1x1.size Gen.inb_S4x8_S1x1_0_5)).squeeze S_ Gen.squeezes_S1x1_S_).sem) rfl (M := slotM (off := ![1, 1, 0, 0]) Gen.inb_S2x4x256x64_S1x1x256x64_1_1_0_0) (M' := slotM (off := ![1, 1, 0, 0]) Gen.inb_S2x4x256x64_S1x1x256x64_1_1_0_0) rfl) $$ [O S5]
  · isplitr; · iexact HI
    isplitl [O]; · iexact O
    iexact S5
  iintro ⟨O, S5⟩
  iapply (wp_if_then (A := fun _ => Prog.lift (.waitDma2 _ _ _ _ _)))
  iapply (step_sent m κ d 5 1 (a := 1) (a' := 2) rfl rfl (cE1 d) (s := ((cc0_scratch2.slice (Rect.unit (s := S4x8) ![1, 5] S1x1.size Gen.inb_S4x8_S1x1_1_5)).squeeze S_ Gen.squeezes_S1x1_S_).sem) rfl (M := slotM (off := ![1, 1, 0, 0]) Gen.inb_S2x4x256x64_S1x1x256x64_1_1_0_0) (M' := slotM (off := ![1, 1, 0, 0]) Gen.inb_S2x4x256x64_S1x1x256x64_1_1_0_0) rfl) $$ [O S5]
  · isplitr; · iexact HI
    isplitl [O]; · iexact O
    iexact S5
  iintro ⟨O, S5⟩
  iapply (wp_if_then (A := fun _ => Prog.lift (.waitDma2 _ _ _ _ _)))
  iapply (step_sent m κ d 5 2 (a := 2) (a' := 3) rfl rfl (cE2 d) (s := ((cc0_scratch2.slice (Rect.unit (s := S4x8) ![2, 5] S1x1.size Gen.inb_S4x8_S1x1_2_5)).squeeze S_ Gen.squeezes_S1x1_S_).sem) rfl (M := slotM (off := ![1, 1, 0, 0]) Gen.inb_S2x4x256x64_S1x1x256x64_1_1_0_0) (M' := slotM (off := ![1, 1, 0, 0]) Gen.inb_S2x4x256x64_S1x1x256x64_1_1_0_0) rfl) $$ [O S5]
  · isplitr; · iexact HI
    isplitl [O]; · iexact O
    iexact S5
  iintro ⟨O, S5⟩
  iapply (wp_if_then (A := fun _ => Prog.lift (.waitDma2 _ _ _ _ _)))
  iapply (step_sent m κ d 5 3 (a := 3) (a' := 4) rfl rfl (cE3 d) (s := ((cc0_scratch2.slice (Rect.unit (s := S4x8) ![3, 5] S1x1.size Gen.inb_S4x8_S1x1_3_5)).squeeze S_ Gen.squeezes_S1x1_S_).sem) rfl (M := slotM (off := ![1, 1, 0, 0]) Gen.inb_S2x4x256x64_S1x1x256x64_1_1_0_0) (M' := slotM (off := ![1, 1, 0, 0]) Gen.inb_S2x4x256x64_S1x1x256x64_1_1_0_0) rfl) $$ [O S5]
  · isplitr; · iexact HI
    isplitl [O]; · iexact O
    iexact S5
  iintro ⟨O, S5⟩
  iapply (wp_if_then (A := fun _ => Prog.lift (.waitDma2 _ _ _ _ _)))
  iapply (step_sent m κ d 6 0 (a := 0) (a' := 1) rfl rfl (cE0 d) (s := ((cc0_scratch2.slice (Rect.unit (s := S4x8) ![0, 6] S1x1.size Gen.inb_S4x8_S1x1_0_6)).squeeze S_ Gen.squeezes_S1x1_S_).sem) rfl (M := slotM (off := ![1, 2, 0, 0]) Gen.inb_S2x4x256x64_S1x1x256x64_1_2_0_0) (M' := slotM (off := ![1, 2, 0, 0]) Gen.inb_S2x4x256x64_S1x1x256x64_1_2_0_0) rfl) $$ [O S6]
  · isplitr; · iexact HI
    isplitl [O]; · iexact O
    iexact S6
  iintro ⟨O, S6⟩
  iapply (wp_if_then (A := fun _ => Prog.lift (.waitDma2 _ _ _ _ _)))
  iapply (step_sent m κ d 6 1 (a := 1) (a' := 2) rfl rfl (cE1 d) (s := ((cc0_scratch2.slice (Rect.unit (s := S4x8) ![1, 6] S1x1.size Gen.inb_S4x8_S1x1_1_6)).squeeze S_ Gen.squeezes_S1x1_S_).sem) rfl (M := slotM (off := ![1, 2, 0, 0]) Gen.inb_S2x4x256x64_S1x1x256x64_1_2_0_0) (M' := slotM (off := ![1, 2, 0, 0]) Gen.inb_S2x4x256x64_S1x1x256x64_1_2_0_0) rfl) $$ [O S6]
  · isplitr; · iexact HI
    isplitl [O]; · iexact O
    iexact S6
  iintro ⟨O, S6⟩
  iapply wp_done
  iapply Hk
  isplitl [O]; · iexact O
  isplitl [S4]; · iexact S4
  isplitl [S5]; · iexact S5
  iexact S6

end Cert.KernelIdeal.Talk

end
-- ==== Proof.Ideal.Body.lean ====
/-
  The broadcast kernel's body: what it takes and leaves.
-/
module

public import proofs.«01_k».proof.Proof.Ideal.PartsB
public import proofs.«01_k».proof.Proof.Ideal.PartsC
public import proofs.«01_k».proof.Proof.Ideal.PartsD

@[expose] public section

noncomputable section

namespace Cert.KernelIdeal.Talk

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.SiteBlocks (L lv Above mayWait_of)
open Idealize.ShloMosaic.TalkSites (Pay tallyL tallyL_append tallyL_pos credOf allPays launchCred_tallyL cred_tallyL)

variable {F : FTy → Type} [FloatOps F] [Named F]

open Idealize.ShloMosaic.ValueIdx (ix2 ix3 ix4 eq_ix3 eq_ix4)

local notation "𝕄" => MT nD τ sig ℕ (Elt F) ℕ UU ℕ

variable (m : Mem F)

attribute [local irreducible] Scalar.divsi Scalar.remsi Scalar.cmpi Scalar.select Scalar.extui Scalar.ori Scalar.xori

/-- A program run before another. -/
theorem wp_of_bind {d : Dev nD} {α β : Type} {Qa : α → sProp (MT nD τ sig ℕ (Elt F) ℕ UU ℕ)} {p : Prog (TpuEff nD τ sig (Elt F) Λ₀ .tc) β} {kk : β → Prog (TpuEff nD τ sig (Elt F) Λ₀ .tc) α} :
    wp frame (wpE (defs₀ (F := F)) 𝒱₀ (d : Thread nD τ) none) Set.univ p (fun a => wp frame (wpE (defs₀ (F := F)) 𝒱₀ (d : Thread nD τ) none) Set.univ (kk a) Qa)
      ⊢ wp frame (wpE (defs₀ (F := F)) 𝒱₀ (d : Thread nD τ) none) Set.univ (p >>= kk) Qa := by
  rw [wp_bind]

/-- The duties of the copies of chunk k along edge e. -/
def TkPre (d : Dev nD) (k : Fin 8) (e : Fin 4) : sProp 𝕄 :=
  if isEdge d e = true then iprop(dutyTok ER (sendC d e k) 0 d ∗ dutyTok ER (recvC (tgt d e) k) 0 d) else iprop(emp)
/-- What a device holds for chunk k from the start. -/
def CPre (d : Dev nD) (k : Fin 8) : sProp 𝕄 :=
  iprop(Crd d k ∗ atPos ER (recvC d k) 0 ∅ 0
    ∗ bigSepL (List.finRange 4) fun e => iprop(TkPre d k e ∗ atPos ER (sendC d e k) 0 ∅ 0 ∗ reached ER (sendC d e k) 0))
/-- What the child on edge e hands over of chunk k. -/
def KidE (d : Dev nD) (k : Fin 8) (e : Fin 4) : sProp 𝕄 :=
  if isEdge d e = true then iprop((∃ f, pts (tgt d e) k fullShare f) ∗ reached ER (recvC (tgt d e) k) 0) else iprop(emp)

/-- The children's context buffers, by the chunk. -/
theorem kids_chunks (d : Dev nD) : (Kids d : sProp 𝕄) ⊢ bigSep Finset.univ fun k : Fin 8 => bigSepL (List.finRange 4) fun e => KidE d k e := by
  have h1 : (Kids d : sProp 𝕄) = bigSep Finset.univ fun e : Fin 4 => bigSep Finset.univ fun k : Fin 8 => KidE d k e := by
    unfold Kids KidE
    rw [← bigSep_univ_eq_bigSepL (List.finRange 4) (by decide) (by decide)]
    refine bigSep_congr fun e _ => ?_
    by_cases h : isEdge d e = true
    · simp only [if_pos h]; rfl
    · simp only [if_neg h]; exact (bigSep_emp_const _).symm
  have h2 : (bigSep Finset.univ fun e : Fin 4 => bigSep Finset.univ fun k : Fin 8 => KidE d k e : sProp 𝕄) = bigSep Finset.univ fun k : Fin 8 => bigSep Finset.univ fun e : Fin 4 => KidE d k e := by
    have a1 : (bigSep Finset.univ fun p : Fin 4 × Fin 8 => KidE d p.2 p.1 : sProp 𝕄) = bigSep Finset.univ fun e : Fin 4 => bigSep Finset.univ fun k : Fin 8 => KidE d k e := bigSep_univ_prod _
    have a2 : (bigSep Finset.univ fun p : Fin 8 × Fin 4 => KidE d p.1 p.2 : sProp 𝕄) = bigSep Finset.univ fun k : Fin 8 => bigSep Finset.univ fun e : Fin 4 => KidE d k e := bigSep_univ_prod _
    rw [← a1, ← a2]
    exact bigSep_univ_equiv (Equiv.prodComm (Fin 8) (Fin 4)) _
  rw [h1, h2]
  refine Entails.of_eq (bigSep_congr fun k _ => ?_)
  rw [bigSep_univ_eq_bigSepL (List.finRange 4) (by decide) (by decide)]

theorem chunk_ready (d : Dev nD) (k : Fin 8) :
    (iprop((bigSepL (List.finRange 4) fun e => KidE d k e) ∗ Own d k ∗ CPre d k) : sProp 𝕄) ⊢ SA (Own d k) d k := by
  have h (e : Fin 4) : (iprop(KidE d k e ∗ TkPre d k e ∗ atPos ER (sendC d e k) 0 ∅ 0 ∗ reached ER (sendC d e k) 0) : sProp 𝕄)
      ⊢ iprop(Tk d k e ∗ atPos ER (sendC d e k) 0 ∅ 0 ∗ reached ER (sendC d e k) 0) := by
    unfold KidE TkPre Tk
    by_cases hh : isEdge d e = true
    · simp only [if_pos hh]
      iintro ⟨⟨Hp, Hr⟩, ⟨Ht, Ht'⟩, H⟩
      isplitl [Hp Hr Ht Ht']
      · isplitl [Hp]; · iexact Hp
        isplitl [Ht]; · iexact Ht
        isplitl [Ht']; · iexact Ht'
        iexact Hr
      iexact H
    · simp only [if_neg hh]
      iintro ⟨-, H, H'⟩
      isplitl [H]; · iexact H
      iexact H'
  have hL : (iprop((bigSepL (List.finRange 4) fun e => KidE d k e) ∗ bigSepL (List.finRange 4) fun e => iprop(TkPre d k e ∗ atPos ER (sendC d e k) 0 ∅ 0 ∗ reached ER (sendC d e k) 0)) : sProp 𝕄)
      ⊢ bigSepL (List.finRange 4) fun e => iprop(Tk d k e ∗ atPos ER (sendC d e k) 0 ∅ 0 ∗ reached ER (sendC d e k) 0) := by
    rw [← edge_sep, ← bigSep_univ_eq_bigSepL (List.finRange 4) (by decide) (by decide), ← bigSep_univ_eq_bigSepL (List.finRange 4) (by decide) (by decide)]
    exact bigSep_mono fun e _ => h e
  unfold CPre SA
  iintro ⟨HK, Ho, Hc, Ha, He⟩
  isplitl [Ho]; · iexact Ho
  isplitl [Hc]; · iexact Hc
  isplitl [Ha]; · iexact Ha
  iapply hL
  isplitl [HK]; · iexact HK
  iexact He

/-- Past the barrier every chunk is ready. -/
theorem chunks_ready (d : Dev nD) :
    (iprop(BW d ((False ∨ deg d = 4) ∨ deg d = 1) ∗ (bigSep Finset.univ fun k : Fin 8 => Own d k) ∗ bigSep Finset.univ fun k : Fin 8 => CPre d k) : sProp 𝕄)
      ⊢ iprop(atPos ER (barC d) 1 ∅ 0 ∗ SA (Own d 0) d 0 ∗ SA (Own d 1) d 1 ∗ SA (Own d 2) d 2 ∗ SA (Own d 3) d 3 ∗ SA (Own d 4) d 4 ∗ SA (Own d 5) d 5 ∗ SA (Own d 6) d 6 ∗ SA (Own d 7) d 7) := by
  have hp : (False ∨ deg d = 4) ∨ deg d = 1 := by revert d; decide
  have h : (iprop((bigSep Finset.univ fun k : Fin 8 => bigSepL (List.finRange 4) fun e => KidE d k e) ∗ (bigSep Finset.univ fun k : Fin 8 => Own d k) ∗ bigSep Finset.univ fun k : Fin 8 => CPre d k) : sProp 𝕄)
      ⊢ bigSep Finset.univ fun k : Fin 8 => SA (Own d k) d k := by
    rw [← bigSep_sep', ← bigSep_sep']
    exact bigSep_mono fun k _ => chunk_ready d k
  have h8 : (bigSep Finset.univ fun k : Fin 8 => SA (Own d k) d k : sProp 𝕄) ⊢ iprop(SA (Own d 0) d 0 ∗ SA (Own d 1) d 1 ∗ SA (Own d 2) d 2 ∗ SA (Own d 3) d 3 ∗ SA (Own d 4) d 4 ∗ SA (Own d 5) d 5 ∗ SA (Own d 6) d 6 ∗ SA (Own d 7) d 7) := by
    rw [bigSep_univ_eq_bigSepL (List.finRange 8) (by decide) (by decide), finRange8]
    exact .rfl
  unfold BW
  rw [if_pos hp]
  iintro ⟨⟨Ha, Hk⟩, Ho, HC⟩
  isplitl [Ha]; · iexact Ha
  iapply h8
  iapply h
  isplitl [Hk]; · iapply (kids_chunks d); iexact Hk
  isplitl [Ho]; · iexact Ho
  iexact HC

/-- A chunk served and waited for: its buffer whole again, its cells at their last rounds. -/
theorem chunk_done (d : Dev nD) (k : Fin 8) :
    (SB m d k 4 4 : sProp 𝕄) ⊢ iprop(pts d k fullShare (ctx m) ∗ atPos ER (recvC d k) (if d = 0 then 0 else 1) ∅ 0
      ∗ bigSepL (List.finRange 4) fun e => atPos ER (sendC d e k) (if isEdge d e = true then 1 else 0) ∅ 0) := by
  have h : (bigSepL (List.finRange 4) fun e : Fin 4 => Ed m d k e (if e.val < 4 then 2 else if e.val < 4 then 1 else 0) : sProp 𝕄)
      = iprop((bigSepL (List.finRange 4) fun e => pts d k (qS e) (ctx m)) ∗ bigSepL (List.finRange 4) fun e => atPos ER (sendC d e k) (if isEdge d e = true then 1 else 0) ∅ 0) := by
    rw [← edge_sep]
    congr 1
    funext e
    rw [if_pos e.isLt]
    unfold Ed
    rw [if_neg (by decide), if_neg (by decide)]
  unfold SB
  rw [h]
  iintro ⟨HK, Ha, HS, He⟩
  isplitl [HK HS]
  · iapply (pts_split d k (ctx m)).2
    isplitl [HK]; · iexact HK
    iexact HS
  isplitl [Ha]; · iexact Ha
  iexact He

/-- The whole body. -/
theorem wp_body (κ : GSem nD τ sig → ℕ) (d : Dev nD) {Q : PUnit → sProp (MT nD τ sig ℕ (Elt F) ℕ UU ℕ)} :
    iprop(invs m κ ∗ levAts (L 5) lv ∗ OwS d 0 ∗ SigE d 0 ∗ SigE d 1 ∗ SigE d 2 ∗ SigE d 3 ∗ (SigP d ∗ Slots d ∗ bigSep Finset.univ fun k : Fin 8 => reached ER (recvC d k) 0) ∗ BW d (False) ∗ xP m d ∗ wqP m d ∗ QAny d ∗ kP m d ∗ vP m d ∗ woP m d ∗ (bigSep Finset.univ fun k : Fin 8 => CPre d k) ∗ OutS m d 0)
      ⊢ iprop(((OwS d 37 ∗ atPos ER (barC d) 1 ∅ 0 ∗ xP m d ∗ wqP m d ∗ QS m d ∗ kP m d ∗ vP m d ∗ woP m d ∗ SB m d 0 4 4 ∗ SB m d 1 4 4 ∗ SB m d 2 4 4 ∗ SB m d 3 4 4 ∗ SB m d 4 4 4 ∗ SB m d 5 4 4 ∗ SB m d 6 4 4 ∗ SB m d 7 4 4 ∗ OutS m d 8) -∗ Q ⟨⟩) -∗ wp frame (wpE (defs₀ (F := F)) 𝒱₀ (d : Thread nD τ) none) Set.univ
          (cc0_body (F := F) xMm (Memref.isWhole_whole _) wqMm (Memref.isWhole_whole _) kMm (Memref.isWhole_whole _) vMm (Memref.isWhole_whole _) woMm (Memref.isWhole_whole _) oMm (Memref.isWhole_whole _) cMm (Memref.isWhole_whole _) qMm (Memref.isWhole_whole _) cc0_scratch2 cc0_scratch3) Q) := by
  rw [Gen.cc0_body_eq_skeleton]
  unfold Gen.cc0_body_skel
  iintro ⟨#HI, #Hlev, O, G0, G1, G2, G3, P, B, X, W, Q, K, V, U, C, T⟩ Hk
  iapply wp_of_bind
  iapply (wp_part1 m κ d) $$ [O G0]
  · isplitr; · iexact HI
    isplitr; · iexact Hlev
    isplitl [O]; · iexact O
    iexact G0
  iintro O
  iapply wp_of_bind
  iapply (wp_part2 m κ d (v24 := SemArray.scalar (sig.barrier 0 rfl)) rfl) $$ [O G1 G2 G3 P B X W Q]
  · isplitr; · iexact HI
    isplitr; · iexact Hlev
    isplitl [O]; · iexact O
    isplitl [G1]; · iexact G1
    isplitl [G2]; · iexact G2
    isplitl [G3]; · iexact G3
    isplitl [P]; · iexact P
    isplitl [B]; · iexact B
    isplitl [X]; · iexact X
    isplitl [W]; · iexact W
    iexact Q
  iintro ⟨O, P, B, X, W, Q⟩
  ihave C := (chunks_ready d) $$ [B P C]
  · isplitl [B]; · iexact B
    isplitl [P]; · iexact P
    iexact C
  icases C with ⟨B, S0, S1, S2, S3, S4, S5, S6, S7⟩
  iapply wp_of_bind
  iapply (wp_part3 m κ d) $$ [Q K V U S0]
  · isplitr; · iexact HI
    isplitr; · iexact Hlev
    isplitl [Q]; · iexact Q
    isplitl [K]; · iexact K
    isplitl [V]; · iexact V
    isplitl [U]; · iexact U
    iexact S0
  iintro ⟨Q, K, V, U, S0⟩
  iapply wp_of_bind
  iapply (wp_part4 m κ d) $$ [O Q K V S0 S1 T]
  · isplitr; · iexact HI
    isplitr; · iexact Hlev
    isplitl [O]; · iexact O
    isplitl [Q]; · iexact Q
    isplitl [K]; · iexact K
    isplitl [V]; · iexact V
    isplitl [S0]; · iexact S0
    isplitl [S1]; · iexact S1
    iexact T
  iintro ⟨O, Q, K, V, S0, S1, T⟩
  iapply wp_of_bind
  iapply (wp_part5 m κ d) $$ [O Q K V S1 S2 T]
  · isplitr; · iexact HI
    isplitr; · iexact Hlev
    isplitl [O]; · iexact O
    isplitl [Q]; · iexact Q
    isplitl [K]; · iexact K
    isplitl [V]; · iexact V
    isplitl [S1]; · iexact S1
    isplitl [S2]; · iexact S2
    iexact T
  iintro ⟨O, Q, K, V, S1, S2, T⟩
  iapply wp_of_bind
  iapply (wp_part6 m κ d) $$ [O Q K V S2 S3 T]
  · isplitr; · iexact HI
    isplitr; · iexact Hlev
    isplitl [O]; · iexact O
    isplitl [Q]; · iexact Q
    isplitl [K]; · iexact K
    isplitl [V]; · iexact V
    isplitl [S2]; · iexact S2
    isplitl [S3]; · iexact S3
    iexact T
  iintro ⟨O, Q, K, V, S2, S3, T⟩
  iapply wp_of_bind
  iapply (wp_part7 m κ d) $$ [O Q K V S3 S4 T]
  · isplitr; · iexact HI
    isplitr; · iexact Hlev
    isplitl [O]; · iexact O
    isplitl [Q]; · iexact Q
    isplitl [K]; · iexact K
    isplitl [V]; · iexact V
    isplitl [S3]; · iexact S3
    isplitl [S4]; · iexact S4
    iexact T
  iintro ⟨O, Q, K, V, S3, S4, T⟩
  iapply wp_of_bind
  iapply (wp_part8 m κ d) $$ [O Q K V S4 S5 T]
  · isplitr; · iexact HI
    isplitr; · iexact Hlev
    isplitl [O]; · iexact O
    isplitl [Q]; · iexact Q
    isplitl [K]; · iexact K
    isplitl [V]; · iexact V
    isplitl [S4]; · iexact S4
    isplitl [S5]; · iexact S5
    iexact T
  iintro ⟨O, Q, K, V, S4, S5, T⟩
  iapply wp_of_bind
  iapply (wp_part9 m κ d) $$ [O Q K V S5 S6 T]
  · isplitr; · iexact HI
    isplitr; · iexact Hlev
    isplitl [O]; · iexact O
    isplitl [Q]; · iexact Q
    isplitl [K]; · iexact K
    isplitl [V]; · iexact V
    isplitl [S5]; · iexact S5
    isplitl [S6]; · iexact S6
    iexact T
  iintro ⟨O, Q, K, V, S5, S6, T⟩
  iapply wp_of_bind
  iapply (wp_part10 m κ d) $$ [O Q K V S6 S7 T]
  · isplitr; · iexact HI
    isplitr; · iexact Hlev
    isplitl [O]; · iexact O
    isplitl [Q]; · iexact Q
    isplitl [K]; · iexact K
    isplitl [V]; · iexact V
    isplitl [S6]; · iexact S6
    isplitl [S7]; · iexact S7
    iexact T
  iintro ⟨O, Q, K, V, S6, S7, T⟩
  iapply wp_of_bind
  iapply (wp_part11 m κ d) $$ [O S0 S1 S7 T]
  · isplitr; · iexact HI
    isplitr; · iexact Hlev
    isplitl [O]; · iexact O
    isplitl [S0]; · iexact S0
    isplitl [S1]; · iexact S1
    isplitl [S7]; · iexact S7
    iexact T
  iintro ⟨O, S0, S1, S7, T⟩
  iapply wp_of_bind
  iapply (wp_part12 m κ d) $$ [O S1 S2 S3]
  · isplitr; · iexact HI
    isplitr; · iexact Hlev
    isplitl [O]; · iexact O
    isplitl [S1]; · iexact S1
    isplitl [S2]; · iexact S2
    iexact S3
  iintro ⟨O, S1, S2, S3⟩
  iapply wp_of_bind
  iapply (wp_part13 m κ d) $$ [O S4 S5 S6]
  · isplitr; · iexact HI
    isplitr; · iexact Hlev
    isplitl [O]; · iexact O
    isplitl [S4]; · iexact S4
    isplitl [S5]; · iexact S5
    iexact S6
  iintro ⟨O, S4, S5, S6⟩
  iapply (wp_if_then (A := fun _ => Prog.lift (.waitDma2 _ _ _ _ _)))
  iapply (step_sent m κ d 6 2 (a := 2) (a' := 3) rfl rfl (cE2 d) (s := ((cc0_scratch2.slice (Rect.unit (s := S4x8) ![2, 6] S1x1.size Gen.inb_S4x8_S1x1_2_6)).squeeze S_ Gen.squeezes_S1x1_S_).sem) rfl (M := slotM (off := ![1, 2, 0, 0]) Gen.inb_S2x4x256x64_S1x1x256x64_1_2_0_0) (M' := slotM (off := ![1, 2, 0, 0]) Gen.inb_S2x4x256x64_S1x1x256x64_1_2_0_0) rfl) $$ [O S6]
  · isplitr; · iexact HI
    isplitl [O]; · iexact O
    iexact S6
  iintro ⟨O, S6⟩
  iapply (wp_if_then (A := fun _ => Prog.lift (.waitDma2 _ _ _ _ _)))
  iapply (step_sent m κ d 6 3 (a := 3) (a' := 4) rfl rfl (cE3 d) (s := ((cc0_scratch2.slice (Rect.unit (s := S4x8) ![3, 6] S1x1.size Gen.inb_S4x8_S1x1_3_6)).squeeze S_ Gen.squeezes_S1x1_S_).sem) rfl (M := slotM (off := ![1, 2, 0, 0]) Gen.inb_S2x4x256x64_S1x1x256x64_1_2_0_0) (M' := slotM (off := ![1, 2, 0, 0]) Gen.inb_S2x4x256x64_S1x1x256x64_1_2_0_0) rfl) $$ [O S6]
  · isplitr; · iexact HI
    isplitl [O]; · iexact O
    iexact S6
  iintro ⟨O, S6⟩
  iapply (wp_if_then (A := fun _ => Prog.lift (.waitDma2 _ _ _ _ _)))
  iapply (step_sent m κ d 7 0 (a := 0) (a' := 1) rfl rfl (cE0 d) (s := ((cc0_scratch2.slice (Rect.unit (s := S4x8) ![0, 7] S1x1.size Gen.inb_S4x8_S1x1_0_7)).squeeze S_ Gen.squeezes_S1x1_S_).sem) rfl (M := slotM (off := ![1, 3, 0, 0]) Gen.inb_S2x4x256x64_S1x1x256x64_1_3_0_0) (M' := slotM (off := ![1, 3, 0, 0]) Gen.inb_S2x4x256x64_S1x1x256x64_1_3_0_0) rfl) $$ [O S7]
  · isplitr; · iexact HI
    isplitl [O]; · iexact O
    iexact S7
  iintro ⟨O, S7⟩
  iapply (wp_if_then (A := fun _ => Prog.lift (.waitDma2 _ _ _ _ _)))
  iapply (step_sent m κ d 7 1 (a := 1) (a' := 2) rfl rfl (cE1 d) (s := ((cc0_scratch2.slice (Rect.unit (s := S4x8) ![1, 7] S1x1.size Gen.inb_S4x8_S1x1_1_7)).squeeze S_ Gen.squeezes_S1x1_S_).sem) rfl (M := slotM (off := ![1, 3, 0, 0]) Gen.inb_S2x4x256x64_S1x1x256x64_1_3_0_0) (M' := slotM (off := ![1, 3, 0, 0]) Gen.inb_S2x4x256x64_S1x1x256x64_1_3_0_0) rfl) $$ [O S7]
  · isplitr; · iexact HI
    isplitl [O]; · iexact O
    iexact S7
  iintro ⟨O, S7⟩
  iapply (wp_if_then (A := fun _ => Prog.lift (.waitDma2 _ _ _ _ _)))
  iapply (step_sent m κ d 7 2 (a := 2) (a' := 3) rfl rfl (cE2 d) (s := ((cc0_scratch2.slice (Rect.unit (s := S4x8) ![2, 7] S1x1.size Gen.inb_S4x8_S1x1_2_7)).squeeze S_ Gen.squeezes_S1x1_S_).sem) rfl (M := slotM (off := ![1, 3, 0, 0]) Gen.inb_S2x4x256x64_S1x1x256x64_1_3_0_0) (M' := slotM (off := ![1, 3, 0, 0]) Gen.inb_S2x4x256x64_S1x1x256x64_1_3_0_0) rfl) $$ [O S7]
  · isplitr; · iexact HI
    isplitl [O]; · iexact O
    iexact S7
  iintro ⟨O, S7⟩
  iapply (wp_if_then (A := fun _ => Prog.lift (.waitDma2 _ _ _ _ _)))
  iapply (step_sent m κ d 7 3 (a := 3) (a' := 4) rfl rfl (cE3 d) (s := ((cc0_scratch2.slice (Rect.unit (s := S4x8) ![3, 7] S1x1.size Gen.inb_S4x8_S1x1_3_7)).squeeze S_ Gen.squeezes_S1x1_S_).sem) rfl (M := slotM (off := ![1, 3, 0, 0]) Gen.inb_S2x4x256x64_S1x1x256x64_1_3_0_0) (M' := slotM (off := ![1, 3, 0, 0]) Gen.inb_S2x4x256x64_S1x1x256x64_1_3_0_0) rfl) $$ [O S7]
  · isplitr; · iexact HI
    isplitl [O]; · iexact O
    iexact S7
  iintro ⟨O, S7⟩
  iapply wp_done
  iapply Hk
  isplitl [O]; · iexact O
  isplitl [B]; · iexact B
  isplitl [X]; · iexact X
  isplitl [W]; · iexact W
  isplitl [Q]; · iexact Q
  isplitl [K]; · iexact K
  isplitl [V]; · iexact V
  isplitl [U]; · iexact U
  isplitl [S0]; · iexact S0
  isplitl [S1]; · iexact S1
  isplitl [S2]; · iexact S2
  isplitl [S3]; · iexact S3
  isplitl [S4]; · iexact S4
  isplitl [S5]; · iexact S5
  isplitl [S6]; · iexact S6
  isplitl [S7]; · iexact S7
  iexact T

end Cert.KernelIdeal.Talk

end
-- ==== Proof.Ideal.Deal.lean ====
/-
  What the program's launch hands a device, regrouped by the chunk; the kernel's own cells opened at the body's start and closed at its end.
-/
module

public import proofs.«01_k».proof.Proof.Ideal.Body
public import Idealize.ShloMosaic.Lib.Ring

@[expose] public section

noncomputable section

namespace Cert.KernelIdeal.Talk

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.SiteBlocks (L lv Above mayWait_of)
open Idealize.ShloMosaic.TalkSites (Pay tallyL tallyL_append tallyL_pos credOf allPays launchCred_tallyL cred_tallyL)

variable {F : FTy → Type} [FloatOps F] [Named F]

open Idealize.ShloMosaic.ValueIdx (ix2 ix3 ix4 eq_ix3 eq_ix4)

local notation "𝕄" => MT nD τ sig ℕ (Elt F) ℕ UU ℕ

variable (m : Mem F)

attribute [local irreducible] Scalar.divsi Scalar.remsi Scalar.cmpi Scalar.select Scalar.extui Scalar.ori Scalar.xori

/-! ## Lists -/

/-- A chain over a list of lists. -/
theorem chain_flat {I J : Type} (l : List I) (f : I → List J) (Φ : J → sProp 𝕄) :
    bigSepL (l.flatMap f) Φ = bigSepL l fun i => bigSepL (f i) Φ := by
  induction l with
  | nil => rfl
  | cons i l ih => rw [List.flatMap_cons, bigSepL_append, bigSepL_cons', ih]

/-- A listed thing or none. -/
theorem chain_opt {J : Type} (p : Prop) [Decidable p] (l : List J) (Φ : J → sProp 𝕄) :
    bigSepL (if p then l else []) Φ = if p then bigSepL l Φ else iprop(emp) := by
  split <;> rfl

/-- The kernel's own semaphores by the chunk: the receive cell, then the send cells along the edges. -/
def byChunk : List (Fin 40) := (List.finRange 8).flatMap fun k => recvI k :: (List.finRange 4).map fun e => sendI e k

theorem own_chunks (Φ : SemLoc sig → sProp 𝕄) :
    (bigSep Finset.univ fun i : Fin 40 => Φ (osem i)) = bigSep Finset.univ fun k : Fin 8 => iprop(Φ (.dma (recvS k)) ∗ bigSepL (List.finRange 4) fun e => Φ (.dma (sendS e k))) := by
  rw [bigSep_univ_eq_bigSepL byChunk (by decide +kernel) (by decide +kernel), bigSep_univ_eq_bigSepL (List.finRange 8) (by decide) (by decide)]
  unfold byChunk
  rw [chain_flat]
  congr 1
  funext k
  rw [bigSepL_cons', bigSepL_map, osem_recv]
  simp only [osem_send]

/-! ## Opening -/

/-- The duties device d pays, as the body takes them. -/
theorem toks_deal (d : Dev nD) :
    (bigSep (fam.toks d 0) fun x => dutyTok ER x.1 x.2.1 x.2.2 : sProp 𝕄)
      ⊢ iprop((bigSepL (List.finRange 4) fun e => if isEdge d e = true then dutyTok ER (barC (tgt d e)) 0 d else iprop(emp))
          ∗ (if d = 0 then iprop(emp) else dutyTok ER (barC (par d)) 0 d)
          ∗ bigSep Finset.univ fun k : Fin 8 => bigSepL (List.finRange 4) fun e => TkPre d k e) := by
  refine BIBase.Entails.trans (Entails.of_eq ?_) sep_assoc
  rw [bigSep_eq_bigSepL_of_eq (S := fam.toks d 0) (toksL d) rfl (toksL_nodup d)]
  unfold toksL sigToks chunkToks TkPre
  rw [bigSepL_append, bigSepL_append, chain_flat, chain_flat, bigSep_univ_eq_bigSepL (List.finRange 8) (by decide) (by decide)]
  congr 1
  · congr 1
    · congr 1; funext e; rw [chain_opt]; rfl
    · by_cases h : d = 0
      · rw [if_pos h, if_pos h]; rfl
      · rw [if_neg h, if_neg h]; rfl
  · congr 1; funext k; rw [chain_flat]; congr 1; funext e; rw [chain_opt]; rfl

/-- The kernel's own cells opened. -/
theorem own_open (κ : GSem nD τ sig → ℕ) (d : Dev nD) :
    iprop(invs m κ ∗ (bigSep ownSet fun sm => openTok ER ((d : Thread nD τ), sm)) ∗ Pipeline.ownSems0 osem d)
      ⊢ (|={Set.univ}=> bigSep Finset.univ fun k : Fin 8 => iprop((atPos ER (recvC d k) 0 ∅ 0 ∗ reached ER (recvC d k) 0)
          ∗ bigSepL (List.finRange 4) fun e => iprop(atPos ER (sendC d e k) 0 ∅ 0 ∗ reached ER (sendC d e k) 0)) : sProp 𝕄) := by
  have h1 : (bigSep ownSet fun sm => openTok ER ((d : Thread nD τ), sm) : sProp 𝕄) = bigSep Finset.univ fun i : Fin 40 => openTok ER ((d : Thread nD τ), osem i) := by
    unfold ownSet; rw [bigSep_map]; rfl
  have h2 (i : Fin 40) : iprop(invs m κ ∗ (openTok ER ((d : Thread nD τ), osem i) ∗ semVal ((d : Thread nD τ), osem i) 0))
      ⊢ (|={Set.univ}=> iprop(atPos ER ((d : Thread nD τ), osem i) 0 ∅ 0 ∗ reached ER ((d : Thread nD τ), osem i) 0) : sProp 𝕄) := by
    have hi : osem i ∈ fam.dorm 0 := Finset.mem_map.mpr ⟨i, Finset.mem_univ _, rfl⟩
    iintro ⟨#HI, Ho, Hs⟩
    iapply (Rounds.cell_open ER (Rd m) (g := ((d : Thread nD τ), osem i)) (Set.mem_univ (κ ((d : Thread nD τ), osem i))))
    isplitr; · iapply (fam.cellInvs_dorm ER (Rd m) κ d (j := 0) hi); iexact HI
    isplitl [Ho] <;> iassumption
  have h3 : iprop(invs m κ ∗ (bigSep Finset.univ fun i : Fin 40 => iprop(openTok ER ((d : Thread nD τ), osem i) ∗ semVal ((d : Thread nD τ), osem i) 0)))
      ⊢ (|={Set.univ}=> bigSep Finset.univ fun i : Fin 40 => iprop(atPos ER ((d : Thread nD τ), osem i) 0 ∅ 0 ∗ reached ER ((d : Thread nD τ), osem i) 0) : sProp 𝕄) :=
    (bigSep_with_persistent (R := invs m κ) fun i _ => h2 i).trans (bigSep_fupd _ _)
  rw [h1, ← own_chunks fun sm => iprop(atPos ER ((d : Thread nD τ), sm) 0 ∅ 0 ∗ reached ER ((d : Thread nD τ), sm) 0)]
  refine BIBase.Entails.trans (Entails.of_eq ?_) h3
  unfold Pipeline.ownSems0
  rw [← bigSep_sep']

/-! ## Closing -/

/-- A cell of the kernel's at the end: at a round past its duties. -/
def Done (d : Dev nD) (sm : SemLoc sig) : sProp 𝕄 := iprop(∃ R, ⌜∀ r, R ≤ r → (Rd (F := F) m).duties ((d : Thread nD τ), sm) r = ∅⌝ ∗ atPos ER ((d : Thread nD τ), sm) R ∅ 0)

theorem all_empty {g : GSem nD τ sig} (h : (Rd (F := F) m).duties g 0 = ∅) : ∀ r, 0 ≤ r → (Rd (F := F) m).duties g r = ∅ := fun r _ => by
  rcases Nat.eq_zero_or_pos r with rfl | hr
  · exact h
  · exact duties_later m g r hr

theorem recv_done (d : Dev nD) (k : Fin 8) : (atPos ER (recvC d k) (if d = 0 then 0 else 1) ∅ 0 : sProp 𝕄) ⊢ Done m d (.dma (recvS k)) := by
  unfold Done
  by_cases h : d = 0
  · subst h; rw [if_pos rfl]
    iintro H; iexists 0; isplitr; · ipureintro; exact all_empty m (duties_recv_root m k)
    iexact H
  · rw [if_neg h]
    iintro H; iexists 1; isplitr; · ipureintro; exact duties_later m _
    iexact H
theorem send_done (d : Dev nD) (e : Fin 4) (k : Fin 8) : (atPos ER (sendC d e k) (if isEdge d e = true then 1 else 0) ∅ 0 : sProp 𝕄) ⊢ Done m d (.dma (sendS e k)) := by
  unfold Done
  by_cases h : isEdge d e = true
  · rw [if_pos h]
    iintro H; iexists 1; isplitr; · ipureintro; exact duties_later m _
    iexact H
  · rw [if_neg h]
    iintro H; iexists 0; isplitr; · ipureintro; exact all_empty m (duties_send_none m d e k h)
    iexact H

/-- The kernel's own cells closed. -/
theorem own_close (κ : GSem nD τ sig → ℕ) (d : Dev nD) :
    iprop(invs m κ ∗ bigSep Finset.univ fun k : Fin 8 => iprop(atPos ER (recvC d k) (if d = 0 then 0 else 1) ∅ 0
        ∗ bigSepL (List.finRange 4) fun e => atPos ER (sendC d e k) (if isEdge d e = true then 1 else 0) ∅ 0))
      ⊢ (|={Set.univ}=> Pipeline.ownSems0 osem d : sProp 𝕄) := by
  have h1 (k : Fin 8) : iprop(atPos ER (recvC d k) (if d = 0 then 0 else 1) ∅ 0
        ∗ bigSepL (List.finRange 4) fun e => atPos ER (sendC d e k) (if isEdge d e = true then 1 else 0) ∅ 0)
      ⊢ (iprop(Done m d (.dma (recvS k)) ∗ bigSepL (List.finRange 4) fun e => Done m d (.dma (sendS e k))) : sProp 𝕄) :=
    BIClass.sep_mono (recv_done m d k) (bigSepL_mono fun e _ => send_done m d e k)
  have h2 (i : Fin 40) : iprop(invs m κ ∗ Done m d (osem i)) ⊢ (|={Set.univ}=> semVal ((d : Thread nD τ), osem i) 0 : sProp 𝕄) := by
    have hi : osem i ∈ fam.dorm 0 := Finset.mem_map.mpr ⟨i, Finset.mem_univ _, rfl⟩
    unfold Done
    iintro ⟨#HI, %R, %hR, H⟩
    iapply (Rounds.cell_close ER (Rd m) (g := ((d : Thread nD τ), osem i)) (Set.mem_univ (κ ((d : Thread nD τ), osem i))) id hR)
    isplitr; · iapply (fam.cellInvs_dorm ER (Rd m) κ d (j := 0) hi); iexact HI
    iexact H
  have h3 : iprop(invs m κ ∗ bigSep Finset.univ fun i : Fin 40 => Done m d (osem i)) ⊢ (|={Set.univ}=> Pipeline.ownSems0 osem d : sProp 𝕄) :=
    (bigSep_with_persistent (R := invs m κ) fun i _ => h2 i).trans (bigSep_fupd _ _)
  refine BIBase.Entails.trans (sep_mono_right ?_) h3
  rw [own_chunks (Done m d)]
  exact bigSep_mono fun k _ => h1 k

/-! ## The context buffer by the chunk -/

theorem kOf_emb (k : Fin 8) (i : (slotR (offK_inb k)).shape.Idx) : kOf ((slotR (offK_inb k)).emb i) = k := by
  have hi0 : (i 0).val < 1 := (i 0).isLt
  have hi1 : (i 1).val < 1 := (i 1).isLt
  refine Fin.ext ?_
  show 4 * (k.val / 4 + 1 * (i 0).val) + (k.val % 4 + 1 * (i 1).val) = k.val
  omega
theorem chunk_kOf {k : Fin 8} {j : S2x4x256x64.Idx} (h : j ∈ chunkSet k) : kOf j = k := by
  rw [← acc_set] at h
  obtain ⟨x, -, rfl⟩ := Finset.mem_map.mp h
  exact kOf_emb k x
theorem mem_chunk (j : S2x4x256x64.Idx) : j ∈ chunkSet (kOf j) := by
  have h0 : (j 0).val < 2 := (j 0).isLt
  have h1 : (j 1).val < 4 := (j 1).isLt
  rw [← acc_set]
  refine Finset.mem_map.mpr ⟨(ix4 0 0 (j 2) (j 3) : S1x1x256x64.Idx), Finset.mem_univ _, ?_⟩
  funext a
  match a with
  | ⟨0, _⟩ => exact Fin.ext (by show (4 * (j 0).val + (j 1).val) / 4 + 1 * 0 = (j 0).val; omega)
  | ⟨1, _⟩ => exact Fin.ext (by show (4 * (j 0).val + (j 1).val) % 4 + 1 * 0 = (j 1).val; omega)
  | ⟨2, _⟩ => exact Fin.ext (by show 0 + 1 * (j 2).val = (j 2).val; omega)
  | ⟨3, _⟩ => exact Fin.ext (by show 0 + 1 * (j 3).val = (j 3).val; omega)
theorem chunk_cover : Finset.univ.biUnion chunkSet = Finset.univ :=
  Finset.eq_univ_iff_forall.mpr fun j => Finset.mem_biUnion.mpr ⟨kOf j, Finset.mem_univ _, mem_chunk j⟩
theorem chunk_disj : ∀ k k' : Fin 8, k ≠ k' → Disjoint (chunkSet k) (chunkSet k') := fun k k' h =>
  Finset.disjoint_left.mpr fun j hj hj' => h ((chunk_kOf hj).symm.trans (chunk_kOf hj'))

/-- The whole context buffer is its chunks. -/
theorem ctx_chunks (d : Dev nD) (f : Ctx F) :
    (((d : Thread nD τ).loc cc0_scratch0) ↦{fullShare} f : sProp 𝕄) = bigSep Finset.univ fun k : Fin 8 => pts d k fullShare f := by
  exact Ring.pointsTo_blocks (ℓ := (d : Thread nD τ).loc cc0_scratch0) chunkSet chunk_disj chunk_cover f

theorem slots_of (d : Dev nD) (f : Ctx F) : (((d : Thread nD τ).loc cc0_scratch0) ↦{fullShare} f : sProp 𝕄) ⊢ Slots d := by
  rw [ctx_chunks]
  unfold Slots
  have h (k : Fin 8) : (pts d k fullShare f : sProp 𝕄) ⊢ iprop(∃ f, pts d k fullShare f) := by iintro H; iexists f; iexact H
  exact bigSep_mono fun k _ => h k

end Cert.KernelIdeal.Talk

end
-- ==== Proof.Ideal.Launch.lean ====
/-
  The program's run: the two reshapes, then the kernel on every device, from a launch that deals the protocol's state;
  every argument array ends unchanged, the result array at the value the body computes, every semaphore at zero.
-/
module

public import proofs.«01_k».proof.Proof.Ideal.Deal
public import Idealize.ShloMosaic.Lib.Pipeline.TalkReads
public import Idealize.ShloMosaic.Lib.Pipeline.Value

@[expose] public section

noncomputable section

namespace Cert.KernelIdeal.Talk

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.SiteBlocks (L lv Above mayWait_of)
open Idealize.ShloMosaic.TalkSites (Pay tallyL tallyL_append tallyL_pos credOf allPays launchCred_tallyL cred_tallyL)

variable {F : FTy → Type} [FloatOps F] [Named F]

open Idealize.ShloMosaic.ValueIdx (ix2 ix3 ix4 eq_ix3 eq_ix4)

local notation "𝕄" => MT nD τ sig ℕ (Elt F) ℕ UU ℕ

variable (m : Mem F) (ρ : Dev nD → PrngReg)

/-! ## Buffers and valuations -/

def bufs : Finset (DevRef τ sig) := (StableHlo.tcRefs τ sig).filter fun b => ¬ b.isScoped

theorem unscopedBufs_held (c : Dev nD) (W : Valuation τ sig (Elt F)) :
    (unscopedBufs c (fun b => W b) : sProp 𝕄) = StableHlo.held (c : Thread nD τ) bufs W := by
  unfold unscopedBufs StableHlo.held bufs StableHlo.tcRefs
  rw [Finset.filter_map, BI.bigSep_map]
  rfl

/-- A buffer whole at contents f. -/
abbrev pl (c : Dev nD) (b : Ref sig .tc) (f : b.ty.Contents (Elt F)) : sProp 𝕄 := ((c : Thread nD τ).loc b) ↦{fullShare} f

theorem bufs_eq (c : Dev nD) (W : Valuation τ sig (Elt F)) : (StableHlo.held (c : Thread nD τ) bufs W : sProp 𝕄)
    = iprop(pl c main_arg0 (W main_arg0) ∗ pl c main_arg1 (W main_arg1) ∗ pl c main_arg2 (W main_arg2) ∗ pl c main_arg3 (W main_arg3)
      ∗ pl c main_arg4 (W main_arg4) ∗ pl c main_v1 (W main_v1) ∗ pl c main_v2 (W main_v2) ∗ pl c main_v3 (W main_v3)) := by
  unfold StableHlo.held
  rw [bigSep_eq_bigSepL_of_eq [Proc.devRef .tc main_arg0, Proc.devRef .tc main_arg1, Proc.devRef .tc main_arg2, Proc.devRef .tc main_arg3,
    Proc.devRef .tc main_arg4, Proc.devRef .tc main_v1, Proc.devRef .tc main_v2, Proc.devRef .tc main_v3] (by decide) (by decide)]
  rfl

/-- The buffers at launch, after the two reshapes, after the kernel. -/
abbrev Va (c : Dev nD) : Valuation τ sig (Elt F) := fun b => m (c, b)
abbrev Vb' (c : Dev nD) : Valuation τ sig (Elt F) := StableHlo.after Gen.hostOps0 (Va m c)
abbrev Vc (c : Dev nD) : Valuation τ sig (Elt F) := Function.update (Vb' m c) (Proc.devRef .tc main_v3) (outV m c)

theorem Vc_of_ne (c : Dev nD) (b : Ref sig .tc) (h : (Proc.devRef .tc b : DevRef τ sig) ≠ Proc.devRef .tc main_v3) : Vc m c b = Vb' m c b :=
  Function.update_of_ne h ..
theorem Vc_v3 (c : Dev nD) : Vc m c main_v3 = outV m c := Function.update_self ..

theorem unscopedSems0_eq (c : Dev nD) : (unscopedSems0 c : sProp 𝕄) = semVal (barC c) 0 := by
  unfold unscopedSems0
  rw [show (Finset.univ.filter fun sm : SemLoc sig => ¬ sm.isScoped .tc) = {SemLoc.reg barS} from by decide +kernel, BI.bigSep_singleton]

/-! ## The region's data -/

/-- What the device enters the body with beside its staged arrays. -/
def PreΦ (c : Dev nD) : sProp 𝕄 :=
  iprop((∃ κ, invs m κ) ∗ levAts (L 5) lv ∗ SigE c 0 ∗ SigE c 1 ∗ SigE c 2 ∗ SigE c 3 ∗ (SigP c ∗ Slots c ∗ bigSep Finset.univ fun k : Fin 8 => reached ER (recvC c k) 0)
    ∗ BW c False ∗ QAny c ∗ (bigSep Finset.univ fun k : Fin 8 => CPre c k) ∗ ∃ r, prngReg c r)
/-- Its position at the barrier at the end. -/
def Yk (c : Dev nD) : sProp 𝕄 := fam.barPos ER (Rd m) c 1 ∅
/-- What it leaves with. -/
def PostΦ (c : Dev nD) : sProp 𝕄 :=
  iprop(((∃ f : Buf (Elt F) ((c : Thread nD τ).loc cc0_scratch0), ((c : Thread nD τ).loc cc0_scratch0) ↦{fullShare} f) ∗ (∃ f : Buf (Elt F) ((c : Thread nD τ).loc cc0_scratch1), ((c : Thread nD τ).loc cc0_scratch1) ↦{fullShare} f))
    ∗ (∃ r, prngReg c r) ∗ Pipeline.ownSems0 osem c ∗ Yk m c)

def dat0 (c : Dev nD) : Pipeline.Dat τ (Elt F) ℕ ℕ UU ℕ cfg0 c where
  A w := Vb' m c (Pipeline.arrRef spec0 w)
  after w _ := match w with
    | ⟨0, _⟩ => Xb m c
    | ⟨1, _⟩ => Wqb m c
    | ⟨2, _⟩ => Kb m c
    | ⟨3, _⟩ => Vb m c
    | ⟨4, _⟩ => Wob m c
    | ⟨5, _⟩ => outV m c
  Φ t := if t.val = 0 then PreΦ m c else PostΦ m c
  q _ := fullShare
  owed t := if t.val = 0 then Ow c 0 else 0

abbrev adm : (p : Fin 1) → (pcfgs (F := F) p).Adm := fun p => (cfgs p).toPCfg_adm
def pdats : (p : Fin 1) → (c : Dev nD) → Pipeline.Dat τ (Elt F) ℕ ℕ UU ℕ (Pipeline.pin (pcfgs (F := F)) adm p) c
  | 0 => dat0 m

theorem before_0 (c : Dev nD) (d) : (dat0 m c).before 0 Gen.t0_0 d = Xb m c := by
  unfold Pipeline.Dat.before; rw [if_pos (by decide)]; rfl
theorem before_1 (c : Dev nD) (d) : (dat0 m c).before 1 Gen.t0_0 d = Wqb m c := by
  unfold Pipeline.Dat.before; rw [if_pos (by decide)]; rfl
theorem before_2 (c : Dev nD) (d) : (dat0 m c).before 2 Gen.t0_0 d = Kb m c := by
  unfold Pipeline.Dat.before; rw [if_pos (by decide)]; rfl
theorem before_3 (c : Dev nD) (d) : (dat0 m c).before 3 Gen.t0_0 d = Vb m c := by
  unfold Pipeline.Dat.before; rw [if_pos (by decide)]; rfl
theorem before_4 (c : Dev nD) (d) : (dat0 m c).before 4 Gen.t0_0 d = Wob m c := by
  unfold Pipeline.Dat.before; rw [if_pos (by decide)]; rfl

theorem owns_whole_eq (c : Dev nD) (b : Ref sig .tc) (X : b.ty.Contents (Elt F)) :
    (owns (Ix := ℕ) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

theorem owed_first (c : Dev nD) : (dat0 (F := F) m c).owed Gen.t0_0.castSucc = Ow c 0 := by
  show (if (Gen.t0_0.castSucc : Fin (cfg0.N + 1)).val = 0 then Ow c 0 else 0) = Ow c 0; exact if_pos rfl
theorem owed_last (c : Dev nD) : (pdats (F := F) m 0 c).owed (Fin.last _) = 0 := by
  show (if (Fin.last cfg0.N).val = 0 then Ow c 0 else 0) = 0
  rw [Fin.val_last, if_neg (by rw [show cfg0.N = 1 from Gen.N_0]; decide)]
theorem owed_zero (c : Dev nD) : (pdats (F := F) m 0 c).owed 0 = Ow c 0 := by
  show (if ((0 : Fin (cfg0.N + 1)).val = 0) then Ow c 0 else 0) = Ow c 0; exact if_pos rfl

/-- A device that owes O, in the region's terms. -/
theorem owes_in {cfg : Pipeline.Cfg sig Λ₀} {c : Dev nD} (dat : Dat τ (Elt F) ℕ ℕ UU ℕ cfg c) (t : Fin (cfg.N + 1))
    (O : CellTallies nD τ sig ℕ) (h0 : dat.owed t = O) (W : Waits sig ℕ) (hr : dat.recorded t = Set.univ) :
    (owes (c : Thread nD τ) O W : sProp 𝕄) ⊢ (dat.owesAt 0 t : sProp 𝕄) := by
  unfold Dat.owesAt Pipeline.owesWithin Dat.bound; rw [h0, hr]
  iintro HO; iexists W; isplitr; · ipureintro; exact fun _ _ => Or.inl trivial
  iexact HO
theorem owes_out {cfg : Pipeline.Cfg sig Λ₀} {c : Dev nD} (dat : Dat τ (Elt F) ℕ ℕ UU ℕ cfg c) (t : Fin (cfg.N + 1))
    (O : CellTallies nD τ sig ℕ) (h0 : dat.owed t = O) :
    (dat.owesAt 0 t : sProp 𝕄) ⊢ iprop(∃ W, owes (c : Thread nD τ) O W) := by
  unfold Dat.owesAt Pipeline.owesWithin; rw [h0]
  iintro ⟨%W, -, HO⟩; iexists W; iexact HO

/-- Before a chunk is added, the result array may hold anything. -/
theorem out_start (c : Dev nD) (f : S2x256x512.Idx → Elt F .f32) : (((c : Thread nD τ).loc cc0_stg5_0) ↦{fullShare} f : sProp 𝕄) ⊢ OutS m c 0 := by
  unfold OutS
  iintro H
  iexists f
  isplitl [H]; · iexact H
  ipureintro
  intro b k _ h
  exact absurd h (Nat.not_lt_zero _)

/-- The chunks at the end: the context buffer whole, the kernel's own cells closed. -/
theorem chunks_end (κ : GSem nD τ sig → ℕ) (c : Dev nD) :
    iprop(invs m κ ∗ SB m c 0 4 4 ∗ SB m c 1 4 4 ∗ SB m c 2 4 4 ∗ SB m c 3 4 4 ∗ SB m c 4 4 4 ∗ SB m c 5 4 4 ∗ SB m c 6 4 4 ∗ SB m c 7 4 4)
      ⊢ (|={Set.univ}=> iprop(pl c cc0_scratch0 (ctx m) ∗ Pipeline.ownSems0 osem c) : sProp 𝕄) := by
  have h8 : (iprop(SB m c 0 4 4 ∗ SB m c 1 4 4 ∗ SB m c 2 4 4 ∗ SB m c 3 4 4 ∗ SB m c 4 4 4 ∗ SB m c 5 4 4 ∗ SB m c 6 4 4 ∗ SB m c 7 4 4) : sProp 𝕄)
      ⊢ bigSep Finset.univ fun k : Fin 8 => SB m c k 4 4 := by
    rw [bigSep_univ_eq_bigSepL (List.finRange 8) (by decide) (by decide), finRange8]
    exact .rfl
  have h : (bigSep Finset.univ fun k : Fin 8 => SB m c k 4 4 : sProp 𝕄)
      ⊢ iprop((bigSep Finset.univ fun k : Fin 8 => pts c k fullShare (ctx m)) ∗ bigSep Finset.univ fun k : Fin 8 => iprop(atPos ER (recvC c k) (if c = 0 then 0 else 1) ∅ 0
        ∗ bigSepL (List.finRange 4) fun e => atPos ER (sendC c e k) (if isEdge c e = true then 1 else 0) ∅ 0)) := by
    rw [← bigSep_sep']
    exact bigSep_mono fun k _ => chunk_done m c k
  iintro ⟨#HI, HS⟩
  ihave HS := h8 $$ HS
  ihave HS := h $$ HS
  icases HS with ⟨Hp, Ha⟩
  imod (own_close m κ c) $$ [Ha] with Ho
  · isplitr; · iexact HI
    iexact Ha
  imodintro
  isplitl [Hp]
  · iapply (Entails.of_eq (ctx_chunks c (ctx m)).symm); iexact Hp
  iexact Ho

/-- The body's obligation. -/
theorem body_obligation (c : Dev nD) : BodyObligation (dat0 (F := F) m c) (defs₀ (F := F)) 𝒱₀ 0 Set.univ := fun t => by
  obtain rfl := Gen.fin_N0 t
  rw [Gen.bigSep_W0, Gen.bigSep_W0]
  simp only [owns_whole_eq]
  rw [show (dat0 m c).Φ Gen.t0_0.castSucc = PreΦ m c from rfl, show (dat0 m c).Φ Gen.t0_0.succ = PostΦ m c from rfl]
  unfold PreΦ
  iintro ⟨⟨⟨%κ, #HI⟩, #Hlev, G0, G1, G2, G3, P, B, Q, C, Hreg⟩, HO, ⟨%d0, %f0, %hf0, X⟩, ⟨%d1, %f1, %hf1, W⟩, ⟨%d2, %f2, %hf2, K⟩, ⟨%d3, %f3, %hf3, V⟩, ⟨%d4, %f4, %hf4, U⟩, ⟨%d5, %f5, %hf5, T⟩⟩
  rw [before_0] at hf0; subst hf0
  rw [before_1] at hf1; subst hf1
  rw [before_2] at hf2; subst hf2
  rw [before_3] at hf3; subst hf3
  rw [before_4] at hf4; subst hf4
  ihave O := (owes_out (dat0 m c) _ (Ow c 0) (owed_first m c)) $$ HO
  ihave T := (out_start m c f5) $$ T
  ihave O := (show (iprop(∃ W, owes (c : Thread nD τ) (Ow c 0) W) : sProp 𝕄) ⊢ OwS c 0 from .rfl) $$ O
  iapply (wp_fupd)
  iapply (wp_body m κ c) $$ [O G0 G1 G2 G3 P B X W Q K V U C T]
  · isplitr; · iexact HI
    isplitr; · iexact Hlev
    isplitl [O]; · iexact O
    isplitl [G0]; · iexact G0
    isplitl [G1]; · iexact G1
    isplitl [G2]; · iexact G2
    isplitl [G3]; · iexact G3
    isplitl [P]; · iexact P
    isplitl [B]; · iexact B
    isplitl [X]; · iexact X
    isplitl [W]; · iexact W
    isplitl [Q]; · iexact Q
    isplitl [K]; · iexact K
    isplitl [V]; · iexact V
    isplitl [U]; · iexact U
    isplitl [C]; · iexact C
    iexact T
  iintro ⟨O, B, X, W, Q, K, V, U, S0, S1, S2, S3, S4, S5, S6, S7, T⟩
  imod (chunks_end m κ c) $$ [S0 S1 S2 S3 S4 S5 S6 S7] with ⟨C, Hos⟩
  · isplitr; · iexact HI
    isplitl [S0]; · iexact S0
    isplitl [S1]; · iexact S1
    isplitl [S2]; · iexact S2
    isplitl [S3]; · iexact S3
    isplitl [S4]; · iexact S4
    isplitl [S5]; · iexact S5
    isplitl [S6]; · iexact S6
    iexact S7
  ihave T := (OutS_end m c) $$ T
  imodintro
  isplitr [O X W K V U T]
  · unfold PostΦ Yk TalkSites.Fam.barPos
    isplitl [C Q]
    · isplitl [C]; · iexists _; iexact C
      unfold QS; icases Q with ⟨%q, Q, -⟩; iexists q; iexact Q
    isplitl [Hreg]; · iexact Hreg
    isplitl [Hos]; · iexact Hos
    isplitr; · iexists κ; iexact HI
    isplitl [B]; · iexact B
    rw [BI.bigSep_empty]; iempintro
  isplitl [O]
  · unfold OwS; icases O with ⟨%Wd, O⟩
    iapply (owes_in (dat0 m c) Gen.t0_0.succ 0 (owed_last m c) Wd rfl); rw [← Ow_end c]; iexact O
  isplitl [X]
  · iexists _; isplitr; swap; (· iexact X); ipureintro; rfl
  isplitl [W]
  · iexists _; isplitr; swap; (· iexact W); ipureintro; rfl
  isplitl [K]
  · iexists _; isplitr; swap; (· iexact K); ipureintro; rfl
  isplitl [V]
  · iexists _; isplitr; swap; (· iexact V); ipureintro; rfl
  isplitl [U]
  · iexists _; isplitr; swap; (· iexact U); ipureintro; rfl
  iexists _; isplitr; swap; (· iexact T); ipureintro; rfl

/-! ## The region's entry and exit -/

/-- What a device brings to the region from the launch. -/
def Tk0 (c : Dev nD) : sProp 𝕄 := iprop(fam.launched ER (Rd m) (fun _ => Finset.univ) c ∗ Pipeline.launchCred (fun d => Ow d 0) c)
/-- The same with the kernel's own cells opened, as the body takes it. -/
def Xk (c : Dev nD) : sProp 𝕄 :=
  iprop((∃ κ, invs m κ) ∗ levAts (L 5) lv ∗ SigE c 0 ∗ SigE c 1 ∗ SigE c 2 ∗ SigE c 3 ∗ (SigP c ∗ bigSep Finset.univ fun k : Fin 8 => reached ER (recvC c k) 0)
    ∗ BW c False ∗ bigSep Finset.univ fun k : Fin 8 => CPre c k)

theorem sig_edge (c : Dev nD) (e : Fin 4) :
    iprop((bigSep Finset.univ fun n : Dev nD => reached ER (barC n) 0) ∗ (if isEdge c e = true then dutyTok ER (barC (tgt c e)) 0 c else iprop(emp))) ⊢ (SigE c e : sProp 𝕄) := by
  unfold SigE
  by_cases h : isEdge c e = true
  · rw [if_pos h, if_pos h]
    have hr : (bigSep Finset.univ fun n : Dev nD => reached ER (barC n) 0 : sProp 𝕄) ⊢ reached ER (barC (tgt c e)) 0 := bigSep_elim (Finset.mem_univ _)
    iintro ⟨Hr, Ht⟩
    isplitl [Ht]; · iexact Ht
    iapply hr; iexact Hr
  · rw [if_neg h, if_neg h]
    iintro ⟨-, H⟩; iexact H
theorem sig_parent (c : Dev nD) :
    iprop((bigSep Finset.univ fun n : Dev nD => reached ER (barC n) 0) ∗ (if c = 0 then iprop(emp) else dutyTok ER (barC (par c)) 0 c)) ⊢ (SigP c : sProp 𝕄) := by
  unfold SigP
  by_cases h : c = 0
  · rw [if_pos h, if_pos h]
    iintro ⟨-, H⟩; iexact H
  · rw [if_neg h, if_neg h]
    have hr : (bigSep Finset.univ fun n : Dev nD => reached ER (barC n) 0 : sProp 𝕄) ⊢ reached ER (barC (par c)) 0 := bigSep_elim (Finset.mem_univ _)
    iintro ⟨Hr, Ht⟩
    isplitl [Ht]; · iexact Ht
    iapply hr; iexact Hr

theorem chunk_start (c : Dev nD) (k : Fin 8) :
    (iprop(Crd c k ∗ ((atPos ER (recvC c k) 0 ∅ 0 ∗ reached ER (recvC c k) 0) ∗ bigSepL (List.finRange 4) fun e => iprop(atPos ER (sendC c e k) 0 ∅ 0 ∗ reached ER (sendC c e k) 0))
      ∗ bigSepL (List.finRange 4) fun e => TkPre c k e) : sProp 𝕄) ⊢ iprop(CPre c k ∗ reached ER (recvC c k) 0) := by
  have hL : (iprop((bigSepL (List.finRange 4) fun e => TkPre c k e) ∗ bigSepL (List.finRange 4) fun e => iprop(atPos ER (sendC c e k) 0 ∅ 0 ∗ reached ER (sendC c e k) 0)) : sProp 𝕄)
      ⊢ bigSepL (List.finRange 4) fun e => iprop(TkPre c k e ∗ atPos ER (sendC c e k) 0 ∅ 0 ∗ reached ER (sendC c e k) 0) := by
    rw [← edge_sep]
  unfold CPre
  iintro ⟨Hc, ⟨⟨Ha, #Hr⟩, Hs⟩, Ht⟩
  isplitl
  · isplitl [Hc]; · iexact Hc
    isplitl [Ha]; · iexact Ha
    iapply hL
    isplitl [Ht]; · iexact Ht
    iexact Hs
  iexact Hr

theorem hopen (c : Dev nD) : iprop(Tk0 m c ∗ Pipeline.ownSems0 osem c ∗ levAts (L 5) lv) ⊢ (|={Set.univ}=> Xk m c : sProp 𝕄) := by
  have hrides : (bigSep Finset.univ fun j : Fin 1 => fam.rides ER (Rd m) c j : sProp 𝕄) ⊢ fam.rides ER (Rd m) c 0 := bigSep_elim (Finset.mem_univ _)
  have h4 : (bigSepL (List.finRange 4) fun e => if isEdge c e = true then dutyTok ER (barC (tgt c e)) 0 c else iprop(emp) : sProp 𝕄)
      ⊢ iprop((if isEdge c 0 = true then dutyTok ER (barC (tgt c 0)) 0 c else iprop(emp)) ∗ (if isEdge c 1 = true then dutyTok ER (barC (tgt c 1)) 0 c else iprop(emp))
        ∗ (if isEdge c 2 = true then dutyTok ER (barC (tgt c 2)) 0 c else iprop(emp)) ∗ (if isEdge c 3 = true then dutyTok ER (barC (tgt c 3)) 0 c else iprop(emp))) := by
    rw [finRange4]; exact .rfl
  have hcrd : (bigSepL (List.finRange 8) fun k => if c = 0 then iprop(emp) else cred (tallyAt (recvC c k) (lvl c) NC) : sProp 𝕄)
      ⊢ bigSep Finset.univ fun k : Fin 8 => Crd c k := by
    rw [bigSep_univ_eq_bigSepL (List.finRange 8) (by decide) (by decide)]; exact .rfl
  have hch : (iprop((bigSep Finset.univ fun k : Fin 8 => Crd c k) ∗ (bigSep Finset.univ fun k : Fin 8 => iprop((atPos ER (recvC c k) 0 ∅ 0 ∗ reached ER (recvC c k) 0)
          ∗ bigSepL (List.finRange 4) fun e => iprop(atPos ER (sendC c e k) 0 ∅ 0 ∗ reached ER (sendC c e k) 0)))
        ∗ bigSep Finset.univ fun k : Fin 8 => bigSepL (List.finRange 4) fun e => TkPre c k e) : sProp 𝕄)
      ⊢ iprop((bigSep Finset.univ fun k : Fin 8 => CPre c k) ∗ bigSep Finset.univ fun k : Fin 8 => reached ER (recvC c k) 0) := by
    rw [← bigSep_sep', ← bigSep_sep', ← bigSep_sep']
    exact bigSep_mono fun k _ => chunk_start c k
  unfold Tk0 Xk TalkSites.Fam.launched TalkSites.Fam.barPos
  iintro ⟨⟨⟨⟨⟨%κ, #HI⟩, Hat, #Hr⟩, Hrides⟩, Hcr⟩, Hos, #Hlev⟩
  ihave Hrides := hrides $$ Hrides
  unfold TalkSites.Fam.rides
  icases Hrides with ⟨-, Hop, Htok⟩
  ihave Htok := (toks_deal c) $$ Htok
  icases Htok with ⟨Hsig, Hpar, Htk⟩
  ihave Hsig := h4 $$ Hsig
  icases Hsig with ⟨G0, G1, G2, G3⟩
  ihave Hcr := (launch_cred c) $$ Hcr
  icases Hcr with ⟨Hbar, Hcrd⟩
  ihave Hcrd := hcrd $$ Hcrd
  imod (own_open m κ c) $$ [Hop Hos] with Hk
  · isplitr; · iexact HI
    isplitl [Hop]; · iexact Hop
    iexact Hos
  ihave Hch := hch $$ [Hcrd Hk Htk]
  · isplitl [Hcrd]; · iexact Hcrd
    isplitl [Hk]; · iexact Hk
    iexact Htk
  icases Hch with ⟨HC, Hrr⟩
  imodintro
  isplitr; · iexists κ; iexact HI
  isplitr; · iexact Hlev
  isplitl [G0]
  · iapply (sig_edge c 0); isplitr; · iexact Hr
    iexact G0
  isplitl [G1]
  · iapply (sig_edge c 1); isplitr; · iexact Hr
    iexact G1
  isplitl [G2]
  · iapply (sig_edge c 2); isplitr; · iexact Hr
    iexact G2
  isplitl [G3]
  · iapply (sig_edge c 3); isplitr; · iexact Hr
    iexact G3
  isplitl [Hpar Hrr]
  · isplitl [Hpar]
    · iapply (sig_parent c); isplitr; · iexact Hr
      iexact Hpar
    iexact Hrr
  isplitl [Hbar Hat]
  · unfold BW; rw [if_neg not_false]
    isplitl [Hbar]; · iexact Hbar
    iexact Hat
  iexact HC

theorem hin (c : Dev nD) : iprop(Pipeline.scopedRest (Pipeline.pin (pcfgs (F := F)) adm 0).spec c ∗ (∃ r, prngReg c r) ∗ StableHlo.held (c.tc : Thread nD τ) (∅ : Finset (DevRef τ sig)) (Vb' m c) ∗ Xk m c)
    ⊢ (pdats m 0 c).Φ 0 := by
  rw [show (pdats m 0 c).Φ 0 = PreΦ m c from rfl, show Pipeline.scopedRest (Pipeline.pin (pcfgs (F := F)) adm 0).spec c = (_ : sProp 𝕄) from Gen.scopedRest0_eq c]
  unfold PreΦ Xk
  iintro ⟨⟨⟨%f, C⟩, Q⟩, Hp, -, HI, Hlev, G0, G1, G2, G3, ⟨P, Hrr⟩, B, HC⟩
  ihave C := (slots_of c f) $$ C
  isplitl [HI]; · iexact HI
  isplitl [Hlev]; · iexact Hlev
  isplitl [G0]; · iexact G0
  isplitl [G1]; · iexact G1
  isplitl [G2]; · iexact G2
  isplitl [G3]; · iexact G3
  isplitl [P C Hrr]
  · isplitl [P]; · iexact P
    isplitl [C]; · iexact C
    iexact Hrr
  isplitl [B]; · iexact B
  isplitl [Q]; · unfold QAny; iexact Q
  isplitl [HC]; · iexact HC
  iexact Hp

theorem hout (c : Dev nD) : (pdats m 0 c).Φ (Fin.last (Pipeline.pin (pcfgs (F := F)) adm 0).N)
    ⊢ iprop(Pipeline.scopedRest (Pipeline.pin (pcfgs (F := F)) adm 0).spec c ∗ (∃ r, prngReg c r) ∗ StableHlo.held (c.tc : Thread nD τ) (∅ : Finset (DevRef τ sig)) (Vc m c) ∗ Pipeline.ownSems0 osem c ∗ Yk m c) := by
  rw [show (pdats m 0 c).Φ (Fin.last _) = PostΦ m c from rfl, show Pipeline.scopedRest (Pipeline.pin (pcfgs (F := F)) adm 0).spec c = (_ : sProp 𝕄) from Gen.scopedRest0_eq c]
  unfold PostΦ
  iintro ⟨Hs, Hp, Hos, HY⟩
  isplitl [Hs]; · iexact Hs
  isplitl [Hp]; · iexact Hp
  isplitr; · unfold StableHlo.held; rw [BI.bigSep_empty]; iempintro
  isplitl [Hos]; · iexact Hos
  iexact HY

theorem pay_pos (d : Dev nD) (n : ℕ) (x : Pay nD τ sig) (h : pay? d n = some x) : (0 : ℕ) < x.2.1 := by
  have hl : ∀ d', 0 < lvl d' := fun d' => by unfold lvl; split <;> decide
  unfold pay? at h
  split at h
  · split at h
    · cases h; exact Nat.one_pos
    · cases h
  · split at h
    · split at h
      · cases h
      · cases h; exact Nat.one_pos
    · split at h
      · cases h; exact hl _
      · cases h

theorem rows_pos (d : Dev nD) (n : ℕ) (x : Pay nD τ sig) (h : x ∈ rows d n) : (0 : ℕ) < x.2.1 := by
  obtain ⟨a, -, hx⟩ := List.mem_filterMap.mp h
  exact pay_pos d a x hx

theorem cutD (c : Dev nD) (t : Fin ((Pipeline.pin (pcfgs (F := F)) adm 0).N + 1)) (g : GSem nD τ sig) (i : ℕ) (h : 0 < (pdats (F := F) m 0 c).owed t g i) :
    i ∈ L 5 g ∧ (0 : ℕ) < lv g i := by
  have e : (pdats (F := F) m 0 c).owed t = if t.val = 0 then Ow c 0 else 0 := rfl
  rw [e] at h
  split at h
  · obtain ⟨x, hx, rfl, rfl⟩ := tallyL_pos h
    obtain ⟨h1, h2, -⟩ := rows_facts c 0 x hx
    exact ⟨SiteBlocks.mem_L' h1 h2, rows_pos c 0 x hx⟩
  · exact absurd h (Nat.lt_irrefl 0)

/-! ## The result array -/

theorem flushed_eq (c : Dev nD) (t : Fin cfg0.N) :
    (dat0 m c).flushed 5 t = ((cfg0.win 5).blk t).view.read (Elt F) (outV m c) := by
  obtain rfl := Gen.fin_N0 t
  have ha : (dat0 m c).after 5 Gen.t0_0 = outV m c := rfl
  unfold Pipeline.Dat.flushed
  rw [ha]
  funext y
  show outV m c ((cfg0.win 5).xinj (cfg0.grid.coords Gen.t0_0) y) = outV m c ((win0_5.rect Gen.t0_0).emb y)
  refine congrArg (outV m c) (funext fun a => Fin.ext ?_)
  exact (Pipeline.Window.rect_emb_val_of_index_zero win0_5 Gen.t0_0 a (by revert a; decide +kernel) y).symm

theorem cover (i : S2x256x512.Idx) : ∃ t : Fin cfg0.N, (cfg0.win 5).flush t = true ∧ i ∈ ((cfg0.win 5).blk t).view.set := by
  refine ⟨Gen.t0_0, Gen.flush0_5 _, ?_⟩
  show i ∈ ((View.whole main_v3).slice (win0_5.rect Gen.t0_0)).set
  rw [View.set_slice_whole, Rect.mem_set_unit]
  have e : ∀ a : Fin 3, win0_5.index Gen.t0_0 a * win0_5.size a = 0 ∧ win0_5.xsize (grid0.coords Gen.t0_0) a = S2x256x512.size a := by decide +kernel
  intro a
  show win0_5.index Gen.t0_0 a * win0_5.size a ≤ (i a : Nat) ∧ (i a : Nat) < win0_5.index Gen.t0_0 a * win0_5.size a + win0_5.xsize (grid0.coords Gen.t0_0) a
  rw [(e a).1, (e a).2]
  have h : (i a : Nat) < S2x256x512.size a := (i a).isLt
  omega

theorem final_out (c : Dev nD) : (dat0 m c).arrAt 5 cfg0.N = outV m c :=
  (dat0 m c).arrAt_eq_of_cover 5 (outV m c) (fun t _ => flushed_eq m c t) cover

/-! ## Segments -/

local notation "ℍ" => Pipeline.HostSeg (Name := ℕ) (U := UU) (pcfgs (F := F)) defs₀ 𝒱₀ (L 5) lv
local notation "ℝ𝕊" => Pipeline.RegionSeg (pcfgs (F := F)) adm (pdats m) 0 defs₀ 𝒱₀ (L 5) lv

theorem arrs_sub : Pipeline.arrRefs (τ := τ) spec0 ⊆ bufs := by decide +kernel
abbrev Sr : Finset (DevRef τ sig) := bufs \ Pipeline.arrRefs (τ := τ) spec0

theorem ops_sub : ∀ op ∈ (Gen.hostOps0 : List (HloOp τ sig (Elt F))), op.bufs ⊆ bufs := fun op h => by
  have h1 := (List.forall_iff_forall_mem.mp Gen.hostOps0_sub) op h
  fin_cases h
  · show ({Proc.devRef .tc main_arg2, Proc.devRef .tc main_v1} : Finset (DevRef τ sig)) ⊆ bufs; decide +kernel
  · show ({Proc.devRef .tc main_arg3, Proc.devRef .tc main_v2} : Finset (DevRef τ sig)) ⊆ bufs; decide +kernel

/-- What rides beside the buffers up to the region. -/
def R (c : Dev nD) : sProp 𝕄 := iprop(Tk0 m c ∗ (∃ r, prngReg c r) ∗ ∃ W, owes (c : Thread nD τ) (Ow c 0) W)

def seg0 : ℍ := Pipeline.HostSeg.ofOps _ _ _ _ _ bufs Gen.hostOps0 ops_sub (fun op h => (List.forall_iff_forall_mem.mp Gen.hostOps0_fresh) op h) (Va m) (R m)

theorem hW (c : Dev nD) (w : Fin cfg0.W) : (dat0 m c).arrAt w cfg0.N = Vc m c (Proc.devRef .tc (Pipeline.arrRef spec0 w)) := by
  revert w
  intro w
  match w with
  | ⟨0, _⟩ => exact ((dat0 m c).arrAt_in 0 rfl _).trans (Vc_of_ne m c main_arg0 (by decide)).symm
  | ⟨1, _⟩ => exact ((dat0 m c).arrAt_in 1 rfl _).trans (Vc_of_ne m c main_arg1 (by decide)).symm
  | ⟨2, _⟩ => exact ((dat0 m c).arrAt_in 2 rfl _).trans (Vc_of_ne m c main_v1 (by decide)).symm
  | ⟨3, _⟩ => exact ((dat0 m c).arrAt_in 3 rfl _).trans (Vc_of_ne m c main_v2 (by decide)).symm
  | ⟨4, _⟩ => exact ((dat0 m c).arrAt_in 4 rfl _).trans (Vc_of_ne m c main_arg4 (by decide)).symm
  | ⟨5, _⟩ => exact (final_out m c).trans (Vc_v3 m c).symm

set_option backward.isDefEq.respectTransparency.types false in
def reg0 : ℝ𝕊 0 :=
  Pipeline.RegionSeg.ofTalk (pcfgs (F := F)) adm (pdats m) 0 defs₀ 𝒱₀ (L 5) lv 0 osem (by decide +kernel : Pipeline.OwnSemFacts spec0 osem)
    ∅ Sr (Finset.empty_subset _) Gen.launch0.toP rfl (fun c => (body_obligation m c).loose)
    (fun _ => 0) (fun c => Ow c 0) (fun c => (owed_zero m c).trans (zero_add _).symm) (owed_last m) (fun _ => rfl) (fun c => (pdats m 0 c).share_full fun _ => rfl)
    (Vb' m) (Vc m) (fun c b hb => Function.update_of_ne (fun hh => by subst hh; exact absurd hb (by decide +kernel)) _ _)
    (Tk0 m) (Yk m) (Xk m) (Yk m) (hopen m) (hin m) (hout m)
    (fun c => by iintro H; imodintro; iexact H)
    (fun _ => 0)
    ⟨fun c w s => SiteBlocks.mem_L' rfl (by decide), fun _ _ _ => le_refl _, fun c t g i h => cutD m c t g i h⟩
    (fun _ => iprop(emp))
    (fun _ _ => rfl) (fun c w => hW m c w)

theorem reg0_pre (c : Dev nD) : iprop(StableHlo.held (c : Thread nD τ) bufs (Vb' m c) ∗ R m c) ⊢ (reg0 m).pre c := by
  show _ ⊢ iprop(StableHlo.held (c.tc : Thread nD τ) (Pipeline.arrRefs (τ := τ) spec0) (Vb' m c) ∗ (∃ r, prngReg c r)
    ∗ (StableHlo.held (c.tc : Thread nD τ) Sr (Vb' m c) ∗ emp) ∗ Tk0 m c ∗ ∃ Wd, owes (c : Thread nD τ) (0 + Ow c 0) Wd)
  rw [StableHlo.held_sub_split (c.tc : Thread nD τ) arrs_sub (Vb' m c), zero_add]
  unfold R
  iintro ⟨⟨Ha, Hr⟩, HT, Hp, HO⟩
  isplitl [Ha]; · iexact Ha
  isplitl [Hp]; · iexact Hp
  isplitl [Hr]
  · isplitl [Hr]; · iexact Hr
    iempintro
  isplitl [HT]; · iexact HT
  iexact HO

theorem reg0_post (c : Dev nD) : (reg0 m).post c
    ⊢ iprop((StableHlo.held (c : Thread nD τ) bufs (Vc m c) ∗ Yk m c) ∗ ∃ W, owes (c : Thread nD τ) (0 : CellTallies nD τ sig ℕ) W) := by
  show iprop(StableHlo.held (c.tc : Thread nD τ) (Pipeline.arrRefs (τ := τ) spec0) (Vc m c) ∗ (∃ r, prngReg c r)
    ∗ (StableHlo.held (c.tc : Thread nD τ) Sr (Vc m c) ∗ emp) ∗ Yk m c ∗ ∃ Wd, owes (c : Thread nD τ) (0 : CellTallies nD τ sig ℕ) Wd) ⊢ _
  rw [StableHlo.held_sub_split (c.tc : Thread nD τ) arrs_sub (Vc m c)]
  iintro ⟨Ha, -, ⟨Hr, -⟩, HY, HO⟩
  isplitr [HO]
  · isplitr [HY]
    · isplitl [Ha]; · iexact Ha
      iexact Hr
    iexact HY
  iexact HO

def segs : List (Pipeline.Seg (pcfgs (F := F)) adm (pdats m) 0 defs₀ 𝒱₀ (L 5) lv) := [.host (seg0 m), .region (reg0 m)]

theorem main_eq (c : Dev nD) : main (F := F) c = Pipeline.Seg.run (segs m) := Gen.main_segs adm (pdats m) 0 𝒱₀ (L 5) lv (seg0 m) (reg0 m) rfl c

/-! ## The launch -/

def G : Dev nD → sProp 𝕄 := SiteBlocks.onDev 0 (BI.own (ER (launchOf fam.S fam.Sd fam.T)))
def u₀ : UU := (initOf (Pipeline.cells (Pipeline.pin (pcfgs (F := F)) adm) Gen.cellOf_inj) (Pipeline.launchToks (Pipeline.pin (pcfgs (F := F)) adm) Gen.cellOf_inj), launchOf fam.S fam.Sd fam.T)

abbrev T₀ (c : Dev nD) : sProp 𝕄 := iprop(StableHlo.held (c : Thread nD τ) bufs (Va m c) ∗ R m c)
abbrev Tₙ (c : Dev nD) : sProp 𝕄 := iprop(StableHlo.held (c : Thread nD τ) bufs (Vc m c) ∗ Yk m c)

theorem funded : SiteBlocks.Funds (ER (F := F)) (fun c => semVal (barC c) 0) (fun d => Ow d 0) (launchOf fam.S fam.Sd fam.T)
    (fun c => iprop(Pipeline.launchCred (fun d => Ow d 0) c ∗ fam.launched ER (Rd m) (fun _ => Finset.univ) c)) Set.univ := by
  have h := TalkSites.pass (fun d => Ow d 0) (fam.funds ER (Rd m) (fun _ _ => not_false) (fun _ => Finset.univ) (Es := Set.univ))
  rw [show (fun d : Dev nD => (0 : CellTallies nD τ sig ℕ) + Ow d 0) = fun d => Ow d 0 from funext fun d => zero_add _] at h
  exact h

/-- What of a device's launch holdings is not the protocol's. -/
def bundle (c : Dev nD) : sProp 𝕄 :=
  iprop(StableHlo.held (c : Thread nD τ) bufs (Va m c) ∗ owes (c : Thread nD τ) (Ow c 0) ∅ ∗ prngReg c (ρ c))

theorem init :
    iprop((bigSep Finset.univ fun c : Dev nD => iprop(unscopedBufs c (fun b => m ((c : Thread nD τ).loc b)) ∗ unscopedSems0 c
          ∗ owes (c : Thread nD τ) (Ow c 0) ∅ ∗ Pipeline.launchCred (fun d => Ow d 0) c ∗ prngReg c (ρ c) ∗ G c)) ∗ levAts (L 5) lv)
      ⊢ (|={Set.univ}=> bigSep Finset.univ (T₀ m) : sProp 𝕄) := by
  have hcore (c : Dev nD) : iprop(unscopedBufs c (fun b => m ((c : Thread nD τ).loc b)) ∗ unscopedSems0 c
        ∗ owes (c : Thread nD τ) (Ow c 0) ∅ ∗ Pipeline.launchCred (fun d => Ow d 0) c ∗ prngReg c (ρ c) ∗ G c)
      ⊢ (iprop(bundle m ρ c ∗ ((semVal (barC c) 0 ∗ Pipeline.launchCred (fun d => Ow d 0) c) ∗ G c)) : sProp 𝕄) := by
    rw [show unscopedBufs c (fun b => m ((c : Thread nD τ).loc b)) = StableHlo.held (c : Thread nD τ) bufs (Va m c) from unscopedBufs_held c (Va m c),
      unscopedSems0_eq]
    unfold bundle
    iintro ⟨Hh, Hus, HO, Hcr, Hp, HG⟩
    isplitl [Hh HO Hp]
    · isplitl [Hh]; · iexact Hh
      isplitl [HO]; · iexact HO
      iexact Hp
    isplitr [HG]
    · isplitl [Hus]; · iexact Hus
      iexact Hcr
    iexact HG
  have hjoin (c : Dev nD) : iprop(bundle m ρ c ∗ (Pipeline.launchCred (fun d => Ow d 0) c ∗ fam.launched ER (Rd m) (fun _ => Finset.univ) c)) ⊢ T₀ m c := by
    unfold bundle T₀ R Tk0
    iintro ⟨⟨Hh, HO, Hp⟩, Hc, Hl⟩
    isplitl [Hh]; · iexact Hh
    isplitl [Hc Hl]
    · isplitl [Hl]; · iexact Hl
      iexact Hc
    isplitl [Hp]; · iexists _; iexact Hp
    iexists _; iexact HO
  have hall : (bigSep Finset.univ fun c : Dev nD => iprop(unscopedBufs c (fun b => m ((c : Thread nD τ).loc b)) ∗ unscopedSems0 c
          ∗ owes (c : Thread nD τ) (Ow c 0) ∅ ∗ Pipeline.launchCred (fun d => Ow d 0) c ∗ prngReg c (ρ c) ∗ G c))
      ⊢ (bigSep Finset.univ fun c : Dev nD => iprop(bundle m ρ c ∗ ((semVal (barC c) 0 ∗ Pipeline.launchCred (fun d => Ow d 0) c) ∗ G c)) : sProp 𝕄) := bigSep_mono fun c _ => hcore c
  have hend : (iprop((bigSep Finset.univ fun c : Dev nD => bundle m ρ c) ∗ bigSep Finset.univ fun c : Dev nD => iprop(Pipeline.launchCred (fun d => Ow d 0) c ∗ fam.launched ER (Rd m) (fun _ => Finset.univ) c)) : sProp 𝕄)
      ⊢ bigSep Finset.univ (T₀ m) := by
    rw [← bigSep_sep']
    exact bigSep_mono fun c _ => hjoin c
  iintro ⟨H, -⟩
  ihave H := hall $$ H
  ihave H := (Entails.of_eq (bigSep_sep' _ _ _)) $$ H; icases H with ⟨HB, H⟩
  ihave H := (Entails.of_eq (bigSep_sep' _ _ _)) $$ H; icases H with ⟨HF, HG⟩
  ihave HG := (show bigSep Finset.univ (G (F := F)) ⊢ (BI.own (ER (launchOf fam.S fam.Sd fam.T)) : sProp 𝕄) from
    Entails.of_eq (SiteBlocks.bigSep_onDev 0 (BI.own (ER (launchOf fam.S fam.Sd fam.T)) : sProp 𝕄))) $$ HG
  imod (funded m) $$ [HF HG] with HL
  · isplitl [HF]; · iexact HF
    iexact HG
  imodintro
  iapply hend
  isplitl [HB]; · iexact HB
  iexact HL

theorem unscoped_eq : ∀ sm : SemLoc sig, sm.isScoped .tc = false → sm = .reg barS := by decide +kernel

set_option backward.isDefEq.respectTransparency.types false in
/-- The run: every execution ends, the arguments as at the start, the result at the body's value, every semaphore at zero. -/
theorem run_main : θ_run defs (onTc (τ := τ) (main (F := F))) ⟨m, fun _ => 0, ρ⟩
    (fun r => (∀ c : Dev nD, r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4)
        ∧ r.2.mem ((c.tc : Thread nD τ).loc main_v3) = outV m c) ∧ r.2.sem = fun _ => 0) :=
  Pipeline.θ_run_regions_kit_sems (pcfgs (F := F)) adm (pdats m) 0 Gen.cellOf_inj EP defs₀ 𝒱₀ (L 5) lv m ρ main (segs m)
    (fun c Q => by rw [main_eq m c])
    (by simp only [segs, Pipeline.Seg.pipes_host, Pipeline.Seg.pipes_region, Pipeline.Seg.pipes_nil]; decide)
    (O₀ := fun c => Ow c 0) (hL := SiteBlocks.hL 5) (G := G) (u₀ := u₀ (F := F))
    (hu₀ := by
      unfold u₀ G
      iintro Hu
      ihave H := (ownU_pair _ _) $$ Hu
      icases H with ⟨HP, HX⟩
      imodintro
      isplitl [HP]; · iexact HP
      rw [SiteBlocks.bigSep_onDev]; iexact HX)
    (T₀ := T₀ m) (Tₙ := Tₙ m)
    (hch := ⟨fun c => .rfl, fun c => reg0_pre m c, fun c => reg0_post m c⟩)
    (hinit := init m ρ)
    (QY := fun c s => (s.mem ((c : Thread nD τ).loc main_arg0) = Vc m c main_arg0 ∧ s.mem ((c : Thread nD τ).loc main_arg1) = Vc m c main_arg1
      ∧ s.mem ((c : Thread nD τ).loc main_arg2) = Vc m c main_arg2 ∧ s.mem ((c : Thread nD τ).loc main_arg3) = Vc m c main_arg3
      ∧ s.mem ((c : Thread nD τ).loc main_arg4) = Vc m c main_arg4 ∧ s.mem ((c : Thread nD τ).loc main_v3) = Vc m c main_v3)
      ∧ s.sem (barC c) = 0)
    (hfin := fun c s' => by
      dsimp only [Tₙ]; rw [bufs_eq]
      iintro ⟨⟨⟨H0, H1, H2, H3, H4, -, -, H5⟩, HY⟩, HSI⟩
      icombine HSI H0 gives %h0
      icombine HSI H1 gives %h1
      icombine HSI H2 gives %h2
      icombine HSI H3 gives %h3
      icombine HSI H4 gives %h4
      icombine HSI H5 gives %h5
      unfold Yk
      imod (fam.barPos_read ER (Rd m) c (duties_later m _ 1 (le_refl 1)) ∅ s') $$ [HY HSI] with ⟨%hb, HSI⟩
      · isplitl [HY]; · iexact HY
        iexact HSI
      imodintro
      isplitr
      · ipureintro
        exact ⟨⟨Buf.eq_of_forall_mem_univ h0, Buf.eq_of_forall_mem_univ h1, Buf.eq_of_forall_mem_univ h2, Buf.eq_of_forall_mem_univ h3,
          Buf.eq_of_forall_mem_univ h4, Buf.eq_of_forall_mem_univ h5⟩, hb⟩
      iexact HSI)
    (hQ := fun s h hs => ⟨fun c => by
        obtain ⟨⟨h0, h1, h2, h3, h4, h5⟩, -⟩ := h c
        exact ⟨h0.trans ((Vc_of_ne m c main_arg0 (by decide)).trans (Gen.V_main_arg0 m c)),
          h1.trans ((Vc_of_ne m c main_arg1 (by decide)).trans (Gen.V_main_arg1 m c)),
          h2.trans ((Vc_of_ne m c main_arg2 (by decide)).trans (Gen.V_main_arg2 m c)),
          h3.trans ((Vc_of_ne m c main_arg3 (by decide)).trans (Gen.V_main_arg3 m c)),
          h4.trans ((Vc_of_ne m c main_arg4 (by decide)).trans (Gen.V_main_arg4 m c)),
          h5.trans (Vc_v3 m c)⟩,
      sem_eq_zero hs fun c sm hsm => by
        obtain rfl := unscoped_eq sm hsm
        exact (h c).2⟩)

end Cert.KernelIdeal.Talk

end
-- ==== Proof.Value.KernelValue.lean ====
/-
  The kernel's values at the ideal instance, read at an index.
-/
module

public import proofs.«01_k».proof.Proof.Ideal.Values
public import proofs.«01_k».proof.Proof.Gen.KernelIdeal
public import Idealize.ShloMosaic.Lib.Pipeline.Value
public import Idealize.ShloMosaic.Lib.Claim
public import Idealize.ShloMosaic.Lib.Pointwise

@[expose] public section

set_option maxRecDepth 16384

noncomputable section

namespace Cert.Attn

open Idealize.ShloMosaic Idealize.ShloMosaic.Pointwise
open Idealize.ShloMosaic.TcCoe
open Cert.KernelIdeal Cert.KernelIdeal.Talk

/-- What the mask's scalar arithmetic makes of a coordinate's word: its block of 64. -/
theorem block_word (i : Fin 2048) :
    Scalar.select
        (IntOp.andi
          (IntOp.cmpi CmpIPredicate.ne
            (IntOp.subi (BitVec.setWidth 32 (IntOp.cmpi CmpIPredicate.sgt (BitVec.ofNat 32 i.val) 0#32))
              (BitVec.setWidth 32 (IntOp.cmpi CmpIPredicate.slt (BitVec.ofNat 32 i.val) 0#32)))
            (Scalar.subi (Scalar.extui (Scalar.cmpi CmpIPredicate.sgt 64#32 0#32))
              (Scalar.extui (Scalar.cmpi CmpIPredicate.slt 64#32 0#32))))
          (IntOp.cmpi CmpIPredicate.ne (IntOp.remsi ArithUnit.vector (BitVec.ofNat 32 i.val) 64#32) 0#32))
        (IntOp.subi (IntOp.divsi ArithUnit.vector (BitVec.ofNat 32 i.val) 64#32) 1#32)
        (IntOp.divsi ArithUnit.vector (BitVec.ofNat 32 i.val) 64#32) = BitVec.ofNat 32 (i.val / 64) := by
  revert i; decide +kernel

/-- The order of two small words is the order of their numbers. -/
theorem sle_word (a b : ℕ) (ha : a < 32) (hb : b < 32) :
    IntOp.cmpi CmpIPredicate.sle (BitVec.ofNat 32 a) (BitVec.ofNat 32 b) = BitVec.ofBool (decide (a ≤ b)) := by
  have h : ∀ a b : Fin 32, IntOp.cmpi CmpIPredicate.sle (BitVec.ofNat 32 a.val) (BitVec.ofNat 32 b.val) = BitVec.ofBool (decide (a.val ≤ b.val)) := by
    decide +kernel
  exact h ⟨a, ha⟩ ⟨b, hb⟩

theorem pay1_apply (x : Vec Ideal S1x256x512 .f32) (w : Vec Ideal S512x256 .f32) (i c : Fin 256) :
    Gen.k0_pay1 x w (ix3 0 i c) = ∑ t : Fin 512, x (ix3 0 i t) * w (ix2 t c) := by
  pointwise [Gen.k0_pay1]

theorem pay7_apply (w : Vec Ideal S256x512 .f32) (t : Fin 256) (n : Fin 512) :
    Gen.k0_pay7 w (ix2 t n) = w (ix2 t n) := by
  pointwise [Gen.k0_pay7]

theorem pay9_apply (w : FVec Ideal S256x512 .bf16) (c : Vec Ideal S1x1x256x64 .bf16) (i : Fin 256) (n : Fin 512) :
    Gen.k0_pay9 w c (ix3 0 i n) = ∑ d : Fin 64, c (ix4 0 0 i d) * w (ix2 ⟨0 + d.val, by omega⟩ n) := by
  pointwise [Gen.k0_pay9]

theorem pay11_apply (w : FVec Ideal S256x512 .bf16) (c : Vec Ideal S1x1x256x64 .bf16) (o : Vec Ideal S1x256x512 .f32) (i : Fin 256) (n : Fin 512) :
    Gen.k0_pay11 w c o (ix3 0 i n) = o (ix3 0 i n) + ∑ d : Fin 64, c (ix4 0 0 i d) * w (ix2 ⟨64 + d.val, by omega⟩ n) := by
  pointwise [Gen.k0_pay11]

theorem pay13_apply (w : FVec Ideal S256x512 .bf16) (c : Vec Ideal S1x1x256x64 .bf16) (o : Vec Ideal S1x256x512 .f32) (i : Fin 256) (n : Fin 512) :
    Gen.k0_pay13 w c o (ix3 0 i n) = o (ix3 0 i n) + ∑ d : Fin 64, c (ix4 0 0 i d) * w (ix2 ⟨128 + d.val, by omega⟩ n) := by
  pointwise [Gen.k0_pay13]

theorem pay15_apply (w : FVec Ideal S256x512 .bf16) (c : Vec Ideal S1x1x256x64 .bf16) (o : Vec Ideal S1x256x512 .f32) (i : Fin 256) (n : Fin 512) :
    Gen.k0_pay15 w c o (ix3 0 i n) = o (ix3 0 i n) + ∑ d : Fin 64, c (ix4 0 0 i d) * w (ix2 ⟨192 + d.val, by omega⟩ n) := by
  pointwise [Gen.k0_pay15]

theorem pay17_apply (w : FVec Ideal S256x512 .bf16) (c : Vec Ideal S1x1x256x64 .bf16) (i : Fin 256) (n : Fin 512) :
    Gen.k0_pay17 w c (ix3 0 i n) = ∑ d : Fin 64, c (ix4 0 0 i d) * w (ix2 ⟨0 + d.val, by omega⟩ n) := by
  pointwise [Gen.k0_pay17]

theorem pay19_apply (w : FVec Ideal S256x512 .bf16) (c : Vec Ideal S1x1x256x64 .bf16) (o : Vec Ideal S1x256x512 .f32) (i : Fin 256) (n : Fin 512) :
    Gen.k0_pay19 w c o (ix3 0 i n) = o (ix3 0 i n) + ∑ d : Fin 64, c (ix4 0 0 i d) * w (ix2 ⟨64 + d.val, by omega⟩ n) := by
  pointwise [Gen.k0_pay19]

theorem pay21_apply (w : FVec Ideal S256x512 .bf16) (c : Vec Ideal S1x1x256x64 .bf16) (o : Vec Ideal S1x256x512 .f32) (i : Fin 256) (n : Fin 512) :
    Gen.k0_pay21 w c o (ix3 0 i n) = o (ix3 0 i n) + ∑ d : Fin 64, c (ix4 0 0 i d) * w (ix2 ⟨128 + d.val, by omega⟩ n) := by
  pointwise [Gen.k0_pay21]

theorem pay23_apply (w : FVec Ideal S256x512 .bf16) (c : Vec Ideal S1x1x256x64 .bf16) (o : Vec Ideal S1x256x512 .f32) (i : Fin 256) (n : Fin 512) :
    Gen.k0_pay23 w c o (ix3 0 i n) = o (ix3 0 i n) + ∑ d : Fin 64, c (ix4 0 0 i d) * w (ix2 ⟨192 + d.val, by omega⟩ n) := by
  pointwise [Gen.k0_pay23]

theorem pay10_apply (mk : IVec S256x256 1) (q k v : Vec Ideal S1x256x64 .f32) (i : Fin 256) (d : Fin 64) :
    Gen.k0_pay10 mk q k v (ix4 0 0 i d) =
      (∑ x : Fin 256, Ideal.exp (Scalar.select (mk (ix2 i x)) ((∑ e : Fin 64, q (ix3 0 i e) * k (ix3 0 x e)) * Ideal.ofBits FTy.f32 0x3E000000#32) (⊥ : EReal))
          * v (ix3 0 x d))
        * Ideal.div 1 (∑ x : Fin 256, Ideal.exp (Scalar.select (mk (ix2 i x)) ((∑ e : Fin 64, q (ix3 0 i e) * k (ix3 0 x e)) * Ideal.ofBits FTy.f32 0x3E000000#32) (⊥ : EReal))) := by
  have hm : (Named.named κ "mask" 0xCE6E6B28#32 : Ideal .f32) = (⊥ : EReal) := rfl
  pointwise [Gen.k0_pay10]
  rw [hm]

theorem mask_apply (i j : Fin 256) : maskV (ix2 i j) = BitVec.ofBool (decide (j.val / 64 ≤ i.val / 64)) := by
  pointwise [maskV, Gen.k0_pay6, Gen.k0_pay3, Gen.k0_pay4, Gen.k0_pay5]
  have hi : i.val < 2048 := by omega
  have hj : j.val < 2048 := by omega
  rw [block_word ⟨i.val, hi⟩, block_word ⟨j.val, hj⟩, sle_word _ _ (by omega) (by omega)]

/-! ## The arrays as staged -/

variable (m : Mem Ideal)

theorem Xb_apply (d : Dev nD) (y : S2x256x512.Idx) : Xb m d y = m ((d.tc : Thread nD τ).loc main_arg0) y := by
  show Gen.V m d main_arg0 ((win0_0.rect Gen.t0_0).emb y) = _
  rw [Gen.V_main_arg0]
  refine congrArg (m ((d.tc : Thread nD τ).loc main_arg0)) (funext fun a => Fin.ext ?_)
  exact Pipeline.Window.rect_emb_val_of_index_zero win0_0 Gen.t0_0 a (by revert a; decide +kernel) y

theorem Wqb_apply (d : Dev nD) (y : S512x256.Idx) : Wqb m d y = m ((d.tc : Thread nD τ).loc main_arg1) y := by
  show Gen.V m d main_arg1 ((win0_1.rect Gen.t0_0).emb y) = _
  rw [Gen.V_main_arg1]
  refine congrArg (m ((d.tc : Thread nD τ).loc main_arg1)) (funext fun a => Fin.ext ?_)
  exact Pipeline.Window.rect_emb_val_of_index_zero win0_1 Gen.t0_0 a (by revert a; decide +kernel) y

theorem Wob_apply (d : Dev nD) (y : S256x512.Idx) : Wob m d y = m ((d.tc : Thread nD τ).loc main_arg4) y := by
  show Gen.V m d main_arg4 ((win0_4.rect Gen.t0_0).emb y) = _
  rw [Gen.V_main_arg4]
  refine congrArg (m ((d.tc : Thread nD τ).loc main_arg4)) (funext fun a => Fin.ext ?_)
  exact Pipeline.Window.rect_emb_val_of_index_zero win0_4 Gen.t0_0 a (by revert a; decide +kernel) y

/-- The keys as staged: the keys' array, its heads side by side. -/
theorem Kb_apply (d : Dev nD) (y : S2x256x256.Idx) :
    Kb m d y = shapeCast S2x256x256 (m ((d.tc : Thread nD τ).loc main_arg2)) Facts₀.shapeCasts_S2x256x4x64_S2x256x256 y := by
  show Gen.V m d main_v1 ((win0_2.rect Gen.t0_0).emb y) = _
  entry_read
  refine congrArg (shapeCast S2x256x256 (m ((d.tc : Thread nD τ).loc main_arg2)) Facts₀.shapeCasts_S2x256x4x64_S2x256x256) (funext fun a => Fin.ext ?_)
  exact Pipeline.Window.rect_emb_val_of_index_zero win0_2 Gen.t0_0 a (by revert a; decide +kernel) y

/-- The values as staged. -/
theorem Vb_apply (d : Dev nD) (y : S2x256x256.Idx) :
    Vb m d y = shapeCast S2x256x256 (m ((d.tc : Thread nD τ).loc main_arg3)) Facts₀.shapeCasts_S2x256x4x64_S2x256x256 y := by
  show Gen.V m d main_v2 ((win0_3.rect Gen.t0_0).emb y) = _
  entry_read
  refine congrArg (shapeCast S2x256x256 (m ((d.tc : Thread nD τ).loc main_arg3)) Facts₀.shapeCasts_S2x256x4x64_S2x256x256) (funext fun a => Fin.ext ?_)
  exact Pipeline.Window.rect_emb_val_of_index_zero win0_3 Gen.t0_0 a (by revert a; decide +kernel) y

/-- A head's columns of the array with its heads side by side are that head's. -/
theorem heads_apply (K : S2x256x4x64.Idx → EReal) (b : Fin 2) (j : Fin 256) (h : Fin 4) (d : Fin 64) :
    shapeCast S2x256x256 K Facts₀.shapeCasts_S2x256x4x64_S2x256x256 (ix3 b j ⟨64 * h.val + d.val, by omega⟩) = K (ix4 b j h d) := by
  pointwise

/-! ## What the kernel computes of its arguments -/

/-- The score of query i and key j in head h of batch b. -/
def score {N : ℕ} (X : S2x256x512.Idx → EReal) (Wq : S512x256.Idx → EReal) (K : (⟨4, ![2, N, 4, 64]⟩ : Shape).Idx → EReal)
    (b : Fin 2) (h : Fin 4) (i : Fin 256) (j : Fin N) : EReal :=
  (∑ e : Fin 64, (∑ t : Fin 512, X (ix3 b i t) * Wq (ix2 t ⟨64 * h.val + e.val, by omega⟩)) * K (ix4 b j h e)) * Ideal.ofBits FTy.f32 0x3E000000#32

/-- The score, −∞ where the key's block comes after the query's. -/
def masked {N : ℕ} (X : S2x256x512.Idx → EReal) (Wq : S512x256.Idx → EReal) (K : (⟨4, ![2, N, 4, 64]⟩ : Shape).Idx → EReal)
    (b : Fin 2) (h : Fin 4) (i : Fin 256) (j : Fin N) : EReal :=
  if j.val / 64 ≤ i.val / 64 then score X Wq K b h i j else ⊥

/-- The kernel's context: the weighted sum of the values, times the weights' sum inverted. -/
def kctx (X : S2x256x512.Idx → EReal) (Wq : S512x256.Idx → EReal) (K V : S2x256x4x64.Idx → EReal)
    (b : Fin 2) (h : Fin 4) (i : Fin 256) (d : Fin 64) : EReal :=
  (∑ x : Fin 256, Ideal.exp (masked X Wq K b h i x) * V (ix4 b x h d)) * Ideal.div 1 (∑ x : Fin 256, Ideal.exp (masked X Wq K b h i x))

theorem emb_hR (k : Fin 8) (i : Fin 256) (e : Fin 64) :
    (hR k).emb (ix3 0 i e) = ix3 ⟨k.val / 4, by omega⟩ i ⟨64 * (k.val % 4) + e.val, by omega⟩ := by
  funext a
  match a with
  | ⟨0, _⟩ => exact Fin.ext (by show k.val / 4 + 1 * 0 = k.val / 4; omega)
  | ⟨1, _⟩ => exact Fin.ext (by show 0 + 1 * i.val = i.val; omega)
  | ⟨2, _⟩ => exact Fin.ext (by show 64 * (k.val % 4) + 1 * e.val = 64 * (k.val % 4) + e.val; omega)

theorem emb_xR (b : Fin 2) (i : Fin 256) (t : Fin 512) : (xR b).emb (ix3 0 i t) = ix3 b i t := by
  funext a
  match a with
  | ⟨0, _⟩ => exact Fin.ext (by show b.val + 1 * 0 = b.val; omega)
  | ⟨1, _⟩ => exact Fin.ext (by show 0 + 1 * i.val = i.val; omega)
  | ⟨2, _⟩ => exact Fin.ext (by show 0 + 1 * t.val = t.val; omega)

theorem emb_wqR (t : Fin 512) (c : Fin 256) : wqR.emb (ix2 t c) = ix2 t c := by
  funext a
  match a with
  | ⟨0, _⟩ => exact Fin.ext (by show 0 + 1 * t.val = t.val; omega)
  | ⟨1, _⟩ => exact Fin.ext (by show 0 + 1 * c.val = c.val; omega)

theorem emb_woR (t : Fin 256) (n : Fin 512) : woR.emb (ix2 t n) = ix2 t n := by
  funext a
  match a with
  | ⟨0, _⟩ => exact Fin.ext (by show 0 + 1 * t.val = t.val; omega)
  | ⟨1, _⟩ => exact Fin.ext (by show 0 + 1 * n.val = n.val; omega)

abbrev aX (d : Dev nD) : S2x256x512.Idx → EReal := m ((d.tc : Thread nD τ).loc main_arg0)
abbrev aWq (d : Dev nD) : S512x256.Idx → EReal := m ((d.tc : Thread nD τ).loc main_arg1)
abbrev aK (d : Dev nD) : S2x256x4x64.Idx → EReal := m ((d.tc : Thread nD τ).loc main_arg2)
abbrev aV (d : Dev nD) : S2x256x4x64.Idx → EReal := m ((d.tc : Thread nD τ).loc main_arg3)
abbrev aWo (d : Dev nD) : S256x512.Idx → EReal := m ((d.tc : Thread nD τ).loc main_arg4)

theorem Qc_apply (b : Fin 2) (i c : Fin 256) : Qc m (ix3 b i c) = ∑ t : Fin 512, aX m 0 (ix3 b i t) * aWq m 0 (ix2 t c) := by
  show qv m b (ValueIdx.ix3 0 i c) = _
  rw [← ix3_eq_valueIdx]
  unfold qv
  rw [pay1_apply]
  refine Finset.sum_congr rfl fun t _ => ?_
  show Xb m 0 ((xR b).emb (ix3 0 i t)) * Wqb m 0 (wqR.emb (ix2 t c)) = _
  rw [emb_xR, emb_wqR, Xb_apply, Wqb_apply]

theorem select_le (p : Prop) [Decidable p] (x y : EReal) : Scalar.select (BitVec.ofBool (decide p)) x y = if p then x else y := by
  by_cases h : p <;> simp [h, Scalar.select]

theorem cv_apply (b : Fin 2) (h : Fin 4) (k : Fin 8) (hb : k.val / 4 = b.val) (hh : k.val % 4 = h.val) (i : Fin 256) (d : Fin 64) :
    cv m k (ix4 0 0 i d) = kctx (aX m 0) (aWq m 0) (aK m 0) (aV m 0) b h i d := by
  have ei : ∀ (j : Fin 256) (e : Fin 64), (hR k).emb (ix3 0 j e) = ix3 b j ⟨64 * h.val + e.val, by omega⟩ := fun j e => by
    rw [emb_hR]
    congr 1
    · exact Fin.ext hb
    · exact Fin.ext (by show 64 * (k.val % 4) + e.val = _; rw [hh])
  unfold cv
  rw [pay10_apply]
  have hs : ∀ x : Fin 256, Scalar.select (maskV (ix2 i x)) ((∑ e : Fin 64, rd (hR k) (Qc m) (ix3 0 i e) * rd (hR k) (Kb m 0) (ix3 0 x e)) * Ideal.ofBits FTy.f32 0x3E000000#32) (⊥ : EReal)
      = masked (aX m 0) (aWq m 0) (aK m 0) b h i x := fun x => by
    rw [mask_apply, select_le]
    unfold masked score
    refine if_congr Iff.rfl (congrArg (· * _) (Finset.sum_congr rfl fun e _ => ?_)) rfl
    show Qc m ((hR k).emb (ix3 0 i e)) * Kb m 0 ((hR k).emb (ix3 0 x e)) = _
    rw [ei, ei, Qc_apply, Kb_apply, heads_apply]
  have hv : ∀ x : Fin 256, rd (hR k) (Vb m 0) (ix3 0 x d) = aV m 0 (ix4 b x h d) := fun x => by
    show Vb m 0 ((hR k).emb (ix3 0 x d)) = _
    rw [ei, Vb_apply, heads_apply]
  simp only [hs, hv]
  rfl

theorem wo_apply (d : Dev nD) (t : Fin 256) (n : Fin 512) : wo m d (ix2 t n) = aWo m d (ix2 t n) := by
  show Gen.k0_pay7 (rd woR (Wob m d)) (ix2 t n) = _
  rw [pay7_apply]
  show Wob m d (woR.emb (ix2 t n)) = _
  rw [emb_woR, Wob_apply]

/-- A head's share of the output projection. -/
def share (C : Fin 2 → Fin 4 → Fin 256 → Fin 64 → EReal) (Wo : S256x512.Idx → EReal) (b : Fin 2) (i : Fin 256) (n : Fin 512) (h : Fin 4) : EReal :=
  ∑ d : Fin 64, C b h i d * Wo (ix2 ⟨64 * h.val + d.val, by omega⟩ n)

theorem outV_apply (d : Dev nD) (b : Fin 2) (i : Fin 256) (n : Fin 512) :
    outV m d (ix3 b i n) = ∑ h : Fin 4, share (kctx (aX m 0) (aWq m 0) (aK m 0) (aV m 0)) (aWo m d) b i n h := by
  have e (k : Fin 8) (b : Fin 2) (h : Fin 4) (hb : k.val / 4 = b.val) (hh : k.val % 4 = h.val) (o : ℕ) (ho : o = 64 * h.val) :
      (∑ t : Fin 64, cr m k (ix4 0 0 i t) * wo m d (ix2 ⟨o + t.val, by omega⟩ n)) = share (kctx (aX m 0) (aWq m 0) (aK m 0) (aV m 0)) (aWo m d) b i n h := by
    subst ho
    refine Finset.sum_congr rfl fun t _ => ?_
    rw [cr_eq, wo_apply, cv_apply m b h k hb hh]
  rw [Fin.sum_univ_four]
  show (if b.val = 0 then o3 m d (ValueIdx.ix3 0 i n) else o7 m d (ValueIdx.ix3 0 i n)) = _
  rw [← ix3_eq_valueIdx]
  by_cases hb : b.val = 0
  · rw [if_pos hb]
    unfold o3 o2 o1 o0
    rw [pay15_apply, pay13_apply, pay11_apply, pay9_apply, e 0 b 0 hb.symm rfl 0 rfl, e 1 b 1 hb.symm rfl 64 rfl, e 2 b 2 hb.symm rfl 128 rfl, e 3 b 3 hb.symm rfl 192 rfl]
  · rw [if_neg hb]
    have hb : 1 = b.val := by omega
    unfold o7 o6 o5 o4
    rw [pay23_apply, pay21_apply, pay19_apply, pay17_apply, e 4 b 0 hb rfl 0 rfl, e 5 b 1 hb rfl 64 rfl, e 6 b 2 hb rfl 128 rfl, e 7 b 3 hb rfl 192 rfl]

end Cert.Attn

end
-- ==== Proof.Value.Softmax.lean ====
/- The mathematics of the softmax over the extended reals: subtracting the greatest score, and the keys that are masked
   out, make no difference to the weighted sum of the values. -/
module

public import Idealize.ShloMosaic.Lib.Pointwise

@[expose] public section

noncomputable section

namespace Cert.Attn

open Idealize.ShloMosaic

/-- A nonnegative real factor distributes over a finite sum of extended reals. -/
theorem mul_sum_real {ι : Type} (S : Finset ι) (r : ℝ) (hr : 0 ≤ r) (f : ι → EReal) :
    (r : EReal) * ∑ i ∈ S, f i = ∑ i ∈ S, (r : EReal) * f i := by
  classical
  induction S using Finset.induction_on with
  | empty => simp
  | insert a S ha ih =>
    rw [Finset.sum_insert ha, Finset.sum_insert ha, EReal.left_distrib_of_nonneg_of_ne_top (by exact_mod_cast hr) (EReal.coe_ne_top r), ih]

/-- A finite sum of reals, read in the extended reals. -/
theorem coe_sum_real {ι : Type} (S : Finset ι) (f : ι → ℝ) : ((∑ i ∈ S, f i : ℝ) : EReal) = ∑ i ∈ S, (f i : EReal) := by
  classical
  induction S using Finset.induction_on with
  | empty => simp
  | insert a S ha ih => rw [Finset.sum_insert ha, Finset.sum_insert ha, EReal.coe_add, ih]

/-- The real weight of a score below +∞: its exponential, zero at −∞. -/
def wt (s : EReal) : ℝ := (Ideal.exp s).toReal

theorem exp_eq_wt {s : EReal} (h : s ≠ ⊤) : Ideal.exp s = (wt s : EReal) := by
  unfold wt
  induction s using EReal.rec with
  | bot => simp
  | coe r => simp
  | top => exact absurd rfl h

theorem wt_nonneg (s : EReal) : 0 ≤ wt s := by
  unfold wt
  induction s using EReal.rec with
  | bot => simp
  | coe r => simpa using (Real.exp_pos r).le
  | top => simp

theorem wt_coe_pos (r : ℝ) : 0 < wt (r : EReal) := by
  unfold wt; simpa using Real.exp_pos r

/-- A score less a real: the weight is scaled. -/
theorem exp_sub_coe {s : EReal} (h : s ≠ ⊤) (μ : ℝ) : Ideal.exp (s - (μ : EReal)) = ((wt s * Real.exp (-μ) : ℝ) : EReal) := by
  unfold wt
  induction s using EReal.rec with
  | bot => simp
  | coe r => rw [← EReal.coe_sub, Ideal.exp_coe, Ideal.exp_coe, EReal.toReal_coe, sub_eq_add_neg, Real.exp_add]
  | top => exact absurd rfl h

/-- The greatest of finitely many scores below +∞, one of them real, is real. -/
theorem fold_max_real {ι : Type} (S : Finset ι) (s : ι → EReal) (hs : ∀ i, s i ≠ ⊤) (a : ι) (ha : a ∈ S) (hr : s a ≠ ⊥) :
    ∃ μ : ℝ, S.fold max ⊥ s = (μ : EReal) := by
  have h1 : S.fold max ⊥ s ≠ ⊤ := by
    refine ne_of_lt ((Finset.fold_max_lt _).mpr ⟨bot_lt_top, fun i _ => lt_top_iff_ne_top.mpr (hs i)⟩)
  have h2 : S.fold max ⊥ s ≠ ⊥ := by
    have : s a ≤ S.fold max ⊥ s := (Finset.le_fold_max _).mpr (Or.inr ⟨a, ha, le_rfl⟩)
    intro h; rw [h] at this; exact hr (le_bot_iff.mp this)
  exact ⟨(S.fold max ⊥ s).toReal, (EReal.coe_toReal h1 h2).symm⟩

/-- The weighted sum of the values as the softmax with the greatest score subtracted states it, over keys of which those past
    the first `n` are masked out, is the sum over the first `n` of exponentials times values over the sum of the exponentials. -/
theorem softmax_eq {n N : ℕ} (hn : n ≤ N) (s v : Fin N → EReal) (hs : ∀ j, s j ≠ ⊤) (hm : ∀ j : Fin N, n ≤ j.val → s j = ⊥)
    (a : Fin N) (ha : s a ≠ ⊥) (M : EReal) (hM : M = Finset.univ.fold max ⊥ s) :
    ∑ j, v j * Ideal.div (Ideal.exp (s j - M)) (∑ k, Ideal.exp (s k - M))
      = (∑ j : Fin n, Ideal.exp (s (Fin.castLE hn j)) * v (Fin.castLE hn j)) * Ideal.div 1 (∑ j : Fin n, Ideal.exp (s (Fin.castLE hn j))) := by
  obtain ⟨μ, hμ⟩ := fold_max_real Finset.univ s hs a (Finset.mem_univ a) ha
  rw [hμ] at hM
  subst hM
  -- the sum over all keys of a function that vanishes where the weight does is its sum over the first n
  have cut (f : Fin N → EReal) (hf : ∀ j : Fin N, n ≤ j.val → f j = 0) : ∑ j, f j = ∑ j : Fin n, f (Fin.castLE hn j) := by
    have e : (∑ j : Fin n, f (Fin.castLE hn j)) = ∑ j ∈ Finset.univ.map (Fin.castLEEmb hn), f j := by
      rw [Finset.sum_map]; rfl
    rw [e]
    refine (Finset.sum_subset (Finset.subset_univ _) fun j _ hj => hf j ?_).symm
    by_contra hlt
    exact hj (Finset.mem_map.mpr ⟨⟨j.val, by omega⟩, Finset.mem_univ _, Fin.ext rfl⟩)
  have hwm (j : Fin N) (h : n ≤ j.val) : wt (s j) = 0 := by rw [hm j h]; simp [wt]
  set P : ℝ := ∑ k, wt (s k) with hP
  have hPpos : 0 < P := by
    refine Finset.sum_pos' (fun k _ => wt_nonneg _) ⟨a, Finset.mem_univ a, ?_⟩
    have := wt_coe_pos (s a).toReal
    rwa [EReal.coe_toReal (hs a) ha] at this
  have hZ : ∑ k, Ideal.exp (s k - (μ : EReal)) = ((P * Real.exp (-μ) : ℝ) : EReal) := by
    rw [Finset.sum_congr rfl fun k _ => exp_sub_coe (hs k) μ, ← coe_sum_real, Finset.sum_mul]
  have hZ' : ∑ j : Fin n, Ideal.exp (s (Fin.castLE hn j)) = (P : EReal) := by
    rw [Finset.sum_congr rfl fun j _ => exp_eq_wt (hs (Fin.castLE hn j)), hP, coe_sum_real]
    exact (cut (fun j => (wt (s j) : EReal)) fun j h => by rw [hwm j h]; rfl).symm
  have hw (j : Fin N) : Ideal.div (Ideal.exp (s j - (μ : EReal))) ((P * Real.exp (-μ) : ℝ) : EReal) = ((1 / P * wt (s j) : ℝ) : EReal) := by
    have hne : P * Real.exp (-μ) ≠ 0 := mul_ne_zero hPpos.ne' (Real.exp_pos _).ne'
    rw [Ideal.div_coe hne, exp_sub_coe (hs j), ← EReal.coe_mul]
    congr 1
    have := (Real.exp_pos (-μ)).ne'
    field_simp
  rw [hZ, hZ', Finset.sum_congr rfl fun j _ => by rw [hw j], Ideal.div_coe hPpos.ne', one_mul,
    cut (fun j => v j * ((1 / P * wt (s j) : ℝ) : EReal)) (fun j h => by simp [hwm j h]),
    mul_comm _ ((1 / P : ℝ) : EReal), mul_sum_real _ _ (by positivity)]
  refine Finset.sum_congr rfl fun j _ => ?_
  rw [exp_eq_wt (hs _), EReal.coe_mul, mul_comm (v _), mul_assoc]

/-- A finite sum of products of reals is real. -/
theorem sum_mul_real {ι : Type} (S : Finset ι) (f g : ι → EReal) (hf : ∀ i, ∃ r : ℝ, f i = r) (hg : ∀ i, ∃ r : ℝ, g i = r) :
    ∃ r : ℝ, ∑ i ∈ S, f i * g i = (r : EReal) := by
  choose a ha using hf
  choose b hb using hg
  refine ⟨∑ i ∈ S, a i * b i, ?_⟩
  rw [coe_sum_real]
  exact Finset.sum_congr rfl fun i _ => by rw [ha, hb, EReal.coe_mul]

/-- A sum over 256 columns is the sum over the four heads of the sums over their 64 columns. -/
theorem sum_heads (f : Fin 256 → EReal) :
    ∑ t, f t = ∑ h : Fin 4, ∑ d : Fin 64, f ⟨64 * h.val + d.val, by omega⟩ := by
  rw [← Fintype.sum_prod_type' (f := fun (h : Fin 4) (d : Fin 64) => f ⟨64 * h.val + d.val, by omega⟩)]
  refine (Fintype.sum_equiv (finProdFinEquiv (m := 4) (n := 64)) _ _ fun x => ?_).symm
  congr 1
  exact Fin.ext (by show 64 * x.1.val + x.2.val = x.2.val + 64 * x.1.val; omega)

end Cert.Attn

end
-- ==== Proof.Value.RefValue.lean ====
/-
  The reference's values at the ideal instance, stage by stage, read at an index.
-/
module

public import proofs.«01_k».proof.Proof.Gen.ReferenceIdeal.Run
public import proofs.«01_k».proof.Proof.Value.KernelValue
public import proofs.«01_k».proof.Proof.Value.Softmax
public import Idealize.ShloMosaic.Lib.Pointwise
public import Idealize.ShloMosaic.Lib.Routing.OpsOrder

@[expose] public section

set_option maxRecDepth 16384

noncomputable section

namespace Cert.Attn.Ref

open Idealize.ShloMosaic Idealize.ShloMosaic.Pointwise
open Cert.ReferenceIdeal Cert.ReferenceIdeal.Facts₀

/-- The queries' blocks of 64 rows; the keys' blocks of 64. -/
def qblk : IVec S256 32 :=
  select (andi (cmpi .ne (signi (iotaInDim S256 32 0)) (broadcastInDim S256 ![] bcast_S_S256 (signi (id (constantI S_ 32 64#32))))) (cmpi .ne (Host.remsi (iotaInDim S256 32 0) (broadcastInDim S256 ![] bcast_S_S256 (id (constantI S_ 32 64#32)))) (broadcastInDim S256 ![] bcast_S_S256 (constantI S_ 32 0#32)))) (subi (Host.divsi (iotaInDim S256 32 0) (broadcastInDim S256 ![] bcast_S_S256 (id (constantI S_ 32 64#32)))) (broadcastInDim S256 ![] bcast_S_S256 (constantI S_ 32 1#32))) (Host.divsi (iotaInDim S256 32 0) (broadcastInDim S256 ![] bcast_S_S256 (id (constantI S_ 32 64#32))))
def kblk : IVec S2048 32 :=
  select (andi (cmpi .ne (signi (iotaInDim S2048 32 0)) (broadcastInDim S2048 ![] bcast_S_S2048 (signi (id (constantI S_ 32 64#32))))) (cmpi .ne (Host.remsi (iotaInDim S2048 32 0) (broadcastInDim S2048 ![] bcast_S_S2048 (id (constantI S_ 32 64#32)))) (broadcastInDim S2048 ![] bcast_S_S2048 (constantI S_ 32 0#32)))) (subi (Host.divsi (iotaInDim S2048 32 0) (broadcastInDim S2048 ![] bcast_S_S2048 (id (constantI S_ 32 64#32)))) (broadcastInDim S2048 ![] bcast_S_S2048 (constantI S_ 32 1#32))) (Host.divsi (iotaInDim S2048 32 0) (broadcastInDim S2048 ![] bcast_S_S2048 (id (constantI S_ 32 64#32))))
/-- Which keys each query may see; which queries see any. -/
def msk : IVec S256x2048 1 :=
  cmpi .sle (broadcastInDim S256x2048 ![0, 1] bcast_S1x2048_S256x2048_0_1 (broadcastInDim S1x2048 ![1] bcast_S2048_S1x2048_1 kblk)) (broadcastInDim S256x2048 ![0, 1] bcast_S256x1_S256x2048_0_1 (broadcastInDim S256x1 ![0] bcast_S256_S256x1_0 qblk))
def keep : IVec S256 1 := Host.reduce IntOp.ori msk (constantI S_ 1 0#1) reducesTo_S256x2048_S256_d1 h_S_
/-- The scores, masked. -/
def scr (X : FVec Ideal S2x256x512 .f32) (Wq : FVec Ideal S512x256 .f32) (K : FVec Ideal S2x2048x4x64 .f32) : FVec Ideal S2x4x256x2048 .f32 :=
  select (broadcastInDim S2x4x256x2048 ![0, 1, 2, 3] bcast_S1x1x256x2048_S2x4x256x2048_0_1_2_3 (broadcastInDim S1x1x256x2048 ![2, 3] bcast_S256x2048_S1x1x256x2048_2_3 msk))
    (mulf (Host.dotGeneral dot_S2x256x4x64_S2x2048x4x64_S2x4x256x2048_3_3_1_1_02_02 none (shapeCast S2x256x4x64 (Host.dotGeneral dot_S2x256x512_S512x256_S2x256x256_2_0_01_1_n_n none X Wq) shapeCasts_S2x256x256_S2x256x4x64) K) (broadcastInDim S2x4x256x2048 ![] bcast_S_S2x4x256x2048 (constant S_ .f32 0x3E000000#32)))
    (broadcastInDim S2x4x256x2048 ![] bcast_S_S2x4x256x2048 (id (constant S_ .f32 0xFF800000#32)))
/-- The greatest score of each query. -/
def mx (s : FVec Ideal S2x4x256x2048 .f32) : FVec Ideal S2x4x256 .f32 := Host.reduce FloatOps.maximumf s (constant S_ .f32 0xFF800000#32) reducesTo_S2x4x256x2048_S2x4x256_d3 h_S_
/-- The weights before division. -/
def ex (s : FVec Ideal S2x4x256x2048 .f32) : FVec Ideal S2x4x256x2048 .f32 :=
  Host.exp (subf s (broadcastInDim S2x4x256x2048 ![0, 1, 2, 3] bcast_S2x4x256x1_S2x4x256x2048_0_1_2_3 (broadcastInDim S2x4x256x1 ![0, 1, 2] bcast_S2x4x256_S2x4x256x1_0_1_2 (mx s))))
/-- The weights' sum. -/
def sm (e : FVec Ideal S2x4x256x2048 .f32) : FVec Ideal S2x4x256x1 .f32 :=
  select (broadcastInDim S2x4x256x1 ![0, 1, 2, 3] bcast_S1x1x256x1_S2x4x256x1_0_1_2_3 (broadcastInDim S1x1x256x1 ![2] bcast_S256_S1x1x256x1_2 keep)) (broadcastInDim S2x4x256x1 ![0, 1, 2] bcast_S2x4x256_S2x4x256x1_0_1_2 (Host.reduceAdd e (constant S_ .f32 0x00000000#32) reducesTo_S2x4x256x2048_S2x4x256_d3 h_S_)) (broadcastInDim S2x4x256x1 ![] bcast_S_S2x4x256x1 (id (constant S_ .f32 0x3F800000#32)))
/-- The weights. -/
def wts (e : FVec Ideal S2x4x256x2048 .f32) : FVec Ideal S2x4x256x2048 .f32 :=
  select (broadcastInDim S2x4x256x2048 ![0, 1, 2, 3] bcast_S1x1x256x1_S2x4x256x2048_0_1_2_3 (broadcastInDim S1x1x256x1 ![2] bcast_S256_S1x1x256x1_2 keep)) (Host.divf e (broadcastInDim S2x4x256x2048 ![0, 1, 2, 3] bcast_S2x4x256x1_S2x4x256x2048_0_1_2_3 (sm e))) (broadcastInDim S2x4x256x2048 ![] bcast_S_S2x4x256x2048 (id (constant S_ .f32 0x00000000#32)))
/-- The result. -/
def out (w : FVec Ideal S2x4x256x2048 .f32) (V : FVec Ideal S2x2048x4x64 .f32) (Wo : FVec Ideal S256x512 .f32) : FVec Ideal S2x256x512 .f32 :=
  Host.dotGeneral dot_S2x256x256_S256x512_S2x256x512_2_0_01_1_n_n none (shapeCast S2x256x256 (transpose S2x256x4x64 [0, 3, 1, 2] (Host.dotGeneral dot_S2x2048x4x64_S2x4x256x2048_S2x4x64x256_1_3_3_2_02_01 none V w) transposes_S2x4x64x256_S2x256x4x64_0_3_1_2) shapeCasts_S2x256x4x64_S2x256x256) Wo

theorem res_eq (m : (ℓ : Loc nD τ sig) → Buf (Elt Ideal) ℓ) (c : Dev nD) :
    Cert.ReferenceIdeal.Value.res_main_v33 m c = out (wts (ex (scr (m ((c.tc : Thread nD τ).loc main_arg0)) (m ((c.tc : Thread nD τ).loc main_arg1)) (m ((c.tc : Thread nD τ).loc main_arg2)))))
      (m ((c.tc : Thread nD τ).loc main_arg3)) (m ((c.tc : Thread nD τ).loc main_arg4)) := rfl

/-! ## The words of the mask -/

/-- What the reference's floor division makes of a coordinate's word: its block of 64. -/
theorem floor_word (i : Fin 2048) :
    Scalar.select
        (IntOp.andi
          (IntOp.cmpi CmpIPredicate.ne
            (if BitVec.ofNat 32 i.val = 0 then (0 : BitVec 32) else if (BitVec.ofNat 32 i.val).msb = true then -1 else 1)
            (if (64#32 : BitVec 32) = 0 then 0 else if (64#32).msb = true then -1 else 1))
          (IntOp.cmpi CmpIPredicate.ne (IntOp.remsi ArithUnit.host (BitVec.ofNat 32 i.val) 64#32) 0#32))
        (IntOp.subi (IntOp.divsi ArithUnit.host (BitVec.ofNat 32 i.val) 64#32) 1#32)
        (IntOp.divsi ArithUnit.host (BitVec.ofNat 32 i.val) 64#32) = BitVec.ofNat 32 (i.val / 64) := by
  revert i; decide +kernel

theorem qblk_apply (i : Fin 256) : qblk (ix1 i) = BitVec.ofNat 32 (i.val / 64) := by
  pointwise [qblk]
  exact floor_word ⟨i.val, by omega⟩

theorem kblk_apply (i : Fin 2048) : kblk (ix1 i) = BitVec.ofNat 32 (i.val / 64) := by
  pointwise [kblk]
  exact floor_word i

theorem msk_apply (i : Fin 256) (j : Fin 2048) : msk (ix2 i j) = BitVec.ofBool (decide (j.val / 64 ≤ i.val / 64)) := by
  pointwise [msk]
  rw [kblk_apply, qblk_apply, Attn.sle_word _ _ (by omega) (by omega)]

/-- Every query may see the first key. -/
theorem keep_apply (i : Fin 256) : keep (ix1 i) = 1#1 := by
  pointwise [keep]
  refine (Routing.fold_ori _ _).2 ⟨(0 : Fin 2048), Finset.mem_univ _, ?_⟩
  rw [msk_apply, decide_eq_true (by show 0 / 64 ≤ _; omega)]
  rfl

/-- The literal of the mask and of the maximum's start is −∞. -/
theorem ofBits_neg_inf : Ideal.ofBits FTy.f32 0xFF800000#32 = (⊥ : EReal) := by
  simp [Ideal.ofBits, Ideal.ieee]

theorem scr_apply (X : FVec Ideal S2x256x512 .f32) (Wq : FVec Ideal S512x256 .f32) (K : FVec Ideal S2x2048x4x64 .f32) (b : Fin 2) (h : Fin 4) (i : Fin 256) (j : Fin 2048) :
    scr X Wq K (ix4 b h i j) = Attn.masked (N := 2048) X Wq K b h i j := by
  pointwise [scr]
  rw [msk_apply, Attn.select_le]
  unfold Attn.masked Attn.score
  refine if_congr Iff.rfl (congrArg (· * _) (Finset.sum_congr rfl fun e _ => congrArg (· * _) (Finset.sum_congr rfl fun t _ => ?_))) ofBits_neg_inf
  congr 3
  exact Fin.ext (by show h.val * 64 + e.val = 64 * h.val + e.val; omega)

theorem mx_apply (s : FVec Ideal S2x4x256x2048 .f32) (b : Fin 2) (h : Fin 4) (i : Fin 256) :
    mx s (ix3 b h i) = (Finset.univ : Finset (Fin 2048)).fold max (⊥ : EReal) (fun j => s (ix4 b h i j)) := by
  pointwise [mx]
  rw [ofBits_neg_inf]

theorem ex_apply (s : FVec Ideal S2x4x256x2048 .f32) (b : Fin 2) (h : Fin 4) (i : Fin 256) (j : Fin 2048) :
    ex s (ix4 b h i j) = Ideal.exp (s (ix4 b h i j) - mx s (ix3 b h i)) := by
  pointwise [ex]

theorem wts_apply (e : FVec Ideal S2x4x256x2048 .f32) (b : Fin 2) (h : Fin 4) (i : Fin 256) (j : Fin 2048) :
    wts e (ix4 b h i j) = Ideal.div (e (ix4 b h i j)) (∑ k : Fin 2048, e (ix4 b h i k)) := by
  pointwise [wts, sm]
  rw [keep_apply]
  rfl

theorem out_apply (w : FVec Ideal S2x4x256x2048 .f32) (V : FVec Ideal S2x2048x4x64 .f32) (Wo : FVec Ideal S256x512 .f32) (b : Fin 2) (i : Fin 256) (n : Fin 512) :
    out w V Wo (ix3 b i n) = ∑ t : Fin 256, (∑ j : Fin 2048, V (ix4 b j ⟨t.val / 64, by omega⟩ ⟨t.val % 64, by omega⟩) * w (ix4 b ⟨t.val / 64, by omega⟩ i j)) * Wo (ix2 t n) := by
  pointwise [out]

/-! ## The reference's context -/

/-- The reference's context: softmax of the masked scores over all keys, on the values. -/
def rctx (X : S2x256x512.Idx → EReal) (Wq : S512x256.Idx → EReal) (K V : S2x2048x4x64.Idx → EReal)
    (b : Fin 2) (h : Fin 4) (i : Fin 256) (d : Fin 64) : EReal :=
  ∑ j : Fin 2048, V (ix4 b j h d) *
    Ideal.div (Ideal.exp (Attn.masked (N := 2048) X Wq K b h i j - Finset.univ.fold max ⊥ fun k => Attn.masked (N := 2048) X Wq K b h i k))
      (∑ l : Fin 2048, Ideal.exp (Attn.masked (N := 2048) X Wq K b h i l - Finset.univ.fold max ⊥ fun k => Attn.masked (N := 2048) X Wq K b h i k))

/-- The reference's result at an index. -/
theorem res_apply (X : FVec Ideal S2x256x512 .f32) (Wq : FVec Ideal S512x256 .f32) (K V : FVec Ideal S2x2048x4x64 .f32) (Wo : FVec Ideal S256x512 .f32)
    (b : Fin 2) (i : Fin 256) (n : Fin 512) :
    out (wts (ex (scr X Wq K))) V Wo (ix3 b i n) = ∑ h : Fin 4, Attn.share (rctx X Wq K V) Wo b i n h := by
  rw [out_apply, Attn.sum_heads]
  refine Finset.sum_congr rfl fun h _ => Finset.sum_congr rfl fun d _ => ?_
  have e1 : (⟨(64 * h.val + d.val) / 64, by omega⟩ : Fin 4) = h := Fin.ext (by show (64 * h.val + d.val) / 64 = h.val; omega)
  have e2 : (⟨(64 * h.val + d.val) % 64, by omega⟩ : Fin 64) = d := Fin.ext (by show (64 * h.val + d.val) % 64 = d.val; omega)
  show (∑ j : Fin 2048, V (ix4 b j ⟨(64 * h.val + d.val) / 64, _⟩ ⟨(64 * h.val + d.val) % 64, _⟩) * wts (ex (scr X Wq K)) (ix4 b ⟨(64 * h.val + d.val) / 64, _⟩ i j)) * _ = _
  rw [e1, e2]
  simp only [wts_apply, ex_apply, mx_apply, scr_apply]
  rfl

end Cert.Attn.Ref

end
-- ==== Proof.Value.Finite.lean ====
/-
  The precondition read back: under it the activations, the queries' weights and the keys hold real numbers.
-/
module

public import proofs.«01_k».proof.Defs
public import proofs.«01_k».proof.Proof.Gen.Pre_finite_scores_KernelIdeal
public import Idealize.ShloMosaic.Lib.ReduceAll

@[expose] public section

noncomputable section

namespace Cert.Attn

open Idealize.ShloMosaic
open Cert.Pre_finite_scores_KernelIdeal

/-- A number whose magnitude is below +∞ is real. -/
theorem real_of_abs_lt (x : EReal) (h : Ideal.cmp .olt (max x (-x)) (Ideal.ofBits FTy.f32 0x7F800000#32) = 1#1) : ∃ r : ℝ, x = r := by
  have e : Ideal.ofBits FTy.f32 0x7F800000#32 = (⊤ : EReal) := by simp [Ideal.ofBits, Ideal.ieee]
  rw [e] at h
  induction x using EReal.rec with
  | bot => simp [Ideal.cmp] at h
  | coe r => exact ⟨r, rfl⟩
  | top => simp [Ideal.cmp] at h

instance : Subsingleton S_.Idx := ⟨fun _ _ => funext fun a => a.elim0⟩

/-- The predicate, where it holds. -/
theorem real_of_fn (X : FVec Ideal S2x256x512 .f32) (Wq : FVec Ideal S512x256 .f32) (K V : FVec Ideal S2x256x4x64 .f32) (Wo : FVec Ideal S256x512 .f32)
    (h : fn (F := Ideal) X Wq K V Wo = fun _ => 1#1) :
    (∀ y, ∃ r : ℝ, (X y : EReal) = r) ∧ (∀ y, ∃ r : ℝ, (Wq y : EReal) = r) ∧ (∀ y, ∃ r : ℝ, (K y : EReal) = r) := by
  have h0 := congrFun h (fun a => a.elim0)
  obtain ⟨h1, hK⟩ := IntOp.andi_eq_one.1 h0
  obtain ⟨hX, hW⟩ := IntOp.andi_eq_one.1 h1
  exact ⟨fun y => real_of_abs_lt _ (Host.reduce_andi_all _ _ _ _ _ hX y), fun y => real_of_abs_lt _ (Host.reduce_andi_all _ _ _ _ _ hW y),
    fun y => real_of_abs_lt _ (Host.reduce_andi_all _ _ _ _ _ hK y)⟩

end Cert.Attn

end
-- ==== Proof.Value.Equation.lean ====
/-
  The two results, index by index: the kernel's output on any device is the reference's.
-/
module

public import proofs.«01_k».proof.Proof.Value.RefValue
public import proofs.«01_k».proof.Proof.Value.Finite
public import Idealize.ShloMosaic.Lib.Layout

@[expose] public section

set_option maxRecDepth 16384

noncomputable section

namespace Cert.Attn

open Idealize.ShloMosaic Idealize.ShloMosaic.Pointwise
open Idealize.ShloMosaic.TcCoe
open Cert.KernelIdeal Cert.KernelIdeal.Talk

/-- The first block of the keys, read at an index. -/
theorem block_zero (K : (⟨4, ![2, 2048, 4, 64]⟩ : Shape).Idx → EReal) (b : Fin 2) (x : Fin 256) (h : Fin 4) (e : Fin 64) :
    Layout.block ⟨4, ![2, 256, 4, 64]⟩ ⟨4, ![2, 2048, 4, 64]⟩ 1 8 (0 : Fin 8) K (by decide) (ix4 b x h e) = K (ix4 b (Fin.castLE (by omega) x) h e) := by
  rw [Layout.block_apply]
  refine congrArg K (funext fun a => Fin.ext ?_)
  rw [Layout.Tiles.idx_val]
  match a with
  | ⟨0, _⟩ => rfl
  | ⟨1, _⟩ => show 0 * 256 + x.val = x.val; omega
  | ⟨2, _⟩ => rfl
  | ⟨3, _⟩ => rfl

/-- The literal of the scale is real. -/
theorem scale_real : ∃ r : ℝ, Ideal.ofBits FTy.f32 0x3E000000#32 = (r : EReal) := by
  refine ⟨1 / 8, ?_⟩
  simp [Ideal.ofBits, Ideal.ieee]
  rw [← EReal.coe_mul]
  norm_num

/-- A score of real numbers is real. -/
theorem score_real {N : ℕ} (X : S2x256x512.Idx → EReal) (Wq : S512x256.Idx → EReal) (K : (⟨4, ![2, N, 4, 64]⟩ : Shape).Idx → EReal)
    (hX : ∀ y, ∃ r : ℝ, X y = r) (hW : ∀ y, ∃ r : ℝ, Wq y = r) (b : Fin 2) (h : Fin 4) (i : Fin 256) (j : Fin N) (hK : ∀ e, ∃ r : ℝ, K (ix4 b j h e) = r) :
    ∃ r : ℝ, score X Wq K b h i j = r := by
  obtain ⟨p, hp⟩ := sum_mul_real Finset.univ (fun e : Fin 64 => ∑ t : Fin 512, X (ix3 b i t) * Wq (ix2 t ⟨64 * h.val + e.val, by omega⟩)) (fun e => K (ix4 b j h e))
    (fun e => sum_mul_real Finset.univ (fun t : Fin 512 => X (ix3 b i t)) (fun t => Wq (ix2 t ⟨64 * h.val + e.val, by omega⟩)) (fun _ => hX _) (fun _ => hW _)) hK
  obtain ⟨q, hq⟩ := scale_real
  refine ⟨p * q, ?_⟩
  unfold score
  rw [hp, hq, EReal.coe_mul]

/-- The contexts agree. -/
theorem ctx_eq (X : S2x256x512.Idx → EReal) (Wq : S512x256.Idx → EReal) (K V : (⟨4, ![2, 2048, 4, 64]⟩ : Shape).Idx → EReal)
    (K0 V0 : S2x256x4x64.Idx → EReal)
    (hK0 : ∀ b x h e, K0 (ix4 b x h e) = K (ix4 b (Fin.castLE (by omega) x) h e)) (hV0 : ∀ b x h e, V0 (ix4 b x h e) = V (ix4 b (Fin.castLE (by omega) x) h e))
    (hX : ∀ y, ∃ r : ℝ, X y = r) (hW : ∀ y, ∃ r : ℝ, Wq y = r) (hK : ∀ y, ∃ r : ℝ, K0 y = r)
    (b : Fin 2) (h : Fin 4) (i : Fin 256) (d : Fin 64) :
    kctx X Wq K0 V0 b h i d = Ref.rctx X Wq K V b h i d := by
  have hsc : ∀ x : Fin 256, masked X Wq K0 b h i x = masked (N := 2048) X Wq K b h i (Fin.castLE (by omega) x) := fun x => by
    unfold masked score
    refine if_congr Iff.rfl (congrArg (· * _) (Finset.sum_congr rfl fun e _ => ?_)) rfl
    rw [hK0]
  have hreal : ∀ x : Fin 256, ∃ r : ℝ, score (N := 2048) X Wq K b h i (Fin.castLE (by omega) x) = r := fun x =>
    score_real X Wq K hX hW b h i _ fun e => by rw [← hK0]; exact hK _
  have htop : ∀ j : Fin 2048, masked (N := 2048) X Wq K b h i j ≠ ⊤ := fun j => by
    unfold masked
    by_cases hj : j.val / 64 ≤ i.val / 64
    · rw [if_pos hj]
      obtain ⟨r, hr⟩ := hreal ⟨j.val, by omega⟩
      have e : (Fin.castLE (by omega) (⟨j.val, by omega⟩ : Fin 256) : Fin 2048) = j := rfl
      rw [e] at hr
      rw [hr]
      exact EReal.coe_ne_top r
    · rw [if_neg hj]
      exact bot_ne_top
  have hbot : ∀ j : Fin 2048, 256 ≤ j.val → masked (N := 2048) X Wq K b h i j = ⊥ := fun j hj => by
    unfold masked
    rw [if_neg (by omega)]
  have hfirst : masked (N := 2048) X Wq K b h i (0 : Fin 2048) ≠ ⊥ := by
    unfold masked
    rw [if_pos (by show 0 / 64 ≤ _; omega)]
    obtain ⟨r, hr⟩ := hreal 0
    have e : (Fin.castLE (by omega) (0 : Fin 256) : Fin 2048) = 0 := rfl
    rw [e] at hr
    rw [hr]
    exact EReal.coe_ne_bot r
  have key := softmax_eq (n := 256) (N := 2048) (by omega) (fun j => masked (N := 2048) X Wq K b h i j) (fun j => V (ix4 b j h d)) htop hbot 0 hfirst _ rfl
  unfold Ref.rctx kctx
  rw [key]
  simp only [hsc, hV0]

/-- The kernel's output on device c, from memories that correspond, is the reference's result. -/
theorem result_eq (m : Mem Ideal) (X : S2x256x512.Idx → EReal) (Wq : S512x256.Idx → EReal) (K V : (⟨4, ![2, 2048, 4, 64]⟩ : Shape).Idx → EReal) (Wo : S256x512.Idx → EReal)
    (hX : aX m 0 = X) (hW : aWq m 0 = Wq)
    (hK : aK m 0 = Layout.block ⟨4, ![2, 256, 4, 64]⟩ ⟨4, ![2, 2048, 4, 64]⟩ 1 8 (0 : Fin 8) K (by decide))
    (hV : aV m 0 = Layout.block ⟨4, ![2, 256, 4, 64]⟩ ⟨4, ![2, 2048, 4, 64]⟩ 1 8 (0 : Fin 8) V (by decide))
    (c : Dev nD) (hO : aWo m c = Wo)
    (rX : ∀ y, ∃ r : ℝ, aX m 0 y = r) (rW : ∀ y, ∃ r : ℝ, aWq m 0 y = r) (rK : ∀ y, ∃ r : ℝ, aK m 0 y = r) :
    outV m c = Ref.out (Ref.wts (Ref.ex (Ref.scr X Wq K))) V Wo := by
  funext y
  obtain ⟨b, i, n, rfl⟩ : ∃ (b : Fin 2) (i : Fin 256) (n : Fin 512), y = ix3 b i n := ⟨y 0, y 1, y 2, by funext a; match a with | ⟨0, _⟩ => rfl | ⟨1, _⟩ => rfl | ⟨2, _⟩ => rfl⟩
  rw [outV_apply, Ref.res_apply]
  refine Finset.sum_congr rfl fun h _ => Finset.sum_congr rfl fun d _ => ?_
  rw [hO, ctx_eq (aX m 0) (aWq m 0) K V (aK m 0) (aV m 0) (fun b x h e => by rw [hK]; exact block_zero K b x h e) (fun b x h e => by rw [hV]; exact block_zero V b x h e) rX rW rK, hX, hW]

end Cert.Attn

end
-- ==== Proof.lean ====
/- The proof of the certificate's claims: the kernel's runs at both instances (Proof/Bits and Proof/Ideal), read at the
   arguments and the counters, the reference's run, and the equation of the two results (Proof/Value). -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_finite_scores_KernelIdeal
public import proofs.«01_k».proof.Proof.Gen.Pre_finite_scores_ReferenceIdeal
public import proofs.«01_k».proof.Proof.Gen.ReferenceIdeal.Run
public import proofs.«01_k».proof.Proof.Bits.Launch
public import proofs.«01_k».proof.Proof.Ideal.Launch
public import proofs.«01_k».proof.Proof.Value.Equation
public import Idealize.ShloMosaic.Lib.StableHlo.RunHlo
public import Idealize.ShloMosaic.Adequacy
public import Idealize.ShloMosaic.Init

@[expose] public section

noncomputable section

namespace Cert.Proof

open Idealize.ShloMosaic Idealize.SL.Sem

/-- The kernel, as printed: the run's post read at the arguments and the counters. -/
theorem frame_p : Cert.quiescent_Kernel := fun m ρ _ =>
  θ_run_mono (Cert.Kernel.Talk.run_main (F := Bits) m ρ) fun _ h =>
    ⟨fun c => have hc := h.1 c; ⟨hc.1, hc.2.1, hc.2.2.1, hc.2.2.2.1, hc.2.2.2.2.1⟩, h.2⟩

/-- The idealized kernel: the same. -/
theorem frame_pi : Cert.quiescent_KernelIdeal := fun m ρ _ =>
  θ_run_mono (Cert.KernelIdeal.Talk.run_main (F := Ideal) m ρ) fun _ h =>
    ⟨fun c => have hc := h.1 c; ⟨hc.1, hc.2.1, hc.2.2.1, hc.2.2.2.1, hc.2.2.2.2.1⟩, h.2⟩

/-- The reference, which has no semaphores. -/
theorem frame_ri : Cert.quiescent_ReferenceIdeal := fun m ρ _ =>
  θ_run_mono (Cert.ReferenceIdeal.Value.run (F := Ideal) m ρ) fun r h =>
    ⟨fun c => (h c).2, sem_eq_zero_of_no_sems (by decide) r.2⟩

/-- The mask's literal is named −∞. -/
theorem preserves : Cert.preserves_Kernel_KernelIdeal :=
  IdealRules.named_const.statement Cert.KernelIdeal.κ "mask" .f32 0xCE6E6B28#32 ⊥ rfl

/-- Under the precondition, from memories that correspond, every device's result is the reference's. -/
theorem algebraic : Cert.algebraic_KernelIdeal_ReferenceIdeal_pre_finite_scores_KernelIdeal := by
  intro m ρ m' ρ' hp hm
  obtain ⟨rX, rW, rK⟩ := Cert.Attn.real_of_fn _ _ _ _ _ (hp 0)
  refine ⟨Cert.ReferenceIdeal.Value.res_main_v33 m' 0, ?_, ?_⟩
  · refine θ_run_mono (Cert.KernelIdeal.Talk.run_main (F := Ideal) m ρ) fun r h c => ?_
    have hc := h.1 c
    refine ⟨hc.2.2.2.2.2.trans ?_, hc.1, hc.2.1, hc.2.2.1, hc.2.2.2.1, hc.2.2.2.2.1⟩
    rw [Cert.Attn.Ref.res_eq]
    exact Cert.Attn.result_eq m _ _ _ _ _ (hm 0).1 (hm 0).2.1 (hm 0).2.2.1 (hm 0).2.2.2.1 c (hm c).2.2.2.2 rX rW rK
  · exact θ_run_mono (Cert.ReferenceIdeal.Value.run (F := Ideal) m' ρ') fun _ h => h 0

theorem claim : Cert.Claim :=
  ⟨Cert.Kernel.Gen.facts, Cert.KernelIdeal.Gen.facts, Cert.ReferenceIdeal.Gen.facts, Cert.Pre_finite_scores_KernelIdeal.Gen.facts,
    Cert.Pre_finite_scores_ReferenceIdeal.Gen.facts, frame_p, frame_pi, fun m ρ _ => frame_pi m ρ trivial, frame_ri, fun m ρ _ => frame_ri m ρ trivial, preserves, algebraic⟩

end Cert.Proof

end
